-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v203) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1024 : Shape := ⟨3, ![8, 2048, 1024]⟩
abbrev S1x1024 : Shape := ⟨2, ![1, 1024]⟩
abbrev S1x1024x10248 : Shape := ⟨3, ![1, 1024, 10248]⟩
abbrev S1x4 : Shape := ⟨2, ![1, 4]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  bcast_S_S1x1024 : S_.BroadcastsInDim S1x1024 (![] : Fin 0 → Fin S1x1024.rank)
  bcast_S_S1x1024x10248 : S_.BroadcastsInDim S1x1024x10248 (![] : Fin 0 → Fin S1x1024x10248.rank)
  bcast_S_S1x4 : S_.BroadcastsInDim S1x4 (![] : Fin 0 → Fin S1x4.rank)

variable [Facts]

def fn {F : FTy → Type} [FloatOps F] (main_arg0 : FVec F S8x2048x1024 .f32) (main_arg1 : FVec F S1x1024 .f32) (main_arg2 : FVec F S1x1024x10248 .f32) (main_arg3 : FVec F S1x4 .f32) (main_arg4 : FVec F S1x4 .f32) (main_arg5 : FVec F S1x1024 .f32) (main_arg6 : FVec F S1x3x1024 .f32) (main_arg7 : FVec F S1x1024x1024 .f32) (main_arg8 : FVec F S1x1024x1024 .f32) (main_arg9 : FVec F S1x1024x1024 .f32) (main_arg10 : FVec F S1024 .f32) : IVec S8x2048x1024 1 × IVec S1x1024 1 × IVec S1x1024x10248 1 × IVec S1x4 1 × IVec S1x4 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x10248 .f32 := Host.absf main_arg2
  let main_cst_1 : FVec F S_ .f32 := constant S_ .f32 0x7F800000#32
  let main_v7 : FVec F S1x1024x10248 .f32 := broadcastInDim S1x1024x10248 ![] bcast_S_S1x1024x10248 main_cst_1
  let main_v8 : IVec S1x1024x10248 1 := cmpf .olt main_v6 main_v7
  let main_v9 : FVec F S1x4 .f32 := Host.absf main_arg3
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_v12 : FVec F S1x4 .f32 := Host.absf main_arg4
  let main_cst_3 : FVec F S_ .f32 := constant S_ .f32 0x7F800000#32
  let main_v13 : FVec F S1x4 .f32 := broadcastInDim S1x4 ![] bcast_S_S1x4 main_cst_3
  let main_v14 : IVec S1x4 1 := cmpf .olt main_v12 main_v13
  (main_v2, main_v5, main_v8, main_v11, main_v14)
-- ==== Kernel.lean ====
abbrev S8x2048x1024 : Shape := ⟨3, ![8, 2048, 1024]⟩
abbrev S1x1024 : Shape := ⟨2, ![1, 1024]⟩
abbrev S1x1024x10248 : Shape := ⟨3, ![1, 1024, 10248]⟩
abbrev S1x4 : Shape := ⟨2, ![1, 4]⟩
abbrev S1x3x1024 : Shape := ⟨3, ![1, 3, 1024]⟩
abbrev S1x1024x1024 : Shape := ⟨3, ![1, 1024, 1024]⟩
abbrev S1024 : Shape := ⟨1, ![1024]⟩
abbrev S1024x10248 : Shape := ⟨2, ![1024, 10248]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x8192 : Shape := ⟨2, ![1024, 8192]⟩
abbrev S1024x1024 : Shape := ⟨2, ![1024, 1024]⟩
abbrev S1024x3072 : Shape := ⟨2, ![1024, 3072]⟩
abbrev S1x120 : Shape := ⟨2, ![1, 120]⟩
abbrev S1x128 : Shape := ⟨2, ![1, 128]⟩
abbrev S1x3072 : Shape := ⟨2, ![1, 3072]⟩
abbrev S1x8x4x256x128 : Shape := ⟨5, ![1, 8, 4, 256, 128]⟩
abbrev S1x8x4x128 : Shape := ⟨4, ![1, 8, 4, 128]⟩
abbrev S1x4x8 : Shape := ⟨3, ![1, 4, 8]⟩
abbrev S1x8x2x1024 : Shape := ⟨4, ![1, 8, 2, 1024]⟩
abbrev S1x512x1024 : Shape := ⟨3, ![1, 512, 1024]⟩
abbrev S1x1x4x256x128 : Shape := ⟨5, ![1, 1, 4, 256, 128]⟩
abbrev S1x1x4x128 : Shape := ⟨4, ![1, 1, 4, 128]⟩
abbrev S1x1x2x1024 : Shape := ⟨4, ![1, 1, 2, 1024]⟩
abbrev S512x1024 : Shape := ⟨2, ![512, 1024]⟩
abbrev S528x1024 : Shape := ⟨2, ![528, 1024]⟩
abbrev S4x128x256 : Shape := ⟨3, ![4, 128, 256]⟩
abbrev S8x128 : Shape := ⟨2, ![8, 128]⟩
abbrev S1x8 : Shape := ⟨2, ![1, 8]⟩
abbrev S8x1024 : Shape := ⟨2, ![8, 1024]⟩
abbrev S512 : Shape := ⟨1, ![512]⟩
abbrev S512x1 : Shape := ⟨2, ![512, 1]⟩
abbrev S512x128 : Shape := ⟨2, ![512, 128]⟩
abbrev S512x2048 : Shape := ⟨2, ![512, 2048]⟩
abbrev S256x128 : Shape := ⟨2, ![256, 128]⟩
abbrev S256x256 : Shape := ⟨2, ![256, 256]⟩
abbrev S128x256 : Shape := ⟨2, ![128, 256]⟩
abbrev S1024x256 : Shape := ⟨2, ![1024, 256]⟩
abbrev S512x256 : Shape := ⟨2, ![512, 256]⟩
abbrev S1x128x256 : Shape := ⟨3, ![1, 128, 256]⟩
abbrev S1x1x1x128 : Shape := ⟨4, ![1, 1, 1, 128]⟩
abbrev S1x1 : Shape := ⟨2, ![1, 1]⟩
abbrev S256x1 : Shape := ⟨2, ![256, 1]⟩
abbrev S1x256 : Shape := ⟨2, ![1, 256]⟩
abbrev S256 : Shape := ⟨1, ![256]⟩
abbrev S1 : Shape := ⟨1, ![1]⟩
abbrev S128 : Shape := ⟨1, ![128]⟩
abbrev S1x1x8 : Shape := ⟨3, ![1, 1, 8]⟩
abbrev S2x1024 : Shape := ⟨2, ![2, 1024]⟩
abbrev S1x1x1x256x128 : Shape := ⟨5, ![1, 1, 1, 256, 128]⟩

abbrev nBuf : Space → Nat
  | .hbm => 40
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x10248, .f32⟩
  | .hbm, ⟨3, _⟩ => ⟨S1x4, .f32⟩
  | .hbm, ⟨4, _⟩ => ⟨S1x4, .f32⟩
  | .hbm, ⟨5, _⟩ => ⟨S1x1024, .f32⟩
  | .hbm, ⟨6, _⟩ => ⟨S1x3x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S1024x10248, .f32⟩
  | .hbm, ⟨12, _⟩ => ⟨S1024x2048, .f32⟩
  | .hbm, ⟨13, _⟩ => ⟨S1024x2048, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x8192, .f32⟩
  | .hbm, ⟨20, _⟩ => ⟨S1024x8192, .bf16⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x3072, .f32⟩
  | .hbm, ⟨25, _⟩ => ⟨S1024x3072, .bf16⟩
  | .hbm, ⟨26, _⟩ => ⟨S_, .f32⟩
  | .hbm, ⟨27, _⟩ => ⟨S1x120, .f32⟩
  | .hbm, ⟨28, _⟩ => ⟨S1x128, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x3072, .f32⟩
  | .hbm, ⟨34, _⟩ => ⟨S1x1024, .f32⟩
  | .hbm, ⟨35, _⟩ => ⟨S8x2048x1024, .f32⟩
  | .hbm, ⟨36, _⟩ => ⟨S1x8x4x256x128, .f32⟩
  | .hbm, ⟨37, _⟩ => ⟨S1x8x4x128, .f32⟩
  | .hbm, ⟨38, _⟩ => ⟨S1x4x8, .f32⟩
  | .hbm, ⟨39, _⟩ => ⟨S1x8x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1024x128, .bf16⟩
  | .local _ .vmem, ⟨4, _⟩ => ⟨S1024x8192, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x128, .f32⟩
  | .local _ .vmem, ⟨10, _⟩ => ⟨S1x1024, .f32⟩
  | .local _ .vmem, ⟨11, _⟩ => ⟨S1x3072, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x4x256x128, .f32⟩
  | .local _ .vmem, ⟨16, _⟩ => ⟨S1x1x4x256x128, .f32⟩
  | .local _ .vmem, ⟨17, _⟩ => ⟨S1x1x4x128, .f32⟩
  | .local _ .vmem, ⟨18, _⟩ => ⟨S1x1x4x128, .f32⟩
  | .local _ .vmem, ⟨19, _⟩ => ⟨S1x4x8, .f32⟩
  | .local _ .vmem, ⟨20, _⟩ => ⟨S1x1x2x1024, .f32⟩
  | .local _ .vmem, ⟨21, _⟩ => ⟨S1x1x2x1024, .f32⟩
  | .local _ .vmem, ⟨22, _⟩ => ⟨S512x1024, .bf16⟩
  | .local _ .vmem, ⟨23, _⟩ => ⟨S528x1024, .f32⟩
  | .local _ .vmem, ⟨24, _⟩ => ⟨S4x128x256, .f32⟩
  | .local _ .vmem, ⟨25, _⟩ => ⟨S8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x4x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x2x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S1x1024 : Shape := ⟨2, ![1, 1024]⟩
abbrev S1x1024x10248 : Shape := ⟨3, ![1, 1024, 10248]⟩
abbrev S1x4 : Shape := ⟨2, ![1, 4]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x10248 : Shape := ⟨2, ![1024, 10248]⟩
abbrev S8x2048x10248 : Shape := ⟨3, ![8, 2048, 10248]⟩
abbrev S8x2048x512 : Shape := ⟨3, ![8, 2048, 512]⟩
abbrev S8x2048x4 : Shape := ⟨3, ![8, 2048, 4]⟩
abbrev S8x2048x4x128 : Shape := ⟨4, ![8, 2048, 4, 128]⟩
abbrev S8x2048x4x256 : Shape := ⟨4, ![8, 2048, 4, 256]⟩
abbrev S4 : Shape := ⟨1, ![4]⟩
abbrev S1x1x4 : Shape := ⟨3, ![1, 1, 4]⟩
abbrev S8x4x2048x128 : Shape := ⟨4, ![8, 4, 2048, 128]⟩
abbrev S8x4x2048x256 : Shape := ⟨4, ![8, 4, 2048, 256]⟩
abbrev S8x4x2048 : Shape := ⟨3, ![8, 4, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x1x2048 : Shape := ⟨4, ![8, 4, 1, 2048]⟩
abbrev S8x4x2048x2048 : Shape := ⟨4, ![8, 4, 2048, 2048]⟩
abbrev S8x4 : Shape := ⟨2, ![8, 4]⟩
abbrev S8x4x1 : Shape := ⟨3, ![8, 4, 1]⟩
abbrev S8x4x2048x1 : Shape := ⟨4, ![8, 4, 2048, 1]⟩
abbrev S8x4x256x128 : Shape := ⟨4, ![8, 4, 256, 128]⟩
abbrev S8x4x128 : Shape := ⟨3, ![8, 4, 128]⟩
abbrev S1x8x4x256x128 : Shape := ⟨5, ![1, 8, 4, 256, 128]⟩
abbrev S1x8x4x128 : Shape := ⟨4, ![1, 8, 4, 128]⟩
abbrev S4x8 : Shape := ⟨2, ![4, 8]⟩
abbrev S1x4x8 : Shape := ⟨3, ![1, 4, 8]⟩
abbrev S8x2048x4x1 : Shape := ⟨4, ![8, 2048, 4, 1]⟩
abbrev S1024x1024 : Shape := ⟨2, ![1024, 1024]⟩
abbrev S3x1024 : Shape := ⟨2, ![3, 1024]⟩
abbrev S8x2x1024 : Shape := ⟨3, ![8, 2, 1024]⟩
abbrev S8x2050x1024 : Shape := ⟨3, ![8, 2050, 1024]⟩
abbrev S1x8x2x1024 : Shape := ⟨4, ![1, 8, 2, 1024]⟩

abbrev nBuf : Space → Nat
  | .hbm => 283
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x10248, .f32⟩
  | 3 => ⟨S1x4, .f32⟩
  | 4 => ⟨S1x4, .f32⟩
  | 5 => ⟨S1x1024, .f32⟩
  | 6 => ⟨S1x3x1024, .f32⟩
  | 7 => ⟨S1x1024x1024, .f32⟩
  | 8 => ⟨S1x1024x1024, .f32⟩
  | 9 => ⟨S1x1024x1024, .f32⟩
  | 10 => ⟨S1024, .f32⟩
  | 11 => ⟨S1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S1024x10248, .f32⟩
  | 29 => ⟨S8x2048x10248, .f32⟩
  | 30 => ⟨S8x2048x512, .f32⟩
  | 31 => ⟨S8x2048x512, .f32⟩
  | 32 => ⟨S8x2048x1024, .f32⟩
  | 33 => ⟨S8x2048x4, .f32⟩
  | 34 => ⟨S8x2048x4, .f32⟩
  | 35 => ⟨S8x2048x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x4x128, .f32⟩
  | 44 => ⟨S_, .f32⟩
  | 45 => ⟨S8x2048x4x128, .f32⟩
  | 46 => ⟨S8x2048x4x128, .f32⟩
  | 47 => ⟨S8x2048x4x256, .f32⟩
  | 48 => ⟨S4, .f32⟩
  | 49 => ⟨S1x1x4, .f32⟩
  | 50 => ⟨S8x2048x4, .f32⟩
  | 51 => ⟨S8x2048x4, .f32⟩
  | 52 => ⟨S4, .f32⟩
  | 53 => ⟨S1x1x4, .f32⟩
  | 54 => ⟨S8x2048x4, .f32⟩
  | 55 => ⟨S8x2048x4, .f32⟩
  | 56 => ⟨S8x2048x4, .f32⟩
  | 57 => ⟨S_, .f32⟩
  | 58 => ⟨S8x2048x4, .f32⟩
  | 59 => ⟨S8x2048x4, .f32⟩
  | 60 => ⟨S8x2048x4, .f32⟩
  | 61 => ⟨S8x2048x4, .f32⟩
  | 62 => ⟨S8x2048x4, .i1⟩
  | 63 => ⟨S8x2048x4, .f32⟩
  | 64 => ⟨S8x2048x4, .f32⟩
  | 65 => ⟨S8x2048x4, .f32⟩
  | 66 => ⟨S8x2048x4, .f32⟩
  | 67 => ⟨S8x2048x4, .f32⟩
  | 68 => ⟨S8x2048x4, .f32⟩
  | 69 => ⟨S8x2048x4, .f32⟩
  | 70 => ⟨S8x2048x4, .f32⟩
  | 71 => ⟨S8x2048x4, .f32⟩
  | 72 => ⟨S8x4x2048x128, .f32⟩
  | 73 => ⟨S8x4x2048x256, .f32⟩
  | 74 => ⟨S8x4x2048, .f32⟩
  | 75 => ⟨S8x4x2048, .f32⟩
  | 76 => ⟨S2048, .i32⟩
  | 77 => ⟨S1x2048, .i32⟩
  | 78 => ⟨S2048, .i32⟩
  | 79 => ⟨S2048x1, .i32⟩
  | 80 => ⟨S2048x2048, .i32⟩
  | 81 => ⟨S2048x2048, .i32⟩
  | 82 => ⟨S2048x2048, .i1⟩
  | 83 => ⟨S8x4x1x2048, .f32⟩
  | 84 => ⟨S_, .f32⟩
  | 85 => ⟨S_, .f32⟩
  | 86 => ⟨S8x4x2048x2048, .i1⟩
  | 87 => ⟨S8x4x2048x2048, .f32⟩
  | 88 => ⟨S8x4x2048x2048, .f32⟩
  | 89 => ⟨S8x4x2048x2048, .f32⟩
  | 90 => ⟨S_, .f32⟩
  | 91 => ⟨S8x4x2048, .f32⟩
  | 92 => ⟨S8x4x2048, .f32⟩
  | 93 => ⟨S_, .f32⟩
  | 94 => ⟨S8x4, .f32⟩
  | 95 => ⟨S_, .f32⟩
  | 96 => ⟨S8x4, .f32⟩
  | 97 => ⟨S8x4, .f32⟩
  | 98 => ⟨S8x4x1, .f32⟩
  | 99 => ⟨S8x4x2048, .f32⟩
  | 100 => ⟨S8x4x2048, .f32⟩
  | 101 => ⟨S8x4x2048, .f32⟩
  | 102 => ⟨S8x4x2048x1, .f32⟩
  | 103 => ⟨S8x4x2048x256, .f32⟩
  | 104 => ⟨S8x4x2048x256, .f32⟩
  | 105 => ⟨S8x4x256x128, .f32⟩
  | 106 => ⟨S8x4x128, .f32⟩
  | 107 => ⟨S1x8x4x256x128, .f32⟩
  | 108 => ⟨S1x8x4x128, .f32⟩
  | 109 => ⟨S4x8, .f32⟩
  | 110 => ⟨S1x4x8, .f32⟩
  | 111 => ⟨S8x2048x4x128, .f32⟩
  | 112 => ⟨S8x4x2048x128, .f32⟩
  | 113 => ⟨S8x4x2048x128, .f32⟩
  | 114 => ⟨S8x4x2048x256, .f32⟩
  | 115 => ⟨S8x4x2048, .f32⟩
  | 116 => ⟨S8x4x2048, .f32⟩
  | 117 => ⟨S2048, .i32⟩
  | 118 => ⟨S1x2048, .i32⟩
  | 119 => ⟨S2048, .i32⟩
  | 120 => ⟨S2048x1, .i32⟩
  | 121 => ⟨S2048x2048, .i32⟩
  | 122 => ⟨S2048x2048, .i32⟩
  | 123 => ⟨S2048x2048, .i1⟩
  | 124 => ⟨S8x4x1x2048, .f32⟩
  | 125 => ⟨S_, .f32⟩
  | 126 => ⟨S_, .f32⟩
  | 127 => ⟨S8x4x2048x2048, .i1⟩
  | _ => ⟨S8x2048x1024, .f32⟩

abbrev hbmTy0_1 (i : Nat) : BufTy := match i % 128 with
  | 0 => ⟨S8x4x2048x2048, .f32⟩
  | 1 => ⟨S8x4x2048x2048, .f32⟩
  | 2 => ⟨S8x4x2048x2048, .f32⟩
  | 3 => ⟨S_, .f32⟩
  | 4 => ⟨S8x4x2048, .f32⟩
  | 5 => ⟨S8x4x2048x1, .f32⟩
  | 6 => ⟨S8x4x1x2048, .f32⟩
  | 7 => ⟨S8x4x2048x2048, .f32⟩
  | 8 => ⟨S8x4x2048x2048, .f32⟩
  | 9 => ⟨S8x4x2048x2048, .f32⟩
  | 10 => ⟨S8x4x1x2048, .f32⟩
  | 11 => ⟨S8x4x2048x2048, .f32⟩
  | 12 => ⟨S8x4x2048x2048, .f32⟩
  | 13 => ⟨S_, .f32⟩
  | 14 => ⟨S_, .f32⟩
  | 15 => ⟨S8x4x2048x2048, .i1⟩
  | 16 => ⟨S8x4x2048x2048, .f32⟩
  | 17 => ⟨S8x4x2048x2048, .f32⟩
  | 18 => ⟨S_, .f32⟩
  | 19 => ⟨S8x4x2048, .f32⟩
  | 20 => ⟨S8x4x2048, .f32⟩
  | 21 => ⟨S8x4x2048x2048, .f32⟩
  | 22 => ⟨S8x4x2048x1, .f32⟩
  | 23 => ⟨S8x4x2048x2048, .f32⟩
  | 24 => ⟨S8x4x2048x2048, .f32⟩
  | 25 => ⟨S8x4x2048x2048, .f32⟩
  | 26 => ⟨S8x4x2048x2048, .f32⟩
  | 27 => ⟨S8x4x2048x256, .f32⟩
  | 28 => ⟨S_, .f32⟩
  | 29 => ⟨S8x4x2048, .f32⟩
  | 30 => ⟨S8x4x2048, .f32⟩
  | 31 => ⟨S8x4x2048, .f32⟩
  | 32 => ⟨S8x4x2048, .f32⟩
  | 33 => ⟨S8x4x2048, .f32⟩
  | 34 => ⟨S8x4x2048x1, .f32⟩
  | 35 => ⟨S8x4x2048x256, .f32⟩
  | 36 => ⟨S8x4x2048x256, .f32⟩
  | 37 => ⟨S8x2048x4x256, .f32⟩
  | 38 => ⟨S8x2048x4x256, .f32⟩
  | 39 => ⟨S_, .f32⟩
  | 40 => ⟨S8x2048x4, .f32⟩
  | 41 => ⟨S8x2048x4x1, .f32⟩
  | 42 => ⟨S_, .f32⟩
  | 43 => ⟨S8x2048x4x1, .f32⟩
  | 44 => ⟨S8x2048x4x1, .f32⟩
  | 45 => ⟨S_, .f32⟩
  | 46 => ⟨S8x2048x4x1, .f32⟩
  | 47 => ⟨S8x2048x4x1, .f32⟩
  | 48 => ⟨S8x2048x4x1, .f32⟩
  | 49 => ⟨S8x2048x4x256, .f32⟩
  | 50 => ⟨S8x2048x4x256, .f32⟩
  | 51 => ⟨S8x2048x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S_, .f32⟩
  | 68 => ⟨S8x2048x1024, .f32⟩
  | 69 => ⟨S8x2048x1024, .f32⟩
  | 70 => ⟨S_, .f32⟩
  | 71 => ⟨S8x2048x1024, .f32⟩
  | 72 => ⟨S8x2048x1024, .f32⟩
  | 73 => ⟨S8x2048x1024, .f32⟩
  | 74 => ⟨S8x2048x1024, .f32⟩
  | 75 => ⟨S1024x1024, .f32⟩
  | 76 => ⟨S8x2048x1024, .f32⟩
  | 77 => ⟨S8x2048x1024, .f32⟩
  | 78 => ⟨S3x1024, .f32⟩
  | 79 => ⟨S_, .f32⟩
  | 80 => ⟨S8x2x1024, .f32⟩
  | 81 => ⟨S8x2050x1024, .f32⟩
  | 82 => ⟨S1x1024, .f32⟩
  | 83 => ⟨S1024, .f32⟩
  | 84 => ⟨S8x2048x1024, .f32⟩
  | 85 => ⟨S1x1x1024, .f32⟩
  | 86 => ⟨S8x2048x1024, .f32⟩
  | 87 => ⟨S8x2048x1024, .f32⟩
  | 88 => ⟨S1x1024, .f32⟩
  | 89 => ⟨S1024, .f32⟩
  | 90 => ⟨S8x2048x1024, .f32⟩
  | 91 => ⟨S1x1x1024, .f32⟩
  | 92 => ⟨S8x2048x1024, .f32⟩
  | 93 => ⟨S8x2048x1024, .f32⟩
  | 94 => ⟨S8x2048x1024, .f32⟩
  | 95 => ⟨S1x1024, .f32⟩
  | 96 => ⟨S1024, .f32⟩
  | 97 => ⟨S8x2048x1024, .f32⟩
  | 98 => ⟨S1x1x1024, .f32⟩
  | 99 => ⟨S8x2048x1024, .f32⟩
  | 100 => ⟨S8x2048x1024, .f32⟩
  | 101 => ⟨S8x2048x1024, .f32⟩
  | 102 => ⟨S8x2x1024, .f32⟩
  | 103 => ⟨S8x2048x1024, .f32⟩
  | 104 => ⟨S8x2048x1024, .f32⟩
  | 105 => ⟨S_, .f32⟩
  | 106 => ⟨S8x2048x1024, .f32⟩
  | 107 => ⟨S8x2048x1024, .f32⟩
  | 108 => ⟨S_, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S1024x1024, .f32⟩
  | 115 => ⟨S8x2048x1024, .f32⟩
  | 116 => ⟨S8x2048x1024, .f32⟩
  | 117 => ⟨S8x2048x1024, .f32⟩
  | 118 => ⟨S_, .f32⟩
  | 119 => ⟨S8x2048x1024, .f32⟩
  | 120 => ⟨S8x2048x1024, .f32⟩
  | 121 => ⟨S_, .f32⟩
  | 122 => ⟨S8x2048x1024, .f32⟩
  | 123 => ⟨S8x2048x1024, .f32⟩
  | 124 => ⟨S8x2048x1024, .f32⟩
  | 125 => ⟨S8x2048x1024, .f32⟩
  | 126 => ⟨S8x2048x1024, .f32⟩
  | 127 => ⟨S_, .f32⟩
  | _ => ⟨S8x2048x1024, .f32⟩

abbrev hbmTy0_2 (i : Nat) : BufTy := match i % 128 with
  | 0 => ⟨S8x2048x1024, .f32⟩
  | 1 => ⟨S8x2048x1024, .f32⟩
  | 2 => ⟨S_, .f32⟩
  | 3 => ⟨S8x2048x1024, .f32⟩
  | 4 => ⟨S8x2048x1024, .f32⟩
  | 5 => ⟨S8x2048x1024, .f32⟩
  | 6 => ⟨S8x2048x1024, .f32⟩
  | 7 => ⟨S1024x1024, .f32⟩
  | 8 => ⟨S8x2048x1024, .f32⟩
  | 9 => ⟨S8x2048x1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S1x8x2x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_3 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_v54 : Ref sig .tc := ⟨.hbm, 89, rfl⟩
abbrev main_cst_4 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_cst_6 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_7 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_v87 : Ref sig .tc := ⟨.hbm, 130, rfl⟩
abbrev main_cst_8 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_9 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v97 : Ref sig .tc := ⟨.hbm, 145, rfl⟩
abbrev main_cst_10 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_11 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_12 : Ref sig .tc := ⟨.hbm, 167, rfl⟩
abbrev main_v117 : Ref sig .tc := ⟨.hbm, 168, rfl⟩
abbrev main_v118 : Ref sig .tc := ⟨.hbm, 169, rfl⟩
abbrev main_cst_13 : Ref sig .tc := ⟨.hbm, 170, rfl⟩
abbrev main_v119 : Ref sig .tc := ⟨.hbm, 171, rfl⟩
abbrev main_v120 : Ref sig .tc := ⟨.hbm, 172, rfl⟩
abbrev main_cst_14 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_15 : Ref sig .tc := ⟨.hbm, 186, rfl⟩
abbrev main_v133 : Ref sig .tc := ⟨.hbm, 187, rfl⟩
abbrev main_v134 : Ref sig .tc := ⟨.hbm, 188, rfl⟩
abbrev main_cst_16 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_call4_v0 : Ref sig .tc := ⟨.hbm, 193, rfl⟩
abbrev main_call4_v1 : Ref sig .tc := ⟨.hbm, 194, rfl⟩
abbrev main_call4_cst : Ref sig .tc := ⟨.hbm, 195, rfl⟩
abbrev main_call4_v2 : Ref sig .tc := ⟨.hbm, 196, rfl⟩
abbrev main_call4_v3 : Ref sig .tc := ⟨.hbm, 197, rfl⟩
abbrev main_call4_cst_0 : Ref sig .tc := ⟨.hbm, 198, rfl⟩
abbrev main_call4_v4 : Ref sig .tc := ⟨.hbm, 199, rfl⟩
abbrev main_call4_v5 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_17 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_call5_v0 : Ref sig .tc := ⟨.hbm, 231, rfl⟩
abbrev main_call5_v1 : Ref sig .tc := ⟨.hbm, 232, rfl⟩
abbrev main_call5_cst : Ref sig .tc := ⟨.hbm, 233, rfl⟩
abbrev main_call5_v2 : Ref sig .tc := ⟨.hbm, 234, rfl⟩
abbrev main_call5_v3 : Ref sig .tc := ⟨.hbm, 235, rfl⟩
abbrev main_call5_cst_0 : Ref sig .tc := ⟨.hbm, 236, rfl⟩
abbrev main_call5_v4 : Ref sig .tc := ⟨.hbm, 237, rfl⟩
abbrev main_call5_v5 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_cst_18 : Ref sig .tc := ⟨.hbm, 246, rfl⟩
abbrev main_v174 : Ref sig .tc := ⟨.hbm, 247, rfl⟩
abbrev main_v175 : Ref sig .tc := ⟨.hbm, 248, rfl⟩
abbrev main_cst_19 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_20 : Ref sig .tc := ⟨.hbm, 255, rfl⟩
abbrev main_v181 : Ref sig .tc := ⟨.hbm, 256, rfl⟩
abbrev main_v182 : Ref sig .tc := ⟨.hbm, 257, rfl⟩
abbrev main_cst_21 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_cst_22 : Ref sig .tc := ⟨.hbm, 267, rfl⟩
abbrev main_v191 : Ref sig .tc := ⟨.hbm, 268, rfl⟩
abbrev main_v192 : Ref sig .tc := ⟨.hbm, 269, rfl⟩
abbrev main_cst_23 : Ref sig .tc := ⟨.hbm, 270, rfl⟩
abbrev main_v193 : Ref sig .tc := ⟨.hbm, 271, rfl⟩
abbrev main_v194 : Ref sig .tc := ⟨.hbm, 272, rfl⟩
abbrev main_cst_24 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩

abbrev nD : Nat := 1
abbrev τ : Topo := Topo.v7x

variable {F : FTy → Type} [FloatOps F]

def κ : String → Option EReal := fun
  | "mask" => some ⊥
  | _ => none
-- ==== Proof.Units.lean ====
/- One step of the recurrence as functions of vectors: what one head does to its state over one chunk of 256 rows, and
   the body's own values at each head and chunk as these functions. -/
module

public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The slices of one head (`h`) and one chunk (`ci`). -/

theorem slq : ∀ (ci : Fin 2) (h : Fin 4), S512x2048.Slices ![256 * ci.val, 128 * h.val] S256x128 := by decide
theorem slk : ∀ (ci : Fin 2) (h : Fin 4), S512x2048.Slices ![256 * ci.val, 512 + 128 * h.val] S256x128 := by decide
theorem slv : ∀ (ci : Fin 2) (h : Fin 4), S512x2048.Slices ![256 * ci.val, 1024 + 256 * h.val] S256x256 := by decide
theorem slg : ∀ (ci : Fin 2), S512x128.Slices ![256 * ci.val, 0] S256x128 := by decide
theorem slo : ∀ (ci : Fin 2), S512x256.Slices ![256 * ci.val, 0] S256x256 := by decide
theorem slc : ∀ (k : Fin 8), S256x128.Slices ![0, k.val] S256x1 := by decide
theorem slr : ∀ (k : Fin 8), S128x256.Slices ![k.val, 0] S1x256 := by decide

/-- The queries of head `h`, rows of chunk `ci`. -/
def qS (ci : Fin 2) (h : Fin 4) (X : FVec F S512x2048 .f32) : FVec F S256x128 .f32 :=
  extractStridedSlice S256x128 ![256 * ci.val, 128 * h.val] X (slq ci h)
/-- The scaled keys. -/
def kS (ci : Fin 2) (h : Fin 4) (X : FVec F S512x2048 .f32) : FVec F S256x128 .f32 :=
  mulf (extractStridedSlice S256x128 ![256 * ci.val, 512 + 128 * h.val] X (slk ci h))
    (broadcast S256x128 (Scalar.ofBits .f32 0x3DB504F3#32))
/-- The values. -/
def vS (ci : Fin 2) (h : Fin 4) (X : FVec F S512x2048 .f32) : FVec F S256x256 .f32 :=
  extractStridedSlice S256x256 ![256 * ci.val, 1024 + 256 * h.val] X (slv ci h)
/-- The rows of chunk `ci` of a gate projection. -/
def oS (ci : Fin 2) (X : FVec F S512x256 .f32) : FVec F S256x256 .f32 :=
  extractStridedSlice S256x256 ![256 * ci.val, 0] X (slo ci)
/-- Column `k` of a chunk's gates, and row `k` of the transposed gates. -/
def colS (k : Fin 8) (X : FVec F S256x128 .f32) : FVec F S256x1 .f32 :=
  extractStridedSlice S256x1 ![0, k.val] X (slc k)
def rowS (k : Fin 8) (X : FVec F S128x256 .f32) : FVec F S1x256 .f32 :=
  extractStridedSlice S1x256 ![k.val, 0] X (slr k)

/-! The gates: the logarithms of the forget gates and their prefix sums over a chunk. -/

def gates (g : FVec F S512x128 .f32) : FVec F S512x128 .f32 := k0_pay9 g k0_pay8 (FloatOps.ofBits FTy.f32 0#32)
def gcV (ci : Fin 2) (G : FVec F S512x128 .f32) : FVec F S256x128 .f32 :=
  extractStridedSlice S256x128 ![256 * ci.val, 0] G (slg ci)
/-- The rows moved down by `k` and added, the first `k` rows kept. -/
def rollAdd (k : BitVec 32) (g : FVec F S256x128 .f32) : FVec F S256x128 .f32 :=
  addf g (select (cmpi .sge (iota .tc S256x128 32 [0] iota_S256x128_d0_w32) (broadcast S256x128 k))
    (dynamicRotate 0 k none g rotates_S256x128_d0) (broadcast S256x128 (Scalar.ofBits .f32 0x00000000#32)))
def bcV (ci : Fin 2) (G : FVec F S512x128 .f32) : FVec F S256x128 .f32 :=
  rollAdd 128#32 (rollAdd 64#32 (rollAdd 32#32 (rollAdd 16#32 (rollAdd 8#32 (rollAdd 4#32 (rollAdd 2#32 (rollAdd 1#32 (gcV ci G))))))))
def gtV (ci : Fin 2) (G : FVec F S512x128 .f32) : FVec F S128x256 .f32 :=
  transpose S128x256 [1, 0] (select (cmpi .slt (iota Kind.tc S256x128 32 [1] iota_S256x128_d1_w32) (broadcast S256x128 4#32)) (gcV ci G) (bcV ci G)) transposes_S256x128_p1_0_S128x256

/-! One head over one chunk. -/

/-- The forget columns stand after the input columns. -/
def fK (h : Fin 4) : Fin 8 := ⟨4 + h.val, by omega⟩
def iK (h : Fin 4) : Fin 8 := ⟨h.val, by omega⟩

def uH (ci : Fin 2) (h : Fin 4) (X : FVec F S512x2048 .f32) (bc : FVec F S256x128 .f32) (gt : FVec F S128x256 .f32)
    (ct : Vec F S1x128x256 .f32) (nv : Vec F S1x1x1x128 .f32) (mv : Vec F S1x1 .f32) : FVec F S256x256 .f32 :=
  k0_pay39 k0_pay11 (qS ci h X) (truncf .bf16 (qS ci h X) bitsLt_bf16_f32) (truncf .bf16 (kS ci h X) bitsLt_bf16_f32)
    (truncf .bf16 (vS ci h X) bitsLt_bf16_f32) (k0_pay32 ct) (k0_pay33 nv) mv (colS (fK h) bc) (rowS (iK h) gt)
    (rowS (fK h) gt) (broadcastTo S256x256 (colS (fK h) bc) broadcasts_S256x1_S256x256)
/-- The next stabilizer. -/
def uM (h : Fin 4) (bc : FVec F S256x128 .f32) (gt : FVec F S128x256 .f32) (mv : Vec F S1x1 .f32) : FVec F S1x1 .f32 :=
  k0_pay42 mv (colS (fK h) bc) (rowS (iK h) gt) (rowS (fK h) gt)
/-- The next matrix state. -/
def uCT (ci : Fin 2) (h : Fin 4) (X : FVec F S512x2048 .f32) (gc bc : FVec F S256x128 .f32) (gt : FVec F S128x256 .f32)
    (ct : Vec F S1x128x256 .f32) (mv : Vec F S1x1 .f32) : FVec F S1x128x256 .f32 :=
  k0_pay46 (vS ci h X) (truncf .bf16 (kS ci h X) bitsLt_bf16_f32) (k0_pay32 ct) (k0_pay41 mv (colS (fK h) bc))
    (uM h bc gt mv) (k0_pay43 (colS (fK h) bc) (colS (iK h) gc))
/-- The next vector state. -/
def uN (ci : Fin 2) (h : Fin 4) (X : FVec F S512x2048 .f32) (gc bc : FVec F S256x128 .f32) (gt : FVec F S128x256 .f32)
    (nv : Vec F S1x1x1x128 .f32) (mv : Vec F S1x1 .f32) : FVec F S1x1x1x128 .f32 :=
  k0_pay47 (kS ci h X) (k0_pay33 nv) (k0_pay41 mv (colS (fK h) bc)) (uM h bc gt mv) (k0_pay43 (colS (fK h) bc) (colS (iK h) gc))
/-- The table of stabilizers with the lane of the sequence at the head's. -/
def uMO (a0 : BitVec 32) (mm : FVec F S1x1 .f32) (mo : Vec F S1x1x8 .f32) : FVec F S1x1x8 .f32 :=
  k0_pay49 a0 (iota Kind.tc S1x8 32 [1] iota_S1x8_d1_w32) mm mo
/-- The head normalized and gated. -/
def uHG (ci : Fin 2) (xn : FVec F S512x1024 .bf16) (wo wz : Vec F S1024x256 .bf16) (hv : FVec F S256x256 .f32)
    (nw : Vec F S1x256 .f32) : FVec F S256x256 .bf16 :=
  k0_pay50 (oS ci (k0_pay22 xn wo)) (oS ci (k0_pay23 xn wz)) hv nw

/-! The body's values are these. -/

theorem ctU_00 (X : FVec F S512x2048 .f32) (gc : FVec F S256x128 .f32) (bc : FVec F S256x128 .f32) (gt : FVec F S128x256 .f32) (ct : Vec F S1x128x256 .f32) (mv : Vec F S1x1 .f32) :
    k0_pay46 (k0_pay28 X) (k0_pay30 X) (k0_pay32 ct) (k0_pay41 mv (k0_pay34 bc)) (k0_pay42 mv (k0_pay34 bc) (k0_pay36 gt) (k0_pay37 gt)) (k0_pay43 (k0_pay34 bc) (k0_pay35 gc)) = uCT 0 0 X gc bc gt ct mv := rfl
theorem nU_00 (X : FVec F S512x2048 .f32) (gc : FVec F S256x128 .f32) (bc : FVec F S256x128 .f32) (gt : FVec F S128x256 .f32) (nv : Vec F S1x1x1x128 .f32) (mv : Vec F S1x1 .f32) :
    k0_pay47 (k0_pay27 X) (k0_pay33 nv) (k0_pay41 mv (k0_pay34 bc)) (k0_pay42 mv (k0_pay34 bc) (k0_pay36 gt) (k0_pay37 gt)) (k0_pay43 (k0_pay34 bc) (k0_pay35 gc)) = uN 0 0 X gc bc gt nv mv := rfl
theorem mU_00 (bc : FVec F S256x128 .f32) (gt : FVec F S128x256 .f32) (mv : Vec F S1x1 .f32) :
    k0_pay48 (k0_pay42 mv (k0_pay34 bc) (k0_pay36 gt) (k0_pay37 gt)) = k0_pay48 (uM 0 bc gt mv) := rfl
theorem moU_00 (bc : FVec F S256x128 .f32) (gt : FVec F S128x256 .f32) (mv : Vec F S1x1 .f32) (mo : Vec F S1x1x8 .f32) (a0 : BitVec 32) :
    k0_pay49 a0 (iota Kind.tc S1x8 32 [1] iota_S1x8_d1_w32) (k0_pay42 mv (k0_pay34 bc) (k0_pay36 gt) (k0_pay37 gt)) mo = uMO a0 (uM 0 bc gt mv) mo := rfl
theorem hgU_00 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay50 (k0_pay24 xn wo) (k0_pay25 xn wz) (k0_pay39 k0_pay11 (k0_pay26 X) (k0_pay29 X) (k0_pay30 X) (k0_pay31 X) (k0_pay32 ct) (k0_pay33 nv) mv (k0_pay34 bc) (k0_pay36 gt) (k0_pay37 gt) (k0_pay38 bc)) nw = uHG 0 xn wo wz (uH 0 0 X bc gt ct nv mv) nw := rfl
theorem ctU_01 (X : FVec F S512x2048 .f32) (gc : FVec F S256x128 .f32) (bc : FVec F S256x128 .f32) (gt : FVec F S128x256 .f32) (ct : Vec F S1x128x256 .f32) (mv : Vec F S1x1 .f32) :
    k0_pay83 (k0_pay60 X) (k0_pay62 X) (k0_pay64 ct) mv (k0_pay66 bc) (k0_pay67 gc) (k0_pay68 gt) (k0_pay69 gt) = uCT 0 1 X gc bc gt ct mv := rfl
theorem nU_01 (X : FVec F S512x2048 .f32) (gc : FVec F S256x128 .f32) (bc : FVec F S256x128 .f32) (gt : FVec F S128x256 .f32) (nv : Vec F S1x1x1x128 .f32) (mv : Vec F S1x1 .f32) :
    k0_pay85 (k0_pay84 (k0_pay59 X) (k0_pay65 nv) mv (k0_pay66 bc) (k0_pay67 gc) (k0_pay68 gt) (k0_pay69 gt)) = uN 0 1 X gc bc gt nv mv := rfl
theorem mU_01 (bc : FVec F S256x128 .f32) (gt : FVec F S128x256 .f32) (mv : Vec F S1x1 .f32) :
    k0_pay86 (k0_pay80 mv (k0_pay66 bc) (k0_pay68 gt) (k0_pay69 gt)) = k0_pay48 (uM 1 bc gt mv) := rfl
theorem moU_01 (bc : FVec F S256x128 .f32) (gt : FVec F S128x256 .f32) (mv : Vec F S1x1 .f32) (mo : Vec F S1x1x8 .f32) (a0 : BitVec 32) :
    k0_pay87 a0 (iota Kind.tc S1x8 32 [1] iota_S1x8_d1_w32) (k0_pay80 mv (k0_pay66 bc) (k0_pay68 gt) (k0_pay69 gt)) mo = uMO a0 (uM 1 bc gt mv) mo := rfl
theorem hgU_01 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay88 (k0_pay56 (k0_pay51 xn wo)) (k0_pay57 (k0_pay52 xn wz) (k0_pay53 xn wz) k0_pay54) (k0_pay77 (k0_pay58 X) (k0_pay63 X) (k0_pay65 nv) (k0_pay72 k0_pay11 bc gt mv) (k0_pay73 k0_pay11 bc gt mv) (k0_pay74 X k0_pay11 bc gt mv) (k0_pay75 X k0_pay11 bc gt ct mv) (k0_pay76 X k0_pay11 bc gt mv) (constant S256x256 FTy.f32 0#32)) nw = uHG 0 xn wo wz (uH 0 1 X bc gt ct nv mv) nw := rfl
theorem ctU_02 (X : FVec F S512x2048 .f32) (gc : FVec F S256x128 .f32) (bc : FVec F S256x128 .f32) (gt : FVec F S128x256 .f32) (ct : Vec F S1x128x256 .f32) (mv : Vec F S1x1 .f32) :
    k0_pay112 (k0_pay95 X) (k0_pay97 X) (k0_pay99 ct) (k0_pay101 bc) (k0_pay102 gc) (k0_pay106 (k0_pay101 bc)) (k0_pay107 mv (k0_pay101 bc)) (k0_pay108 gt (k0_pay101 bc)) = uCT 0 2 X gc bc gt ct mv := rfl
theorem nU_02 (X : FVec F S512x2048 .f32) (gc : FVec F S256x128 .f32) (bc : FVec F S256x128 .f32) (gt : FVec F S128x256 .f32) (nv : Vec F S1x1x1x128 .f32) (mv : Vec F S1x1 .f32) :
    k0_pay113 (k0_pay94 X) (k0_pay100 nv) (k0_pay101 bc) (k0_pay102 gc) (k0_pay106 (k0_pay101 bc)) (k0_pay107 mv (k0_pay101 bc)) (k0_pay108 gt (k0_pay101 bc)) = uN 0 2 X gc bc gt nv mv := rfl
theorem mU_02 (bc : FVec F S256x128 .f32) (gt : FVec F S128x256 .f32) (mv : Vec F S1x1 .f32) :
    k0_pay114 (k0_pay107 mv (k0_pay101 bc)) (k0_pay108 gt (k0_pay101 bc)) = k0_pay48 (uM 2 bc gt mv) := rfl
theorem moU_02 (bc : FVec F S256x128 .f32) (gt : FVec F S128x256 .f32) (mv : Vec F S1x1 .f32) (mo : Vec F S1x1x8 .f32) (a0 : BitVec 32) :
    k0_pay116 (k0_pay115 a0 (iota Kind.tc S1x8 32 [1] iota_S1x8_d1_w32) (k0_pay107 mv (k0_pay101 bc)) (k0_pay108 gt (k0_pay101 bc)) mo) = uMO a0 (uM 2 bc gt mv) mo := rfl
theorem hgU_02 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay117 (k0_pay91 xn wo) (k0_pay92 xn wz) (k0_pay105 k0_pay11 gt (k0_pay93 X) (k0_pay96 X) (k0_pay97 X) (k0_pay98 X) (k0_pay99 ct) (k0_pay100 nv) mv (k0_pay101 bc)) nw = uHG 0 xn wo wz (uH 0 2 X bc gt ct nv mv) nw := rfl
theorem ctU_03 (X : FVec F S512x2048 .f32) (gc : FVec F S256x128 .f32) (bc : FVec F S256x128 .f32) (gt : FVec F S128x256 .f32) (ct : Vec F S1x128x256 .f32) (mv : Vec F S1x1 .f32) :
    k0_pay148 (k0_pay126 X) (k0_pay128 X) (k0_pay130 ct) mv (k0_pay132 bc) (k0_pay133 gc) (k0_pay134 gt) (k0_pay135 gt) = uCT 0 3 X gc bc gt ct mv := rfl
theorem nU_03 (X : FVec F S512x2048 .f32) (gc : FVec F S256x128 .f32) (bc : FVec F S256x128 .f32) (gt : FVec F S128x256 .f32) (nv : Vec F S1x1x1x128 .f32) (mv : Vec F S1x1 .f32) :
    k0_pay151 (k0_pay149 (k0_pay131 nv) mv (k0_pay132 bc) (k0_pay134 gt) (k0_pay135 gt)) (k0_pay150 (k0_pay125 X) mv (k0_pay132 bc) (k0_pay133 gc) (k0_pay134 gt) (k0_pay135 gt)) = uN 0 3 X gc bc gt nv mv := rfl
theorem mU_03 (bc : FVec F S256x128 .f32) (gt : FVec F S128x256 .f32) (mv : Vec F S1x1 .f32) :
    k0_pay152 (k0_pay145 mv (k0_pay132 bc) (k0_pay134 gt) (k0_pay135 gt)) = k0_pay48 (uM 3 bc gt mv) := rfl
theorem moU_03 (bc : FVec F S256x128 .f32) (gt : FVec F S128x256 .f32) (mv : Vec F S1x1 .f32) (mo : Vec F S1x1x8 .f32) (a0 : BitVec 32) :
    k0_pay153 a0 (iota Kind.tc S1x8 32 [1] iota_S1x8_d1_w32) (k0_pay145 mv (k0_pay132 bc) (k0_pay134 gt) (k0_pay135 gt)) mo = uMO a0 (uM 3 bc gt mv) mo := rfl
theorem hgU_03 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay155 (k0_pay154 (k0_pay122 (k0_pay118 xn wo)) (k0_pay123 (k0_pay119 xn wz) (k0_pay120 xn wz) (FloatOps.ofBits FTy.f32 1056964608#32)) (k0_pay142 (k0_pay124 X) (k0_pay129 X) (k0_pay131 nv) (k0_pay138 k0_pay11 bc gt mv) (k0_pay139 k0_pay11 bc gt mv) (k0_pay140 X k0_pay11 bc gt mv) (k0_pay141 X ct)) nw) = uHG 0 xn wo wz (uH 0 3 X bc gt ct nv mv) nw := rfl
theorem ctU_10 (X : FVec F S512x2048 .f32) (gc : FVec F S256x128 .f32) (bc : FVec F S256x128 .f32) (gt : FVec F S128x256 .f32) (ct : Vec F S1x128x256 .f32) (mv : Vec F S1x1 .f32) :
    k0_pay185 (k0_pay163 X) (k0_pay165 X) (k0_pay166 ct) mv (k0_pay168 bc) (k0_pay169 gc) (k0_pay170 gt) (k0_pay171 gt) = uCT 1 0 X gc bc gt ct mv := rfl
theorem nU_10 (X : FVec F S512x2048 .f32) (gc : FVec F S256x128 .f32) (bc : FVec F S256x128 .f32) (gt : FVec F S128x256 .f32) (nv : Vec F S1x1x1x128 .f32) (mv : Vec F S1x1 .f32) :
    k0_pay186 (k0_pay162 X) (k0_pay167 nv) mv (k0_pay168 bc) (k0_pay169 gc) (k0_pay170 gt) (k0_pay171 gt) = uN 1 0 X gc bc gt nv mv := rfl
theorem mU_10 (bc : FVec F S256x128 .f32) (gt : FVec F S128x256 .f32) (mv : Vec F S1x1 .f32) :
    k0_pay188 (k0_pay187 mv (k0_pay168 bc) (k0_pay170 gt) (k0_pay171 gt)) = k0_pay48 (uM 0 bc gt mv) := rfl
theorem moU_10 (bc : FVec F S256x128 .f32) (gt : FVec F S128x256 .f32) (mv : Vec F S1x1 .f32) (mo : Vec F S1x1x8 .f32) (a0 : BitVec 32) :
    k0_pay189 a0 (iota Kind.tc S1x8 32 [1] iota_S1x8_d1_w32) (k0_pay182 mv (k0_pay168 bc) (k0_pay170 gt) (k0_pay171 gt)) mo = uMO a0 (uM 0 bc gt mv) mo := rfl
theorem hgU_10 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay190 (k0_pay159 (k0_pay22 xn wo)) (k0_pay160 (k0_pay23 xn wz)) (k0_pay179 (k0_pay174 k0_pay11 bc gt mv) (k0_pay177 k0_pay11 bc gt (k0_pay163 X) (k0_pay164 X) (k0_pay165 X) ct mv) (k0_pay178 k0_pay11 bc gt (k0_pay161 X) (k0_pay164 X) (k0_pay165 X) nv mv)) nw = uHG 1 xn wo wz (uH 1 0 X bc gt ct nv mv) nw := rfl
theorem ctU_11 (X : FVec F S512x2048 .f32) (gc : FVec F S256x128 .f32) (bc : FVec F S256x128 .f32) (gt : FVec F S128x256 .f32) (ct : Vec F S1x128x256 .f32) (mv : Vec F S1x1 .f32) :
    k0_pay219 (k0_pay218 (k0_pay198 X) (k0_pay200 X) (k0_pay202 ct) mv (k0_pay204 bc) (k0_pay205 gc) (k0_pay206 gt) (k0_pay207 gt)) = uCT 1 1 X gc bc gt ct mv := rfl
theorem nU_11 (X : FVec F S512x2048 .f32) (gc : FVec F S256x128 .f32) (bc : FVec F S256x128 .f32) (gt : FVec F S128x256 .f32) (nv : Vec F S1x1x1x128 .f32) (mv : Vec F S1x1 .f32) :
    k0_pay220 (k0_pay197 X) (k0_pay203 nv) (k0_pay216 mv (k0_pay204 bc) (k0_pay205 gc) (k0_pay206 gt) (k0_pay207 gt)) (k0_pay217 mv (k0_pay204 bc) (k0_pay206 gt) (k0_pay207 gt)) = uN 1 1 X gc bc gt nv mv := rfl
theorem mU_11 (bc : FVec F S256x128 .f32) (gt : FVec F S128x256 .f32) (mv : Vec F S1x1 .f32) :
    k0_pay221 (k0_pay215 mv (k0_pay204 bc) (k0_pay206 gt) (k0_pay207 gt)) = k0_pay48 (uM 1 bc gt mv) := rfl
theorem moU_11 (bc : FVec F S256x128 .f32) (gt : FVec F S128x256 .f32) (mv : Vec F S1x1 .f32) (mo : Vec F S1x1x8 .f32) (a0 : BitVec 32) :
    k0_pay222 a0 (iota Kind.tc S1x8 32 [1] iota_S1x8_d1_w32) (k0_pay215 mv (k0_pay204 bc) (k0_pay206 gt) (k0_pay207 gt)) mo = uMO a0 (uM 1 bc gt mv) mo := rfl
theorem hgU_11 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay224 (k0_pay194 (k0_pay51 xn wo)) (k0_pay195 (k0_pay55 (k0_pay52 xn wz) (k0_pay53 xn wz) k0_pay54)) (k0_pay223 (k0_pay212 (k0_pay196 X) (k0_pay199 X) (k0_pay200 X) (k0_pay201 X) (k0_pay202 ct) (k0_pay203 nv) (k0_pay209 bc mv) (k0_pay210 k0_pay11 bc gt mv) (k0_pay211 k0_pay11 bc gt mv))) nw = uHG 1 xn wo wz (uH 1 1 X bc gt ct nv mv) nw := rfl
theorem ctU_12 (X : FVec F S512x2048 .f32) (gc : FVec F S256x128 .f32) (bc : FVec F S256x128 .f32) (gt : FVec F S128x256 .f32) (ct : Vec F S1x128x256 .f32) (mv : Vec F S1x1 .f32) :
    k0_pay247 (k0_pay230 X) (k0_pay232 X) (k0_pay234 ct) (k0_pay236 bc) (k0_pay237 gc) (k0_pay241 bc) (k0_pay242 bc mv) (k0_pay243 bc gt) = uCT 1 2 X gc bc gt ct mv := rfl
theorem nU_12 (X : FVec F S512x2048 .f32) (gc : FVec F S256x128 .f32) (bc : FVec F S256x128 .f32) (gt : FVec F S128x256 .f32) (nv : Vec F S1x1x1x128 .f32) (mv : Vec F S1x1 .f32) :
    k0_pay248 (k0_pay229 X) (k0_pay235 nv) (k0_pay236 bc) (k0_pay237 gc) (k0_pay241 bc) (k0_pay242 bc mv) (k0_pay243 bc gt) = uN 1 2 X gc bc gt nv mv := rfl
theorem mU_12 (bc : FVec F S256x128 .f32) (gt : FVec F S128x256 .f32) (mv : Vec F S1x1 .f32) :
    k0_pay249 (k0_pay242 bc mv) (k0_pay243 bc gt) = k0_pay48 (uM 2 bc gt mv) := rfl
theorem moU_12 (bc : FVec F S256x128 .f32) (gt : FVec F S128x256 .f32) (mv : Vec F S1x1 .f32) (mo : Vec F S1x1x8 .f32) (a0 : BitVec 32) :
    k0_pay253 (k0_pay250 a0 (iota Kind.tc S1x8 32 [1] iota_S1x8_d1_w32)) (k0_pay251 mo) (k0_pay252 (k0_pay242 bc mv) (k0_pay243 bc gt)) = uMO a0 (uM 2 bc gt mv) mo := rfl
theorem hgU_12 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay254 (k0_pay226 (k0_pay89 xn wo)) (k0_pay227 (k0_pay90 xn wz)) (k0_pay240 k0_pay11 bc gt (k0_pay228 X) (k0_pay231 X) (k0_pay232 X) (k0_pay233 X) (k0_pay234 ct) (k0_pay235 nv) mv) nw = uHG 1 xn wo wz (uH 1 2 X bc gt ct nv mv) nw := rfl
theorem ctU_13 (X : FVec F S512x2048 .f32) (gc : FVec F S256x128 .f32) (bc : FVec F S256x128 .f32) (gt : FVec F S128x256 .f32) (ct : Vec F S1x128x256 .f32) (mv : Vec F S1x1 .f32) :
    k0_pay283 (k0_pay260 X) (k0_pay262 (k0_pay259 X)) (k0_pay263 ct) mv (k0_pay265 bc) (k0_pay266 gc) (k0_pay267 gt) (k0_pay268 gt) = uCT 1 3 X gc bc gt ct mv := rfl
theorem nU_13 (X : FVec F S512x2048 .f32) (gc : FVec F S256x128 .f32) (bc : FVec F S256x128 .f32) (gt : FVec F S128x256 .f32) (nv : Vec F S1x1x1x128 .f32) (mv : Vec F S1x1 .f32) :
    k0_pay284 (k0_pay259 X) (k0_pay264 nv) mv (k0_pay265 bc) (k0_pay266 gc) (k0_pay267 gt) (k0_pay268 gt) = uN 1 3 X gc bc gt nv mv := rfl
theorem mU_13 (bc : FVec F S256x128 .f32) (gt : FVec F S128x256 .f32) (mv : Vec F S1x1 .f32) :
    k0_pay286 (k0_pay285 mv (k0_pay265 bc) (k0_pay267 gt) (k0_pay268 gt)) = k0_pay48 (uM 3 bc gt mv) := rfl
theorem moU_13 (bc : FVec F S256x128 .f32) (gt : FVec F S128x256 .f32) (mv : Vec F S1x1 .f32) (mo : Vec F S1x1x8 .f32) (a0 : BitVec 32) :
    k0_pay287 a0 (iota Kind.tc S1x8 32 [1] iota_S1x8_d1_w32) (k0_pay280 mv (k0_pay265 bc) (k0_pay267 gt) (k0_pay268 gt)) mo = uMO a0 (uM 3 bc gt mv) mo := rfl
theorem hgU_13 (X : FVec F S512x2048 .f32) (xn : FVec F S512x1024 .bf16) (bc : FVec F S256x128 .f32) (gt : FVec F S128x256 .f32) (ct : Vec F S1x128x256 .f32) (nv : Vec F S1x1x1x128 .f32) (mv : Vec F S1x1 .f32) (nw : Vec F S1x256 .f32) (wo : Vec F S1024x256 .bf16) (wz : Vec F S1024x256 .bf16) :
    k0_pay288 (k0_pay256 (k0_pay118 xn wo)) (k0_pay257 (k0_pay121 (k0_pay119 xn wz) (k0_pay120 xn wz) (FloatOps.ofBits FTy.f32 1056964608#32))) (k0_pay277 (k0_pay271 k0_pay11 bc gt mv) (k0_pay274 k0_pay11 bc gt (k0_pay258 X) (k0_pay259 X) (k0_pay260 X) ct mv) (k0_pay275 k0_pay11 bc gt (k0_pay258 X) nv mv) (k0_pay276 k0_pay11 bc gt (k0_pay258 X) (k0_pay259 X) mv)) nw = uHG 1 xn wo wz (uH 1 3 X bc gt ct nv mv) nw := rfl
theorem gcU_0 (g : FVec F S512x128 .f32) : k0_pay12 g k0_pay8 (FloatOps.ofBits FTy.f32 0#32) = gcV 0 (gates g) := rfl
theorem gcU_1 (g : FVec F S512x128 .f32) : k0_pay17 (k0_pay9 g k0_pay8 (FloatOps.ofBits FTy.f32 0#32)) = gcV 1 (gates g) := rfl
theorem bcU_0 (g : FVec F S512x128 .f32) : k0_pay15 (iota Kind.tc S256x128 32 [0] iota_S256x128_d0_w32) (k0_pay13 g k0_pay8 (FloatOps.ofBits FTy.f32 0#32)) k0_pay14 = bcV 0 (gates g) := rfl
theorem bcU_1 (g : FVec F S512x128 .f32) : k0_pay20 (iota Kind.tc S256x128 32 [0] iota_S256x128_d0_w32) (k0_pay18 (k0_pay9 g k0_pay8 (FloatOps.ofBits FTy.f32 0#32)) (iota Kind.tc S256x128 32 [0] iota_S256x128_d0_w32)) k0_pay19 = bcV 1 (gates g) := rfl
theorem gtU_0 (g : FVec F S512x128 .f32) : k0_pay16 (iota Kind.tc S256x128 32 [1] iota_S256x128_d1_w32) (iota Kind.tc S256x128 32 [0] iota_S256x128_d0_w32) (k0_pay12 g k0_pay8 (FloatOps.ofBits FTy.f32 0#32)) (k0_pay13 g k0_pay8 (FloatOps.ofBits FTy.f32 0#32)) k0_pay14 = gtV 0 (gates g) := rfl
theorem gtU_1 (g : FVec F S512x128 .f32) : k0_pay21 (iota Kind.tc S256x128 32 [1] iota_S256x128_d1_w32) (iota Kind.tc S256x128 32 [0] iota_S256x128_d0_w32) (k0_pay17 (k0_pay9 g k0_pay8 (FloatOps.ofBits FTy.f32 0#32))) (k0_pay18 (k0_pay9 g k0_pay8 (FloatOps.ofBits FTy.f32 0#32)) (iota Kind.tc S256x128 32 [0] iota_S256x128_d0_w32)) k0_pay19 = gtV 1 (gates g) := rfl

end Cert.KernelIdeal.Hand

end
-- ==== Proof.RunBase.lean ====
/- The two branch conditions of the body in closed form, and the staging and scratch memrefs of a grid point. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The conditions by arithmetic of the point. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-! The memrefs of a point. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x4x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x4x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4x8 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x2x1024 .f32 := win0_16.stage (cfg0.slots t 16)
abbrev hs0_16 (t : Fin cfg0.N) : (ms0_16 t).IsWhole := hstage0_16 ((cfg0.slots t 16).cast nbuf0_16)
abbrev scM0_0 : Memref sig .tc .vmem S512x1024 .bf16 := Memref.whole cc0_scratch0
abbrev scM0_1 : Memref sig .tc .vmem S528x1024 .f32 := Memref.whole cc0_scratch1
abbrev scM0_2 : Memref sig .tc .vmem S4x128x256 .f32 := Memref.whole cc0_scratch2
abbrev scM0_3 : Memref sig .tc .vmem S8x128 .f32 := Memref.whole cc0_scratch3

/-- The invariant of the class with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Body.lean ====
/- The body of one grid point as functions of its blocks and of the carried state: the pieces each buffer ends with. -/
module

public import proofs.«01_k».proof.Proof.Units
public import proofs.«01_k».proof.Proof.RunBase
public import Idealize.ShloMosaic.Lib.VecWindow
public import Idealize.ShloMosaic.Lib.Pipeline.Value
public import Idealize.ShloMosaic.Lib.Pipeline.ReadBack

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The loads of one head's state. -/

theorem inbCt : ∀ (h : Fin 4) (a : Fin 3), (![h.val, 0, 0] : Fin 3 → ℕ) a + S1x128x256.size a ≤ S4x128x256.size a := by decide
theorem inbN : ∀ (h : Fin 4) (a : Fin 4), (![0, 0, h.val, 0] : Fin 4 → ℕ) a + S1x1x1x128.size a ≤ S1x1x4x128.size a := by decide
theorem inbM : ∀ (h : Fin 4) (a : Fin 2), (![h.val, 0] : Fin 2 → ℕ) a + S1x1.size a ≤ S8x128.size a := by decide
theorem inbMr : ∀ (h : Fin 4) (a : Fin 2), (![h.val, 0] : Fin 2 → ℕ) a + S1x128.size a ≤ S8x128.size a := by decide
theorem inbMo : ∀ (h : Fin 4) (a : Fin 3), (![0, h.val, 0] : Fin 3 → ℕ) a + S1x1x8.size a ≤ S1x4x8.size a := by decide
theorem inbHg : ∀ (ci : Fin 2) (h : Fin 4) (a : Fin 2), (![256 * ci.val, 256 * h.val] : Fin 2 → ℕ) a + S256x256.size a ≤ S512x1024.size a := by decide
theorem inbW256 : ∀ (h : Fin 8) (a : Fin 2), (![0, 256 * h.val] : Fin 2 → ℕ) a + S1024x256.size a ≤ S1024x8192.size a := by decide
theorem inbW1024 : ∀ (h : Fin 8) (a : Fin 2), (![0, 1024 * h.val] : Fin 2 → ℕ) a + S1024x1024.size a ≤ S1024x8192.size a := by decide
theorem inbNw : ∀ (h : Fin 4) (a : Fin 2), (![0, 256 * h.val] : Fin 2 → ℕ) a + S1x256.size a ≤ S1x1024.size a := by decide
theorem inbC : ∀ (h : Fin 4) (a : Fin 5), (![0, 0, h.val, 0, 0] : Fin 5 → ℕ) a + S1x1x1x256x128.size a ≤ S1x1x4x256x128.size a := by decide
theorem inbCw : ∀ (h : Fin 3) (a : Fin 2), (![0, 1024 * h.val] : Fin 2 → ℕ) a + S1x1024.size a ≤ S1x3072.size a := by decide

def ctI (xs2 : Vec F S4x128x256 .f32) (h : Fin 4) : Vec F S1x128x256 .f32 := View.ld xs2 (Rect.unit ![h.val, 0, 0] S1x128x256.size (inbCt h))
def nI (xo : Vec F S1x1x4x128 .f32) (h : Fin 4) : Vec F S1x1x1x128 .f32 := View.ld xo (Rect.unit ![0, 0, h.val, 0] S1x1x1x128.size (inbN h))
def mI (xs3 : Vec F S8x128 .f32) (h : Fin 4) : Vec F S1x1 .f32 := View.ld xs3 (Rect.unit ![h.val, 0] S1x1.size (inbM h))
def moI (xo : Vec F S1x4x8 .f32) (h : Fin 4) : Vec F S1x1x8 .f32 := View.ld xo (Rect.unit ![0, h.val, 0] S1x1x8.size (inbMo h))
def w256 (x3 : Vec F S1024x8192 .bf16) (k : Fin 8) : Vec F S1024x256 .bf16 := View.ld x3 (Rect.unit ![0, 256 * k.val] S1024x256.size (inbW256 k))
def w1024 (x3 : Vec F S1024x8192 .bf16) (k : Fin 8) : Vec F S1024x1024 .bf16 := View.ld x3 (Rect.unit ![0, 1024 * k.val] S1024x1024.size (inbW1024 k))
def nwI (x9 : Vec F S1x1024 .f32) (h : Fin 4) : Vec F S1x256 .f32 := View.ld x9 (Rect.unit ![0, 256 * h.val] S1x256.size (inbNw h))
def cwI (x10 : Vec F S1x3072 .f32) (h : Fin 3) : Vec F S1x1024 .f32 := View.ld x10 (Rect.unit ![0, 1024 * h.val] S1x1024.size (inbCw h))
def oK (h : Fin 4) : Fin 8 := ⟨h.val, by omega⟩
def zK (h : Fin 4) : Fin 8 := ⟨4 + h.val, by omega⟩

/-! Reading a stabilizer back. -/

theorem hz2 : (![0, 0] : Fin 2 → ℕ) = fun _ => 0 := by funext a; fin_cases a <;> rfl
theorem hz3 : (![0, 0, 0] : Fin 3 → ℕ) = fun _ => 0 := by funext a; fin_cases a <;> rfl

/-- The row of one head's stabilizer, read at its first lane. -/
theorem readCov_m {κ : Kind} {sp : Space} (v : View sig κ sp S8x128 .f32) {off : Fin 2 → ℕ} (inb : ∀ a, off a + S1x128.size a ≤ S8x128.size a)
    (inb' : ∀ a, off a + S1x1.size a ≤ S8x128.size a) (w : FVec F S1x1 .f32) (L : List (View.Piece (Elt F) S8x128 .f32)) :
    v.readCov (⟨Rect.unit off S1x128.size inb, k0_pay48 w⟩ :: L) (Rect.unit (s := S8x128) off S1x1.size inb').toLoadRect = w := by
  rw [View.readCov_eq_canon']
  funext j
  have hj : ∀ a : Fin 2, (j a).val = 0 := fun a => by have := (j a).isLt; fin_cases a <;> (change (j _).val < 1 at this; omega)
  let k : S1x128.Idx := fun a => ⟨0, by fin_cases a <;> decide⟩
  have e : (Rect.unit (s := S8x128) off S1x1.size inb').toLoadRect.idx j = (Rect.unit (s := S8x128) off S1x128.size inb).emb k := by
    funext a; apply Fin.ext
    show off a + 1 * (j a).val = off a + 1 * 0
    rw [hj a]
  show View.canon _ ((Rect.unit (s := S8x128) off S1x1.size inb').toLoadRect.idx j) = _
  rw [e, View.canon_cons_emb]
  show k0_pay48 w k = w j
  have h1 : ∀ (z : S1x1.Idx) a, (z a).val = 0 := fun z a => by have := (z a).isLt; fin_cases a <;> (change (z _).val < 1 at this; omega)
  exact congrArg w (funext fun a => Fin.ext ((h1 _ a).trans (h1 j a).symm))

section
variable (X : FVec F S512x2048 .f32) (G : FVec F S512x128 .f32) (xs2 : Vec F S4x128x256 .f32) (xo14 : Vec F S1x1x4x128 .f32) (xs3 : Vec F S8x128 .f32)
  (xo15 : Vec F S1x4x8 .f32) (a0 : BitVec 32) (xn : FVec F S512x1024 .bf16) (x3 : Vec F S1024x8192 .bf16) (x9 : Vec F S1x1024 .f32)

/-! The two chunks of one head: the state after each (`A`, `B`), and the outputs of each. -/

def mA (h : Fin 4) : FVec F S1x1 .f32 := uM h (bcV 0 G) (gtV 0 G) (mI xs3 h)
def mB (h : Fin 4) : FVec F S1x1 .f32 := uM h (bcV 1 G) (gtV 1 G) (mA G xs3 h)
def ctA (h : Fin 4) : FVec F S1x128x256 .f32 := uCT 0 h X (gcV 0 G) (bcV 0 G) (gtV 0 G) (ctI xs2 h) (mI xs3 h)
def ctB (h : Fin 4) : FVec F S1x128x256 .f32 := uCT 1 h X (gcV 1 G) (bcV 1 G) (gtV 1 G) (ctA X G xs2 xs3 h) (mA G xs3 h)
def nA (h : Fin 4) : FVec F S1x1x1x128 .f32 := uN 0 h X (gcV 0 G) (bcV 0 G) (gtV 0 G) (nI xo14 h) (mI xs3 h)
def nB (h : Fin 4) : FVec F S1x1x1x128 .f32 := uN 1 h X (gcV 1 G) (bcV 1 G) (gtV 1 G) (nA X G xo14 xs3 h) (mA G xs3 h)
def moA (h : Fin 4) : FVec F S1x1x8 .f32 := uMO a0 (mA G xs3 h) (moI xo15 h)
def moB (h : Fin 4) : FVec F S1x1x8 .f32 := uMO a0 (mB G xs3 h) (moA G xs3 xo15 a0 h)
def hA (h : Fin 4) : FVec F S256x256 .f32 := uH 0 h X (bcV 0 G) (gtV 0 G) (ctI xs2 h) (nI xo14 h) (mI xs3 h)
def hB (h : Fin 4) : FVec F S256x256 .f32 := uH 1 h X (bcV 1 G) (gtV 1 G) (ctA X G xs2 xs3 h) (nA X G xo14 xs3 h) (mA G xs3 h)
def hgA (h : Fin 4) : FVec F S256x256 .bf16 := uHG 0 xn (w256 x3 (oK h)) (w256 x3 (zK h)) (hA X G xs2 xo14 xs3 h) (nwI x9 h)
def hgB (h : Fin 4) : FVec F S256x256 .bf16 := uHG 1 xn (w256 x3 (oK h)) (w256 x3 (zK h)) (hB X G xs2 xo14 xs3 h) (nwI x9 h)

/-! The pieces, newest first. -/

def ctL : List (View.Piece (Elt F) S4x128x256 .f32) :=
  [⟨Rect.unit ![3, 0, 0] S1x128x256.size inb_S4x128x256_S1x128x256_3_0_0, ctB X G xs2 xs3 3⟩,
   ⟨Rect.unit ![2, 0, 0] S1x128x256.size inb_S4x128x256_S1x128x256_2_0_0, ctB X G xs2 xs3 2⟩,
   ⟨Rect.unit ![1, 0, 0] S1x128x256.size inb_S4x128x256_S1x128x256_1_0_0, ctB X G xs2 xs3 1⟩,
   ⟨Rect.unit ![0, 0, 0] S1x128x256.size inb_S4x128x256_S1x128x256_0_0_0, ctB X G xs2 xs3 0⟩,
   ⟨Rect.unit ![3, 0, 0] S1x128x256.size inb_S4x128x256_S1x128x256_3_0_0, ctA X G xs2 xs3 3⟩,
   ⟨Rect.unit ![2, 0, 0] S1x128x256.size inb_S4x128x256_S1x128x256_2_0_0, ctA X G xs2 xs3 2⟩,
   ⟨Rect.unit ![1, 0, 0] S1x128x256.size inb_S4x128x256_S1x128x256_1_0_0, ctA X G xs2 xs3 1⟩,
   ⟨Rect.unit ![0, 0, 0] S1x128x256.size inb_S4x128x256_S1x128x256_0_0_0, ctA X G xs2 xs3 0⟩]
def nL : List (View.Piece (Elt F) S1x1x4x128 .f32) :=
  [⟨Rect.unit ![0, 0, 3, 0] S1x1x1x128.size inb_S1x1x4x128_S1x1x1x128_0_0_3_0, nB X G xo14 xs3 3⟩,
   ⟨Rect.unit ![0, 0, 2, 0] S1x1x1x128.size inb_S1x1x4x128_S1x1x1x128_0_0_2_0, nB X G xo14 xs3 2⟩,
   ⟨Rect.unit ![0, 0, 1, 0] S1x1x1x128.size inb_S1x1x4x128_S1x1x1x128_0_0_1_0, nB X G xo14 xs3 1⟩,
   ⟨Rect.unit ![0, 0, 0, 0] S1x1x1x128.size inb_S1x1x4x128_S1x1x1x128_0_0_0_0, nB X G xo14 xs3 0⟩,
   ⟨Rect.unit ![0, 0, 3, 0] S1x1x1x128.size inb_S1x1x4x128_S1x1x1x128_0_0_3_0, nA X G xo14 xs3 3⟩,
   ⟨Rect.unit ![0, 0, 2, 0] S1x1x1x128.size inb_S1x1x4x128_S1x1x1x128_0_0_2_0, nA X G xo14 xs3 2⟩,
   ⟨Rect.unit ![0, 0, 1, 0] S1x1x1x128.size inb_S1x1x4x128_S1x1x1x128_0_0_1_0, nA X G xo14 xs3 1⟩,
   ⟨Rect.unit ![0, 0, 0, 0] S1x1x1x128.size inb_S1x1x4x128_S1x1x1x128_0_0_0_0, nA X G xo14 xs3 0⟩]
def mL : List (View.Piece (Elt F) S8x128 .f32) :=
  [⟨Rect.unit ![3, 0] S1x128.size inb_S8x128_S1x128_3_0, k0_pay48 (mB G xs3 3)⟩,
   ⟨Rect.unit ![2, 0] S1x128.size inb_S8x128_S1x128_2_0, k0_pay48 (mB G xs3 2)⟩,
   ⟨Rect.unit ![1, 0] S1x128.size inb_S8x128_S1x128_1_0, k0_pay48 (mB G xs3 1)⟩,
   ⟨Rect.unit ![0, 0] S1x128.size inb_S8x128_S1x128_0_0, k0_pay48 (mB G xs3 0)⟩,
   ⟨Rect.unit ![3, 0] S1x128.size inb_S8x128_S1x128_3_0, k0_pay48 (mA G xs3 3)⟩,
   ⟨Rect.unit ![2, 0] S1x128.size inb_S8x128_S1x128_2_0, k0_pay48 (mA G xs3 2)⟩,
   ⟨Rect.unit ![1, 0] S1x128.size inb_S8x128_S1x128_1_0, k0_pay48 (mA G xs3 1)⟩,
   ⟨Rect.unit ![0, 0] S1x128.size inb_S8x128_S1x128_0_0, k0_pay48 (mA G xs3 0)⟩]
def moL : List (View.Piece (Elt F) S1x4x8 .f32) :=
  [⟨Rect.unit ![0, 3, 0] S1x1x8.size inb_S1x4x8_S1x1x8_0_3_0, moB G xs3 xo15 a0 3⟩,
   ⟨Rect.unit ![0, 2, 0] S1x1x8.size inb_S1x4x8_S1x1x8_0_2_0, moB G xs3 xo15 a0 2⟩,
   ⟨Rect.unit ![0, 1, 0] S1x1x8.size inb_S1x4x8_S1x1x8_0_1_0, moB G xs3 xo15 a0 1⟩,
   ⟨Rect.unit ![0, 0, 0] S1x1x8.size inb_S1x4x8_S1x1x8_0_0_0, moB G xs3 xo15 a0 0⟩,
   ⟨Rect.unit ![0, 3, 0] S1x1x8.size inb_S1x4x8_S1x1x8_0_3_0, moA G xs3 xo15 a0 3⟩,
   ⟨Rect.unit ![0, 2, 0] S1x1x8.size inb_S1x4x8_S1x1x8_0_2_0, moA G xs3 xo15 a0 2⟩,
   ⟨Rect.unit ![0, 1, 0] S1x1x8.size inb_S1x4x8_S1x1x8_0_1_0, moA G xs3 xo15 a0 1⟩,
   ⟨Rect.unit ![0, 0, 0] S1x1x8.size inb_S1x4x8_S1x1x8_0_0_0, moA G xs3 xo15 a0 0⟩]
def hgL : List (View.Piece (Elt F) S512x1024 .bf16) :=
  [⟨Rect.unit ![256, 768] S256x256.size inb_S512x1024_S256x256_256_768, hgB X G xs2 xo14 xs3 xn x3 x9 3⟩,
   ⟨Rect.unit ![256, 512] S256x256.size inb_S512x1024_S256x256_256_512, hgB X G xs2 xo14 xs3 xn x3 x9 2⟩,
   ⟨Rect.unit ![256, 256] S256x256.size inb_S512x1024_S256x256_256_256, hgB X G xs2 xo14 xs3 xn x3 x9 1⟩,
   ⟨Rect.unit ![256, 0] S256x256.size inb_S512x1024_S256x256_256_0, hgB X G xs2 xo14 xs3 xn x3 x9 0⟩,
   ⟨Rect.unit ![0, 768] S256x256.size inb_S512x1024_S256x256_0_768, hgA X G xs2 xo14 xs3 xn x3 x9 3⟩,
   ⟨Rect.unit ![0, 512] S256x256.size inb_S512x1024_S256x256_0_512, hgA X G xs2 xo14 xs3 xn x3 x9 2⟩,
   ⟨Rect.unit ![0, 256] S256x256.size inb_S512x1024_S256x256_0_256, hgA X G xs2 xo14 xs3 xn x3 x9 1⟩,
   ⟨Rect.unit ![0, 0] S256x256.size inb_S512x1024_S256x256_0_0, hgA X G xs2 xo14 xs3 xn x3 x9 0⟩]
def cL : List (View.Piece (Elt F) S1x1x4x256x128 .f32) :=
  [⟨Rect.unit ![0, 0, 3, 0, 0] S1x1x1x256x128.size inb_S1x1x4x256x128_S1x1x1x256x128_0_0_3_0_0, k0_pay291 (ctB X G xs2 xs3 3)⟩,
   ⟨Rect.unit ![0, 0, 2, 0, 0] S1x1x1x256x128.size inb_S1x1x4x256x128_S1x1x1x256x128_0_0_2_0_0, k0_pay291 (ctB X G xs2 xs3 2)⟩,
   ⟨Rect.unit ![0, 0, 1, 0, 0] S1x1x1x256x128.size inb_S1x1x4x256x128_S1x1x1x256x128_0_0_1_0_0, k0_pay291 (ctB X G xs2 xs3 1)⟩,
   ⟨Rect.unit ![0, 0, 0, 0, 0] S1x1x1x256x128.size inb_S1x1x4x256x128_S1x1x1x256x128_0_0_0_0_0, k0_pay291 (ctB X G xs2 xs3 0)⟩]

/-! The same values, folded. -/

theorem fold_mA (h : Fin 4) : uM h (bcV 0 G) (gtV 0 G) (mI xs3 h) = mA G xs3 h := rfl
theorem fold_mB (h : Fin 4) : uM h (bcV 1 G) (gtV 1 G) (mA G xs3 h) = mB G xs3 h := rfl
theorem fold_ctA (h : Fin 4) : uCT 0 h X (gcV 0 G) (bcV 0 G) (gtV 0 G) (ctI xs2 h) (mI xs3 h) = ctA X G xs2 xs3 h := rfl
theorem fold_ctB (h : Fin 4) : uCT 1 h X (gcV 1 G) (bcV 1 G) (gtV 1 G) (ctA X G xs2 xs3 h) (mA G xs3 h) = ctB X G xs2 xs3 h := rfl
theorem fold_nA (h : Fin 4) : uN 0 h X (gcV 0 G) (bcV 0 G) (gtV 0 G) (nI xo14 h) (mI xs3 h) = nA X G xo14 xs3 h := rfl
theorem fold_nB (h : Fin 4) : uN 1 h X (gcV 1 G) (bcV 1 G) (gtV 1 G) (nA X G xo14 xs3 h) (mA G xs3 h) = nB X G xo14 xs3 h := rfl
theorem fold_moA (h : Fin 4) : uMO a0 (mA G xs3 h) (moI xo15 h) = moA G xs3 xo15 a0 h := rfl
theorem fold_moB (h : Fin 4) : uMO a0 (mB G xs3 h) (moA G xs3 xo15 a0 h) = moB G xs3 xo15 a0 h := rfl
theorem fold_hA (h : Fin 4) : uH 0 h X (bcV 0 G) (gtV 0 G) (ctI xs2 h) (nI xo14 h) (mI xs3 h) = hA X G xs2 xo14 xs3 h := rfl
theorem fold_hB (h : Fin 4) : uH 1 h X (bcV 1 G) (gtV 1 G) (ctA X G xs2 xs3 h) (nA X G xo14 xs3 h) (mA G xs3 h) = hB X G xs2 xo14 xs3 h := rfl
theorem fold_hgA_0 : uHG 0 xn (w256 x3 0) (w256 x3 4) (hA X G xs2 xo14 xs3 0) (nwI x9 0) = hgA X G xs2 xo14 xs3 xn x3 x9 0 := rfl
theorem fold_hgA_1 : uHG 0 xn (w256 x3 1) (w256 x3 5) (hA X G xs2 xo14 xs3 1) (nwI x9 1) = hgA X G xs2 xo14 xs3 xn x3 x9 1 := rfl
theorem fold_hgA_2 : uHG 0 xn (w256 x3 2) (w256 x3 6) (hA X G xs2 xo14 xs3 2) (nwI x9 2) = hgA X G xs2 xo14 xs3 xn x3 x9 2 := rfl
theorem fold_hgA_3 : uHG 0 xn (w256 x3 3) (w256 x3 7) (hA X G xs2 xo14 xs3 3) (nwI x9 3) = hgA X G xs2 xo14 xs3 xn x3 x9 3 := rfl
theorem fold_hgB_0 : uHG 1 xn (w256 x3 0) (w256 x3 4) (hB X G xs2 xo14 xs3 0) (nwI x9 0) = hgB X G xs2 xo14 xs3 xn x3 x9 0 := rfl
theorem fold_hgB_1 : uHG 1 xn (w256 x3 1) (w256 x3 5) (hB X G xs2 xo14 xs3 1) (nwI x9 1) = hgB X G xs2 xo14 xs3 xn x3 x9 1 := rfl
theorem fold_hgB_2 : uHG 1 xn (w256 x3 2) (w256 x3 6) (hB X G xs2 xo14 xs3 2) (nwI x9 2) = hgB X G xs2 xo14 xs3 xn x3 x9 2 := rfl
theorem fold_hgB_3 : uHG 1 xn (w256 x3 3) (w256 x3 7) (hB X G xs2 xo14 xs3 3) (nwI x9 3) = hgB X G xs2 xo14 xs3 xn x3 x9 3 := rfl
end
theorem gtU_0' (g : FVec F S512x128 .f32) : k0_pay16 (iota Kind.tc S256x128 32 [1] iota_S256x128_d1_w32) (iota Kind.tc S256x128 32 [0] iota_S256x128_d0_w32) (gcV 0 (gates g)) (k0_pay13 g k0_pay8 (FloatOps.ofBits FTy.f32 0#32)) k0_pay14 = gtV 0 (gates g) := rfl
theorem gtU_1' (g : FVec F S512x128 .f32) : k0_pay21 (iota Kind.tc S256x128 32 [1] iota_S256x128_d1_w32) (iota Kind.tc S256x128 32 [0] iota_S256x128_d0_w32) (gcV 1 (gates g)) (k0_pay18 (k0_pay9 g k0_pay8 (FloatOps.ofBits FTy.f32 0#32)) (iota Kind.tc S256x128 32 [0] iota_S256x128_d0_w32)) k0_pay19 = gtV 1 (gates g) := rfl
theorem ld_ct0 (x : Vec F S4x128x256 .f32) : View.ld x (Rect.unit ![0, 0, 0] S1x128x256.size inb_S4x128x256_S1x128x256_0_0_0) = ctI x 0 := rfl
theorem ld_ct1 (x : Vec F S4x128x256 .f32) : View.ld x (Rect.unit ![1, 0, 0] S1x128x256.size inb_S4x128x256_S1x128x256_1_0_0) = ctI x 1 := rfl
theorem ld_ct2 (x : Vec F S4x128x256 .f32) : View.ld x (Rect.unit ![2, 0, 0] S1x128x256.size inb_S4x128x256_S1x128x256_2_0_0) = ctI x 2 := rfl
theorem ld_ct3 (x : Vec F S4x128x256 .f32) : View.ld x (Rect.unit ![3, 0, 0] S1x128x256.size inb_S4x128x256_S1x128x256_3_0_0) = ctI x 3 := rfl
theorem ld_n0 (x : Vec F S1x1x4x128 .f32) : View.ld x (Rect.unit ![0, 0, 0, 0] S1x1x1x128.size inb_S1x1x4x128_S1x1x1x128_0_0_0_0) = nI x 0 := rfl
theorem ld_n1 (x : Vec F S1x1x4x128 .f32) : View.ld x (Rect.unit ![0, 0, 1, 0] S1x1x1x128.size inb_S1x1x4x128_S1x1x1x128_0_0_1_0) = nI x 1 := rfl
theorem ld_n2 (x : Vec F S1x1x4x128 .f32) : View.ld x (Rect.unit ![0, 0, 2, 0] S1x1x1x128.size inb_S1x1x4x128_S1x1x1x128_0_0_2_0) = nI x 2 := rfl
theorem ld_n3 (x : Vec F S1x1x4x128 .f32) : View.ld x (Rect.unit ![0, 0, 3, 0] S1x1x1x128.size inb_S1x1x4x128_S1x1x1x128_0_0_3_0) = nI x 3 := rfl
theorem ld_m0 (x : Vec F S8x128 .f32) : View.ld x (Rect.unit ![0, 0] S1x1.size inb_S8x128_S1x1_0_0) = mI x 0 := rfl
theorem ld_m1 (x : Vec F S8x128 .f32) : View.ld x (Rect.unit ![1, 0] S1x1.size inb_S8x128_S1x1_1_0) = mI x 1 := rfl
theorem ld_m2 (x : Vec F S8x128 .f32) : View.ld x (Rect.unit ![2, 0] S1x1.size inb_S8x128_S1x1_2_0) = mI x 2 := rfl
theorem ld_m3 (x : Vec F S8x128 .f32) : View.ld x (Rect.unit ![3, 0] S1x1.size inb_S8x128_S1x1_3_0) = mI x 3 := rfl
theorem ld_mo0 (x : Vec F S1x4x8 .f32) : View.ld x (Rect.unit ![0, 0, 0] S1x1x8.size inb_S1x4x8_S1x1x8_0_0_0) = moI x 0 := rfl
theorem ld_mo1 (x : Vec F S1x4x8 .f32) : View.ld x (Rect.unit ![0, 1, 0] S1x1x8.size inb_S1x4x8_S1x1x8_0_1_0) = moI x 1 := rfl
theorem ld_mo2 (x : Vec F S1x4x8 .f32) : View.ld x (Rect.unit ![0, 2, 0] S1x1x8.size inb_S1x4x8_S1x1x8_0_2_0) = moI x 2 := rfl
theorem ld_mo3 (x : Vec F S1x4x8 .f32) : View.ld x (Rect.unit ![0, 3, 0] S1x1x8.size inb_S1x4x8_S1x1x8_0_3_0) = moI x 3 := rfl
theorem ld_w256_0 (x : Vec F S1024x8192 .bf16) : View.ld x (Rect.unit ![0, 0] S1024x256.size inb_S1024x8192_S1024x256_0_0) = w256 x 0 := rfl
theorem ld_w256_1 (x : Vec F S1024x8192 .bf16) : View.ld x (Rect.unit ![0, 256] S1024x256.size inb_S1024x8192_S1024x256_0_256) = w256 x 1 := rfl
theorem ld_w256_2 (x : Vec F S1024x8192 .bf16) : View.ld x (Rect.unit ![0, 512] S1024x256.size inb_S1024x8192_S1024x256_0_512) = w256 x 2 := rfl
theorem ld_w256_3 (x : Vec F S1024x8192 .bf16) : View.ld x (Rect.unit ![0, 768] S1024x256.size inb_S1024x8192_S1024x256_0_768) = w256 x 3 := rfl
theorem ld_w256_4 (x : Vec F S1024x8192 .bf16) : View.ld x (Rect.unit ![0, 1024] S1024x256.size inb_S1024x8192_S1024x256_0_1024) = w256 x 4 := rfl
theorem ld_w256_5 (x : Vec F S1024x8192 .bf16) : View.ld x (Rect.unit ![0, 1280] S1024x256.size inb_S1024x8192_S1024x256_0_1280) = w256 x 5 := rfl
theorem ld_w256_6 (x : Vec F S1024x8192 .bf16) : View.ld x (Rect.unit ![0, 1536] S1024x256.size inb_S1024x8192_S1024x256_0_1536) = w256 x 6 := rfl
theorem ld_w256_7 (x : Vec F S1024x8192 .bf16) : View.ld x (Rect.unit ![0, 1792] S1024x256.size inb_S1024x8192_S1024x256_0_1792) = w256 x 7 := rfl
theorem ld_w1024_2 (x : Vec F S1024x8192 .bf16) : View.ld x (Rect.unit ![0, 2048] S1024x1024.size inb_S1024x8192_S1024x1024_0_2048) = w1024 x 2 := rfl
theorem ld_w1024_3 (x : Vec F S1024x8192 .bf16) : View.ld x (Rect.unit ![0, 3072] S1024x1024.size inb_S1024x8192_S1024x1024_0_3072) = w1024 x 3 := rfl
theorem ld_w1024_4 (x : Vec F S1024x8192 .bf16) : View.ld x (Rect.unit ![0, 4096] S1024x1024.size inb_S1024x8192_S1024x1024_0_4096) = w1024 x 4 := rfl
theorem ld_w1024_5 (x : Vec F S1024x8192 .bf16) : View.ld x (Rect.unit ![0, 5120] S1024x1024.size inb_S1024x8192_S1024x1024_0_5120) = w1024 x 5 := rfl
theorem ld_w1024_6 (x : Vec F S1024x8192 .bf16) : View.ld x (Rect.unit ![0, 6144] S1024x1024.size inb_S1024x8192_S1024x1024_0_6144) = w1024 x 6 := rfl
theorem ld_w1024_7 (x : Vec F S1024x8192 .bf16) : View.ld x (Rect.unit ![0, 7168] S1024x1024.size inb_S1024x8192_S1024x1024_0_7168) = w1024 x 7 := rfl
theorem ld_nw0 (x : Vec F S1x1024 .f32) : View.ld x (Rect.unit ![0, 0] S1x256.size inb_S1x1024_S1x256_0_0) = nwI x 0 := rfl
theorem ld_nw1 (x : Vec F S1x1024 .f32) : View.ld x (Rect.unit ![0, 256] S1x256.size inb_S1x1024_S1x256_0_256) = nwI x 1 := rfl
theorem ld_nw2 (x : Vec F S1x1024 .f32) : View.ld x (Rect.unit ![0, 512] S1x256.size inb_S1x1024_S1x256_0_512) = nwI x 2 := rfl
theorem ld_nw3 (x : Vec F S1x1024 .f32) : View.ld x (Rect.unit ![0, 768] S1x256.size inb_S1x1024_S1x256_0_768) = nwI x 3 := rfl
theorem ld_cw0 (x : Vec F S1x3072 .f32) : View.ld x (Rect.unit ![0, 0] S1x1024.size inb_S1x3072_S1x1024_0_0) = cwI x 0 := rfl
theorem ld_cw1 (x : Vec F S1x3072 .f32) : View.ld x (Rect.unit ![0, 1024] S1x1024.size inb_S1x3072_S1x1024_0_1024) = cwI x 1 := rfl
theorem ld_cw2 (x : Vec F S1x3072 .f32) : View.ld x (Rect.unit ![0, 2048] S1x1024.size inb_S1x3072_S1x1024_0_2048) = cwI x 2 := rfl
theorem pay292 (x : Vec F S1x128x256 .f32) : k0_pay292 x = k0_pay291 x := rfl
theorem pay293 (x : Vec F S1x128x256 .f32) : k0_pay293 x = k0_pay291 x := rfl
theorem pay294 (x : Vec F S1x128x256 .f32) : k0_pay294 x = k0_pay291 x := rfl
theorem ld_f1x512x1024 (x : Vec F S1x512x1024 .f32) : View.ld x (Rect.unit ![0, 0, 0] S1x512x1024.size inb_S1x512x1024_S1x512x1024_0_0_0) = x := View.ld_unit_zero hz3 _ x
theorem ld_f1x1024 (x : Vec F S1x1024 .f32) : View.ld x (Rect.unit ![0, 0] S1x1024.size inb_S1x1024_S1x1024_0_0) = x := View.ld_unit_zero hz2 _ x
theorem ld_f1024x2048 (x : Vec F S1024x2048 .bf16) : View.ld x (Rect.unit ![0, 0] S1024x2048.size inb_S1024x2048_S1024x2048_0_0) = x := View.ld_unit_zero hz2 _ x
theorem ld_f1024x128 (x : Vec F S1024x128 .bf16) : View.ld x (Rect.unit ![0, 0] S1024x128.size inb_S1024x128_S1024x128_0_0) = x := View.ld_unit_zero hz2 _ x
theorem ld_f1x128 (x : Vec F S1x128 .f32) : View.ld x (Rect.unit ![0, 0] S1x128.size inb_S1x128_S1x128_0_0) = x := View.ld_unit_zero hz2 _ x
theorem ld_f1024x1024 (x : Vec F S1024x1024 .bf16) : View.ld x (Rect.unit ![0, 0] S1024x1024.size inb_S1024x1024_S1024x1024_0_0) = x := View.ld_unit_zero hz2 _ x

/-! The convolution's rows: the last rows of the block before stand over this block's. -/

/-- The input of the convolution. -/
def uV (xn : FVec F S512x1024 .bf16) (x3 : Vec F S1024x8192 .bf16) : FVec F S512x1024 .f32 := k0_pay157 xn (w1024 x3 3) (w1024 x3 4)
def ubW (xn : FVec F S512x1024 .bf16) (x3 : Vec F S1024x8192 .bf16) (xs1 : Vec F S528x1024 .f32) : Vec F S528x1024 .f32 :=
  VecWindow.put xs1 ![8, 0] S512x1024.size (uV xn x3)
def ubTail (xn : FVec F S512x1024 .bf16) (x3 : Vec F S1024x8192 .bf16) : Vec F S8x1024 .f32 :=
  k0_pay289 (extractStridedSlice S8x1024 ![504, 0] (uV xn x3) (by decide))
def ubL (xn : FVec F S512x1024 .bf16) (x3 : Vec F S1024x8192 .bf16) : List (View.Piece (Elt F) S528x1024 .f32) :=
  [⟨Rect.unit ![0, 0] S8x1024.size inb_S528x1024_S8x1024_0_0, ubTail xn x3⟩, ⟨Rect.unit ![8, 0] S512x1024.size inb_S528x1024_S512x1024_8_0, uV xn x3⟩]

/-! Reading the rows back. -/

theorem readCov_ub504 {κ : Kind} {sp : Space} (v : View sig κ sp S528x1024 .f32) (inb : ∀ a, (![8, 0] : Fin 2 → ℕ) a + S512x1024.size a ≤ S528x1024.size a)
    (inb' : ∀ a, (![512, 0] : Fin 2 → ℕ) a + S8x1024.size a ≤ S528x1024.size a) (w : FVec F S512x1024 .f32) (L : List (View.Piece (Elt F) S528x1024 .f32)) :
    v.readCov (⟨Rect.unit ![8, 0] S512x1024.size inb, w⟩ :: L) (Rect.unit (s := S528x1024) ![512, 0] S8x1024.size inb').toLoadRect
      = extractStridedSlice S8x1024 ![504, 0] w (by decide) := by
  rw [View.readCov_eq_canon']
  funext j
  have e : (Rect.unit (s := S528x1024) ![512, 0] S8x1024.size inb').toLoadRect.idx j = (Rect.unit (s := S528x1024) ![8, 0] S512x1024.size inb).emb
      (fun a => ⟨(![504, 0] : Fin 2 → ℕ) a + (j a).val, by have := (j a).isLt; fin_cases a <;> [change _ < 8 at this; change _ < 1024 at this] <;> [(show 504 + (j _).val < 512); (show 0 + (j _).val < 1024)] <;> omega⟩) := by
    funext a; apply Fin.ext
    fin_cases a
    · show 512 + 1 * (j _).val = 8 + 1 * (504 + (j _).val); omega
    · show 0 + 1 * (j _).val = 0 + 1 * (0 + (j _).val); omega
  show View.canon _ ((Rect.unit (s := S528x1024) ![512, 0] S8x1024.size inb').toLoadRect.idx j) = _
  rw [e, View.canon_cons_emb]
  rfl
theorem readCov_ub6 {κ : Kind} {sp : Space} (v : View sig κ sp S528x1024 .f32) (inb : ∀ a, (![0, 0] : Fin 2 → ℕ) a + S8x1024.size a ≤ S528x1024.size a)
    (inb' : ∀ a, (![6, 0] : Fin 2 → ℕ) a + S2x1024.size a ≤ S528x1024.size a) (w : FVec F S8x1024 .f32) (L : List (View.Piece (Elt F) S528x1024 .f32)) :
    v.readCov (⟨Rect.unit ![0, 0] S8x1024.size inb, w⟩ :: L) (Rect.unit (s := S528x1024) ![6, 0] S2x1024.size inb').toLoadRect
      = extractStridedSlice S2x1024 ![6, 0] w (by decide) := by
  rw [View.readCov_eq_canon']
  funext j
  have e : (Rect.unit (s := S528x1024) ![6, 0] S2x1024.size inb').toLoadRect.idx j = (Rect.unit (s := S528x1024) ![0, 0] S8x1024.size inb).emb
      (fun a => ⟨(![6, 0] : Fin 2 → ℕ) a + (j a).val, by have := (j a).isLt; fin_cases a <;> [change _ < 2 at this; change _ < 1024 at this] <;> [(show 6 + (j _).val < 8); (show 0 + (j _).val < 1024)] <;> omega⟩) := by
    funext a; apply Fin.ext
    fin_cases a
    · show 6 + 1 * (j _).val = 0 + 1 * (6 + (j _).val); omega
    · show 0 + 1 * (j _).val = 0 + 1 * (0 + (j _).val); omega
  show View.canon _ ((Rect.unit (s := S528x1024) ![6, 0] S2x1024.size inb').toLoadRect.idx j) = _
  rw [e, View.canon_cons_emb]
  rfl
theorem read_ub (arg20 : Memref sig .tc .vmem S528x1024 .f32) (harg20 : arg20.IsWhole) (xs1 : Vec F S528x1024 .f32)
    (inb : ∀ a, (![8, 0] : Fin 2 → ℕ) a + S512x1024.size a ≤ S528x1024.size a) (w : FVec F S512x1024 .f32) :
    arg20.view.read (Elt F) (arg20.view.writes (Elt F) (harg20.unread xs1) [⟨Rect.unit ![8, 0] S512x1024.size inb, w⟩]) = VecWindow.put xs1 ![8, 0] S512x1024.size w := by
  refine (View.read_writes_cons_put (Val := Elt F) arg20.view (harg20.unread xs1) inb w [] rfl).trans ?_
  show VecWindow.put (arg20.view.read (Elt F) (harg20.unread xs1)) _ _ _ = _
  rw [harg20.read_unread]
theorem readCov_ubAt (xs1 : Vec F S528x1024 .f32) {κ : Kind} {sp : Space} (v : View sig κ sp S528x1024 .f32) (inb : ∀ a, (![8, 0] : Fin 2 → ℕ) a + S512x1024.size a ≤ S528x1024.size a)
    (inb0 : ∀ a, (![0, 0] : Fin 2 → ℕ) a + S8x1024.size a ≤ S528x1024.size a) (w : FVec F S512x1024 .f32) (w0 : FVec F S8x1024 .f32) (k : ℕ) (hk : k ≤ 8)
    (inb' : ∀ a, (![k, 0] : Fin 2 → ℕ) a + S512x1024.size a ≤ S528x1024.size a) :
    v.readCov [⟨Rect.unit ![8, 0] S512x1024.size inb, w⟩, ⟨Rect.unit ![0, 0] S8x1024.size inb0, w0⟩] (Rect.unit (s := S528x1024) ![k, 0] S512x1024.size inb').toLoadRect
      = View.ld (VecWindow.put (VecWindow.put xs1 ![0, 0] S8x1024.size w0) ![8, 0] S512x1024.size w) (Rect.unit ![k, 0] S512x1024.size inb') := by
  unfold View.readCov
  rw [View.readAt_eq_ld, (View.read_writes_cons_put (Val := Elt F) v v.junk inb w [⟨Rect.unit ![0, 0] S8x1024.size inb0, w0⟩] rfl :),
    (View.read_writes_cons_put (Val := Elt F) v v.junk inb0 w0 [] rfl :)]
  funext j
  have h0 := (j 0).isLt
  have h1 := (j 1).isLt
  change (j 0).val < 512 at h0
  change (j 1).val < 1024 at h1
  let e := (Rect.unit (s := S528x1024) ![k, 0] S512x1024.size inb').emb j
  have e0 : (e 0).val = k + (j 0).val := by show k + 1 * (j 0).val = _; omega
  have e1 : (e 1).val = (j 1).val := by show 0 + 1 * (j 1).val = _; omega
  show VecWindow.put (s := S528x1024) (VecWindow.put (s := S528x1024) _ ![0, 0] S8x1024.size w0) ![8, 0] S512x1024.size w e = VecWindow.put (VecWindow.put xs1 ![0, 0] S8x1024.size w0) ![8, 0] S512x1024.size w e
  unfold VecWindow.put
  by_cases h : ∀ a, (![8, 0] : Fin 2 → ℕ) a ≤ (e a).val ∧ (e a).val < (![8, 0] : Fin 2 → ℕ) a + S512x1024.size a
  · rw [dif_pos h, dif_pos h]
  · rw [dif_neg h, dif_neg h]
    have h' : ∀ a, (![0, 0] : Fin 2 → ℕ) a ≤ (e a).val ∧ (e a).val < (![0, 0] : Fin 2 → ℕ) a + S8x1024.size a := by
      intro a
      fin_cases a
      · refine ⟨Nat.zero_le _, ?_⟩
        show (e 0).val < 0 + 8
        by_contra hc
        refine h fun a => ?_
        fin_cases a
        · refine ⟨?_, ?_⟩
          · show 8 ≤ (e 0).val; omega
          · show (e 0).val < 8 + 512; omega
        · refine ⟨Nat.zero_le _, ?_⟩
          show (e 1).val < 0 + 1024; omega
      · refine ⟨Nat.zero_le _, ?_⟩
        show (e 1).val < 0 + 1024; omega
    rw [dif_pos h', dif_pos h']

theorem readCov_hg {κ : Kind} {sp : Space} (v : View sig κ sp S512x1024 .bf16) (inb : ∀ a, (![0, 0] : Fin 2 → ℕ) a + S512x1024.size a ≤ S512x1024.size a)
    (L : List (View.Piece (Elt F) S512x1024 .bf16)) : v.readCov L (Rect.unit (s := S512x1024) ![0, 0] S512x1024.size inb).toLoadRect = View.canon L := by
  rw [View.readCov_eq_canon']
  funext j
  refine congrArg (View.canon L) (funext fun a => Fin.ext ?_)
  fin_cases a
  · show 0 + 1 * (j 0).val = (j 0).val; omega
  · show 0 + 1 * (j 1).val = (j 1).val; omega
theorem fold_conv (xn : FVec F S512x1024 .bf16) (x3 : Vec F S1024x8192 .bf16) : k0_pay157 xn (w1024 x3 3) (w1024 x3 4) = uV xn x3 := rfl
theorem inb6 : ∀ a, (![6, 0] : Fin 2 → ℕ) a + S512x1024.size a ≤ S528x1024.size a := by decide
theorem inb7 : ∀ a, (![7, 0] : Fin 2 → ℕ) a + S512x1024.size a ≤ S528x1024.size a := by decide
def convV (xn : FVec F S512x1024 .bf16) (x3 : Vec F S1024x8192 .bf16) (x10 : Vec F S1x3072 .f32) (xs1 : Vec F S528x1024 .f32) : FVec F S512x1024 .f32 :=
  k0_pay158 xn (w1024 x3 3) (w1024 x3 4) (cwI x10 0) (View.ld (ubW xn x3 xs1) (Rect.unit ![6, 0] S512x1024.size inb_S528x1024_S512x1024_6_0))
    (cwI x10 1) (View.ld (ubW xn x3 xs1) (Rect.unit ![7, 0] S512x1024.size inb_S528x1024_S512x1024_7_0)) (cwI x10 2)
def convOut (xn : FVec F S512x1024 .bf16) (x3 : Vec F S1024x8192 .bf16) : FVec F S1x1x2x1024 .f32 :=
  k0_pay290 (extractStridedSlice S2x1024 ![6, 0] (ubTail xn x3) (by decide))
/-- The block of the layer's output. -/
def yV (xn : FVec F S512x1024 .bf16) (x3 : Vec F S1024x8192 .bf16) (conv : FVec F S512x1024 .f32) (hg : Vec F S512x1024 .bf16)
    (x0 : Vec F S1x512x1024 .f32) (x4 x5 x6 : Vec F S1024x1024 .bf16) (x11 : Vec F S1x1024 .f32) : FVec F S1x512x1024 .f32 :=
  k0_pay295 (k0_pay225 xn (k0_pay193 xn conv (k0_pay191 xn (w1024 x3 5)) (k0_pay192 xn (w1024 x3 5)) (FloatOps.ofBits FTy.f32 1056964608#32) (w1024 x3 2)) (w1024 x3 7) x5)
    (k0_pay255 xn (w1024 x3 6)) hg x4 x0 x6 x11

end Cert.KernelIdeal.Hand

end
-- ==== Proof.State.lean ====
/- What the body leaves at each point of the grid, by recursion over the points. -/
module

public import proofs.«01_k».proof.Proof.Body
public import Idealize.ShloMosaic.Lib.Pipeline.CanonAppend

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (c : Dev nD)

/-- The state carried from point to point: the matrix memory (transposed), the normaliser, the stabiliser and the collected stabilisers. -/
structure St (F : FTy → Type) [FloatOps F] where
  ct : Vec F S4x128x256 .f32
  n : Vec F S1x1x4x128 .f32
  mm : Vec F S8x128 .f32
  mo : Vec F S1x4x8 .f32

def xnT (t : Fin cfg0.N) : FVec F S512x1024 .bf16 := k0_pay6 (iblk m c 0 t) (iblk m c 7 t)
def XT (t : Fin cfg0.N) : FVec F S512x2048 .f32 := k0_pay10 (xnT m c t) (iblk m c 1 t)
def GT (t : Fin cfg0.N) : FVec F S512x128 .f32 := gates (k0_pay7 (iblk m c 0 t) (iblk m c 7 t) (iblk m c 2 t) (iblk m c 8 t))
def st0 : St F := ⟨k0_pay2, k0_pay3, k0_pay4, k0_pay1⟩
/-- The state at the start of a point: at a sequence's first point the memories start afresh. -/
def startSt (n : ℕ) (s : St F) : St F := if n % 4 = 0 then ⟨k0_pay2, k0_pay3, k0_pay4, s.mo⟩ else s
def fullM (x : Vec F S8x128 .f32) : View.Piece (Elt F) S8x128 .f32 := ⟨Rect.unit ![0, 0] S8x128.size inb_S8x128_S8x128_0_0, x⟩
def stepSt (t : Fin cfg0.N) (s : St F) : St F :=
  ⟨View.canon (ctL (XT m c t) (GT m c t) s.ct s.mm), View.canon (nL (XT m c t) (GT m c t) s.n s.mm),
    View.canon (mL (GT m c t) s.mm ++ [fullM s.mm]), View.canon (moL (GT m c t) s.mm s.mo (BitVec.ofNat 32 (grid0.coords t 0).val))⟩
theorem stepSt_ct (t : Fin cfg0.N) (s : St F) : (stepSt m c t s).ct = View.canon (ctL (XT m c t) (GT m c t) s.ct s.mm) := by unfold stepSt; dsimp only
theorem stepSt_n (t : Fin cfg0.N) (s : St F) : (stepSt m c t s).n = View.canon (nL (XT m c t) (GT m c t) s.n s.mm) := by unfold stepSt; dsimp only
theorem stepSt_mm (t : Fin cfg0.N) (s : St F) : (stepSt m c t s).mm = View.canon (mL (GT m c t) s.mm ++ [fullM s.mm]) := by unfold stepSt; dsimp only
theorem stepSt_mo (t : Fin cfg0.N) (s : St F) : (stepSt m c t s).mo = View.canon (moL (GT m c t) s.mm s.mo (BitVec.ofNat 32 (grid0.coords t 0).val)) := by unfold stepSt; dsimp only
def stAt : (n : ℕ) → n < cfg0.N → St F
  | 0, h => stepSt m c ⟨0, h⟩ (startSt 0 st0)
  | n + 1, h => stepSt m c ⟨n + 1, h⟩ (startSt (n + 1) (stAt n (Nat.lt_of_succ_lt h)))
def prevSt : (n : ℕ) → n < cfg0.N → St F
  | 0, _ => st0
  | n + 1, h => stAt m c n (Nat.lt_of_succ_lt h)
def inS (t : Fin cfg0.N) : St F := startSt t.val (prevSt m c t.val t.isLt)
theorem stAt_eq (t : Fin cfg0.N) : stAt m c t.val t.isLt = stepSt m c t (inS m c t) := by
  obtain ⟨n, h⟩ := t; cases n <;> rfl
theorem prevSt_pos (t : Fin cfg0.N) (h : t.val ≠ 0) : prevSt m c t.val t.isLt = stAt m c (t.val - 1) (Nat.lt_of_le_of_lt (Nat.sub_le _ _) t.isLt) := by
  obtain ⟨n, hn⟩ := t; cases n with
  | zero => exact absurd rfl h
  | succ n => rfl
/-- The rows before a block's own: nothing at a sequence's first point, the last rows of the block before at any other. -/
def tailT (t : Fin cfg0.N) : Vec F S8x1024 .f32 :=
  if t.val % 4 = 0 then k0_pay5
  else ubTail (xnT m c ⟨t.val - 1, Nat.lt_of_le_of_lt (Nat.sub_le _ _) t.isLt⟩) (iblk m c 3 ⟨t.val - 1, Nat.lt_of_le_of_lt (Nat.sub_le _ _) t.isLt⟩)
def ubOf (tl : Vec F S8x1024 .f32) : Vec F S528x1024 .f32 := VecWindow.put (s := S528x1024) (fun _ => FloatOps.ofBits .f32 0#32) ![0, 0] S8x1024.size tl
def Agree (u v : Vec F S528x1024 .f32) : Prop := ∀ i : S528x1024.Idx, (i 0).val < 8 → u i = v i
theorem agree_put (u v : Vec F S528x1024 .f32) (w : Vec F S8x1024 .f32) :
    Agree (VecWindow.put (s := S528x1024) u ![0, 0] S8x1024.size w) (VecWindow.put (s := S528x1024) v ![0, 0] S8x1024.size w) := fun i hi => by
  have hall : ∀ a, (![0, 0] : Fin 2 → ℕ) a ≤ (i a).val ∧ (i a).val < (![0, 0] : Fin 2 → ℕ) a + S8x1024.size a := by
    intro a; fin_cases a
    · exact ⟨Nat.zero_le _, by simpa using hi⟩
    · exact ⟨Nat.zero_le _, by have := (i 1).isLt; simpa using this⟩
  unfold VecWindow.put
  rw [dif_pos hall, dif_pos hall]
theorem convV_congr (xn : FVec F S512x1024 .bf16) (x3 : Vec F S1024x8192 .bf16) (x10 : Vec F S1x3072 .f32) (u v : Vec F S528x1024 .f32) (h : Agree u v) :
    convV xn x3 x10 u = convV xn x3 x10 v := by
  have key : ∀ i : S528x1024.Idx, (i 0).val < 520 → ubW xn x3 u i = ubW xn x3 v i := fun i hi => by
    unfold ubW VecWindow.put
    by_cases hp : ∀ a, (![8, 0] : Fin 2 → ℕ) a ≤ (i a).val ∧ (i a).val < (![8, 0] : Fin 2 → ℕ) a + S512x1024.size a
    · rw [dif_pos hp, dif_pos hp]
    · rw [dif_neg hp, dif_neg hp]
      apply h
      by_contra hlt
      apply hp
      intro a; fin_cases a
      · exact ⟨by simpa using hlt, by simpa using hi⟩
      · exact ⟨Nat.zero_le _, by have := (i 1).isLt; simpa using this⟩
  have h6 : View.ld (Val := Elt F) (ubW xn x3 u) (Rect.unit ![6, 0] S512x1024.size inb_S528x1024_S512x1024_6_0) = View.ld (Val := Elt F) (ubW xn x3 v) (Rect.unit ![6, 0] S512x1024.size inb_S528x1024_S512x1024_6_0) :=
    funext fun j => key _ (by have := (j 0).isLt; show 6 + 1 * (j 0).val < 520; simp at this ⊢; omega)
  have h7 : View.ld (Val := Elt F) (ubW xn x3 u) (Rect.unit ![7, 0] S512x1024.size inb_S528x1024_S512x1024_7_0) = View.ld (Val := Elt F) (ubW xn x3 v) (Rect.unit ![7, 0] S512x1024.size inb_S528x1024_S512x1024_7_0) :=
    funext fun j => key _ (by have := (j 0).isLt; show 7 + 1 * (j 0).val < 520; simp at this ⊢; omega)
  unfold convV
  rw [h6, h7]

/-! What the outputs hold at each point. -/
def hgT (t : Fin cfg0.N) : Vec F S512x1024 .bf16 :=
  View.canon (hgL (XT m c t) (GT m c t) (inS m c t).ct (inS m c t).n (inS m c t).mm (xnT m c t) (iblk m c 3 t) (iblk m c 9 t))
def yT (t : Fin cfg0.N) : Vec F S1x512x1024 .f32 :=
  yV (xnT m c t) (iblk m c 3 t) (convV (xnT m c t) (iblk m c 3 t) (iblk m c 10 t) (ubOf (tailT m c t))) (hgT m c t) (iblk m c 0 t) (iblk m c 4 t) (iblk m c 5 t) (iblk m c 6 t) (iblk m c 11 t)
def cT (t : Fin cfg0.N) : Vec F S1x1x4x256x128 .f32 := View.canon (cL (XT m c t) (GT m c t) (inS m c t).ct (inS m c t).mm)
def cvT (t : Fin cfg0.N) : Vec F S1x1x2x1024 .f32 := convOut (xnT m c t) (iblk m c 3 t)

/-! Pieces that cover. -/
section
variable {κ : Kind} {sp : Space} {s : Shape} {e : EltTy}
theorem rd_append (v : View sig κ sp s e) (f : v.ty.Contents (Elt F)) (L L' : List (View.Piece (Elt F) s e)) (h : ∀ y, ∃ p ∈ L, y ∈ p.1.set) :
    v.read (Elt F) (v.writes (Elt F) f (L ++ L')) = View.canon L := by
  rw [View.writes_append]; exact View.read_writes_eq_canon v _ L h
end
theorem ctL_cover (X G a b) : ∀ y : S4x128x256.Idx, ∃ p ∈ ctL (F := F) X G a b, y ∈ p.1.set := View.cover_of_tiledL (ctL X G a b) S1x128x256.size (by sl_kernel_rfl)
theorem nL_cover (X G a b) : ∀ y : S1x1x4x128.Idx, ∃ p ∈ nL (F := F) X G a b, y ∈ p.1.set := View.cover_of_tiledL (nL X G a b) S1x1x1x128.size (by sl_kernel_rfl)
theorem moL_cover (G a b i) : ∀ y : S1x4x8.Idx, ∃ p ∈ moL (F := F) G a b i, y ∈ p.1.set := View.cover_of_tiledL (moL G a b i) S1x1x8.size (by sl_kernel_rfl)
theorem cL_cover (X G a b) : ∀ y : S1x1x4x256x128.Idx, ∃ p ∈ cL (F := F) X G a b, y ∈ p.1.set := View.cover_of_tiledL (cL X G a b) S1x1x1x256x128.size (by sl_kernel_rfl)
theorem mLf_cover (G a x) : ∀ y : S8x128.Idx, ∃ p ∈ mL (F := F) G a ++ [fullM x], y ∈ p.1.set := fun y =>
  ⟨fullM x, by simp, by
    obtain ⟨p, hp, hy⟩ := View.cover_of_tiledL [fullM x] S8x128.size (by sl_kernel_rfl) y
    rw [List.mem_singleton] at hp; subst hp; exact hy⟩
theorem rd_mB (arg22 : Memref sig .tc .vmem S8x128 .f32) (h : arg22.IsWhole) (x : Vec F S8x128 .f32) (G a) :
    arg22.view.read (Elt F) (arg22.view.writes (Elt F) (h.unread x) (mL G a)) = View.canon (mL G a ++ [fullM x]) := by
  have e : h.unread x = arg22.view.writes (Elt F) (h.unread x) [fullM x] :=
    (h.eq_unread (View.read_writes_full (Val := Elt F) arg22.view (h.unread x) (off := ![0, 0]) inb_S8x128_S8x128_0_0 x [])).symm
  rw [e, ← View.writes_append]
  exact View.read_writes_eq_canon _ _ _ (mLf_cover G a x)
theorem agree_ubB {κ : Kind} {sp : Space} (v : View sig κ sp S528x1024 .f32) (f : v.ty.Contents (Elt F)) (xn x3) :
    Agree (v.read (Elt F) (v.writes (Elt F) f (ubL xn x3))) (ubOf (ubTail xn x3)) := by
  unfold ubL ubOf
  rw [View.read_writes_cons_put (Val := Elt F) v f inb_S528x1024_S8x1024_0_0 _ _ rfl]
  exact agree_put _ _ _
theorem agree_ubA {κ : Kind} {sp : Space} (v : View sig κ sp S528x1024 .f32) (f : v.ty.Contents (Elt F)) (xn x3) :
    Agree (v.read (Elt F) (v.writes (Elt F) f (ubL xn x3 ++ [⟨Rect.unit ![0, 0] S8x1024.size inb_S528x1024_S8x1024_0_0, k0_pay5⟩]))) (ubOf (ubTail xn x3)) := by
  rw [View.writes_append]; exact agree_ubB v _ xn x3

end Cert.KernelIdeal.Hand

end
-- ==== Proof.RunB.lean ====
/- The body at a point inside a sequence: the pieces each buffer ends with, over what the point before left. -/
module

public import proofs.«01_k».proof.Proof.RunBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1440000 in
/-- The body at a point inside a sequence: the pieces each buffer ends with, over what the point before left. -/
noncomputable def runB (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : ¬cond0_0 i) (hc1 : ¬cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xo14 : Vec F S1x1x4x128 .f32) (xo15 : Vec F S1x4x8 .f32) (xs1 : Vec F S528x1024 .f32) (xs2 : Vec F S4x128x256 .f32) (xs3 : Vec F S8x128 .f32) :
    Σ' (L12 : List (View.Piece (Elt F) S1x512x1024 .f32)), Σ' (L13 : List (View.Piece (Elt F) S1x1x4x256x128 .f32)), Σ' (L14 : List (View.Piece (Elt F) S1x1x4x128 .f32)), Σ' (L15 : List (View.Piece (Elt F) S1x4x8 .f32)), Σ' (L16 : List (View.Piece (Elt F) S1x1x2x1024 .f32)), Σ' (LS1 : List (View.Piece (Elt F) S528x1024 .f32)), Σ' (LS2 : List (View.Piece (Elt F) S4x128x256 .f32)), Σ' (LS3 : List (View.Piece (Elt F) S8x128 .f32)), { LT0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ (∃ d, owns (c : Thread nD τ) arg18 fullShare d) ∗ (∃ d, owns (c : Thread nD τ) arg19 fullShare d) ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0) ∗ (arg20.view.loc (c : Thread nD τ) ↦[arg20.view.set]{fullShare} arg20.view.writes (Elt F) (harg20.unread xs1) LS1) ∗ (∃ f, arg21.view.loc (c : Thread nD τ) ↦[arg21.view.set]{fullShare} arg21.view.writes (Elt F) f LS2) ∗ (arg22.view.loc (c : Thread nD τ) ↦[arg22.view.set]{fullShare} arg22.view.writes (Elt F) (harg22.unread xs3) LS3)) -∗ K ⟨⟩))
          ⊢ wp frame (wpE (defs₀ (F := F)) Variants.none c none) E (cc0_prompt_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_prompt_layer_eq_skeleton]; unfold cc0_prompt_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg20.eq_unread hfs1; obtain rfl := harg21.eq_unread hfs2; obtain rfl := harg22.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexact HS1
    isplitl [HS2]; · iexists _; iexact HS2
    iexact HS3

end Cert.KernelIdeal.Hand

end
-- ==== Proof.RunC.lean ====
/- The body at the first point of a sequence other than the first: the carried state is cleared, the stabilizers of the earlier sequences are kept. -/
module

public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1484000 in
/-- The body at the first point of a sequence other than the first: the carried state is cleared, the stabilizers of the earlier sequences are kept. -/
noncomputable def runC (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : ¬cond0_0 i) (hc1 : cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xo15 : Vec F S1x4x8 .f32) (xs1 : Vec F S528x1024 .f32) :
    Σ' (L12 : List (View.Piece (Elt F) S1x512x1024 .f32)), Σ' (L13 : List (View.Piece (Elt F) S1x1x4x256x128 .f32)), Σ' (L14 : List (View.Piece (Elt F) S1x1x4x128 .f32)), Σ' (L15 : List (View.Piece (Elt F) S1x4x8 .f32)), Σ' (L16 : List (View.Piece (Elt F) S1x1x2x1024 .f32)), Σ' (LS1 : List (View.Piece (Elt F) S528x1024 .f32)), Σ' (LS2 : List (View.Piece (Elt F) S4x128x256 .f32)), Σ' (LS3 : List (View.Piece (Elt F) S8x128 .f32)), { LT0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo15 ∗ (∃ d, owns (c : Thread nD τ) arg18 fullShare d) ∗ (∃ d, owns (c : Thread nD τ) arg19 fullShare d) ∗ owns (c : Thread nD τ) arg20 fullShare xs1 ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0) ∗ (arg20.view.loc (c : Thread nD τ) ↦[arg20.view.set]{fullShare} arg20.view.writes (Elt F) (harg20.unread xs1) LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3)) -∗ K ⟨⟩))
          ⊢ wp frame (wpE (defs₀ (F := F)) Variants.none c none) E (cc0_prompt_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_prompt_layer_eq_skeleton]; unfold cc0_prompt_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%d16, %f16, -, H16⟩, ⟨%ds0, %fs0, -, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg20.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexact HS1
    isplitl [HS2]; · iexists _; iexact HS2
    iexists _; iexact HS3

end Cert.KernelIdeal.Hand

end
-- ==== Proof.RunA.lean ====
/- The body at the first point of the grid: the carried state and the table of stabilizers are cleared. -/
module

public import proofs.«01_k».proof.Proof.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1492000 in
/-- The body at the first point of the grid: the carried state and the table of stabilizers are cleared. -/
noncomputable def runA (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : cond0_0 i) (hc1 : cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xs1 : Vec F S528x1024 .f32) :
    Σ' (L12 : List (View.Piece (Elt F) S1x512x1024 .f32)), Σ' (L13 : List (View.Piece (Elt F) S1x1x4x256x128 .f32)), Σ' (L14 : List (View.Piece (Elt F) S1x1x4x128 .f32)), Σ' (L15 : List (View.Piece (Elt F) S1x4x8 .f32)), Σ' (L16 : List (View.Piece (Elt F) S1x1x2x1024 .f32)), Σ' (LS1 : List (View.Piece (Elt F) S528x1024 .f32)), Σ' (LS2 : List (View.Piece (Elt F) S4x128x256 .f32)), Σ' (LS3 : List (View.Piece (Elt F) S8x128 .f32)), { LT0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs1 ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0) ∗ (arg20.view.loc (c : Thread nD τ) ↦[arg20.view.set]{fullShare} arg20.view.writes (Elt F) (harg20.unread xs1) LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3)) -∗ K ⟨⟩))
          ⊢ wp frame (wpE (defs₀ (F := F)) Variants.none c none) E (cc0_prompt_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_prompt_layer_eq_skeleton]; unfold cc0_prompt_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg20.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexact HS1
    isplitl [HS2]; · iexists _; iexact HS2
    iexists _; iexact HS3

end Cert.KernelIdeal.Hand

end
-- ==== Proof.ValA.lean ====
/- The values of a run of the body in case A: the pieces of each buffer by the vocabulary of the body. -/
module

public import proofs.«01_k».proof.Proof.Body
public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What a run of this case leaves in each buffer. -/
theorem runA_vals  (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : cond0_0 i) (hc1 : cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xs1 : Vec F S528x1024 .f32)  :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).1 = [⟨Rect.unit ![0, 0, 0] S1x512x1024.size inb_S1x512x1024_S1x512x1024_0_0_0, yV (k0_pay6 x0 x7) x3 (convV (k0_pay6 x0 x7) x3 x10 (VecWindow.put xs1 ![0, 0] S8x1024.size k0_pay5)) (View.canon (hgL (k0_pay10 (k0_pay6 x0 x7) x1) (gates (k0_pay7 x0 x7 x2 x8)) k0_pay2 k0_pay3 k0_pay4 (k0_pay6 x0 x7) x3 x9)) x0 x4 x5 x6 x11⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.1 = cL (k0_pay10 (k0_pay6 x0 x7) x1) (gates (k0_pay7 x0 x7 x2 x8)) k0_pay2 k0_pay4 ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.1 = nL (k0_pay10 (k0_pay6 x0 x7) x1) (gates (k0_pay7 x0 x7 x2 x8)) k0_pay3 k0_pay4 ++ [⟨Rect.unit ![0, 0, 0, 0] S1x1x4x128.size inb_S1x1x4x128_S1x1x4x128_0_0_0_0, k0_pay3⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.1 = moL (gates (k0_pay7 x0 x7 x2 x8)) k0_pay4 k0_pay1 (BitVec.ofNat 32 (i 0).val) ++ [⟨Rect.unit ![0, 0, 0] S1x4x8.size inb_S1x4x8_S1x4x8_0_0_0, k0_pay1⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.2.1 = [⟨Rect.unit ![0, 0, 0, 0] S1x1x2x1024.size inb_S1x1x2x1024_S1x1x2x1024_0_0_0_0, convOut (k0_pay6 x0 x7) x3⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.2.2.1 = ubL (k0_pay6 x0 x7) x3 ++ [⟨Rect.unit ![0, 0] S8x1024.size inb_S528x1024_S8x1024_0_0, k0_pay5⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.2.2.2.1 = ctL (k0_pay10 (k0_pay6 x0 x7) x1) (gates (k0_pay7 x0 x7 x2 x8)) k0_pay2 k0_pay4 ++ [⟨Rect.unit ![0, 0, 0] S4x128x256.size inb_S4x128x256_S4x128x256_0_0_0, k0_pay2⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.2.2.2.2.1 = mL (gates (k0_pay7 x0 x7 x2 x8)) k0_pay4 ++ [⟨Rect.unit ![0, 0] S8x128.size inb_S8x128_S8x128_0_0, k0_pay4⟩] ∧
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs1).2.2.2.2.2.2.2.2.1 = hgL (k0_pay10 (k0_pay6 x0 x7) x1) (gates (k0_pay7 x0 x7 x2 x8)) k0_pay2 k0_pay3 k0_pay4 (k0_pay6 x0 x7) x3 x9 := by
  refine ⟨?_, ?_, ?_, ?_, ?_, ?_, ?_, ?_, ?_⟩ <;> conv_lhs => whnf
  all_goals simp (proj := false) (disch := decide) only [yV, convV, ubW, readCov_hg, convOut, ubL, ubTail, ↓View.readCov_skip, View.readCov_skip, View.readCov_cons_toLoadRect, View.readCov_fill, View.readAt_eq_ld, readCov_m,
    harg2.read_unread, harg3.read_unread, harg4.read_unread, harg5.read_unread, harg6.read_unread, harg7.read_unread, harg8.read_unread, harg9.read_unread,
    harg10.read_unread, harg11.read_unread, harg12.read_unread, harg13.read_unread, harg16.read_unread, harg17.read_unread, harg20.read_unread, harg21.read_unread, harg22.read_unread,
    gcU_0, gcU_1, bcU_0, bcU_1, gtU_0, gtU_1, gtU_0', gtU_1', fold_conv, readCov_ub504, readCov_ub6, read_ub, readCov_ubAt xs1 (k := 6) (hk := by decide), readCov_ubAt xs1 (k := 7) (hk := by decide), List.cons_append, List.nil_append, ctL, nL, mL, moL, hgL, cL,
    ctU_00, ctU_01, ctU_02, ctU_03, ctU_10, ctU_11, ctU_12, ctU_13, nU_00, nU_01, nU_02, nU_03, nU_10, nU_11, nU_12, nU_13, mU_00, mU_01, mU_02, mU_03, mU_10, mU_11, mU_12, mU_13, moU_00, moU_01, moU_02, moU_03, moU_10, moU_11, moU_12, moU_13, hgU_00, hgU_01, hgU_02, hgU_03, hgU_10, hgU_11, hgU_12, hgU_13,
    fold_mA, fold_mB, fold_ctA, fold_ctB, fold_nA, fold_nB, fold_moA, fold_moB, fold_hA, fold_hB, fold_hgA_0, fold_hgA_1, fold_hgA_2, fold_hgA_3, fold_hgB_0, fold_hgB_1, fold_hgB_2, fold_hgB_3,
    ld_ct0, ld_ct1, ld_ct2, ld_ct3, ld_n0, ld_n1, ld_n2, ld_n3, ld_m0, ld_m1, ld_m2, ld_m3, ld_mo0, ld_mo1, ld_mo2, ld_mo3, ld_nw0, ld_nw1, ld_nw2, ld_nw3, ld_w256_0, ld_w256_1, ld_w256_2, ld_w256_3, ld_w256_4, ld_w256_5, ld_w256_6, ld_w256_7, ld_w1024_2, ld_w1024_3, ld_w1024_4, ld_w1024_5, ld_w1024_6, ld_w1024_7, ld_cw0, ld_cw1, ld_cw2, ld_f1x512x1024, ld_f1x1024, ld_f1024x2048, ld_f1024x128, ld_f1x128, ld_f1024x1024, pay292, pay293, pay294,
    runA.sl.r_185, runA.sl.r_124, runA.sl.r_19, runA.sl.r_125, runA.sl.v1362, runA.sl.v2, runA.sl.r_30, runA.sl.r_179, runA.sl.r_98, runA.sl.cst_140, runA.sl.r_49, runA.sl.v1044, runA.sl.r_103, runA.sl.r_51, runA.sl.r_36, runA.sl.r_31, runA.sl.r_99, runA.sl.r_42, runA.sl.H15_8, runA.sl.r_73, runA.sl.v344, runA.sl.v1098, runA.sl.r_183, runA.sl.r_4, runA.sl.r_109, runA.sl.cst_15, runA.sl.H15_2, runA.sl.v8, runA.sl.r_88, runA.sl.r_116, runA.sl.r_43, runA.sl.v192, runA.sl.r_65, runA.sl.r_81, runA.sl.r_60, runA.sl.r_17, runA.sl.r_127, runA.sl.v739, runA.sl.v1366, runA.sl.r_142, runA.sl.H14_6, runA.sl.v587, runA.sl.r_182, runA.sl.r_2, runA.sl.r_47, runA.sl.v0, runA.sl.r_15, runA.sl.HS2_3, runA.sl.r_187, runA.sl.r_53, runA.sl.v650, runA.sl.r_181, runA.sl.r_94, runA.sl.r_191, runA.sl.r_151, runA.sl.v346, runA.sl.r_89, runA.sl.v896, runA.sl.v1100, runA.sl.r_167, runA.sl.v951, runA.sl.HS2_4, runA.sl.r_85, runA.sl.v1, runA.sl.v52, runA.sl.H15_7, runA.sl.r_7, runA.sl.r_174, runA.sl.r_138, runA.sl.r_91, runA.sl.HS3_3, runA.sl.v807, runA.sl.r_78, runA.sl.r_83, runA.sl.r_71, runA.sl.r_87, runA.sl.v1378, runA.sl.r_22, runA.sl.r_61, runA.sl.r_113, runA.sl.r_156, runA.sl.r_26, runA.sl.r_141, runA.sl.v955, runA.sl.v1241, runA.sl.v1096, runA.sl.HS3_1, runA.sl.r_189, runA.sl.r_46, runA.sl.r_176, runA.sl.r_158, runA.sl.r_3, runA.sl.r_112, runA.sl.v, runA.sl.r_64, runA.sl.H14_2, runA.sl.r_157, runA.sl.H14_7, runA.sl.r_52, runA.sl.r_102, runA.sl.r_154, runA.sl.HS2_5, runA.sl.r_80, runA.sl.r_134, runA.sl.r_23, runA.sl.v1239, runA.sl.r_55, runA.sl.r_165, runA.sl.v283, runA.sl.r_184, runA.sl.r_120, runA.sl.v190, runA.sl.r_84, runA.sl.r_160, runA.sl.r_75, runA.sl.HS2_1, runA.sl.H15_6, runA.sl.v646, runA.sl.r_175, runA.sl.r_44, runA.sl.r_68, runA.sl.H14_5, runA.sl.r_114, runA.sl.r_18, runA.sl.v1390, runA.sl.r_101, runA.sl.HS3_6, runA.sl.r_16, runA.sl.r_188, runA.sl.r_128, runA.sl.r_131, runA.sl.r_169, runA.sl.v496, runA.sl.r_58, runA.sl.HS3_4, runA.sl.r_180, runA.sl.r_149, runA.sl.r_39, runA.sl.r_173, runA.sl.r_24, runA.sl.r_155, runA.sl.r_106, runA.sl.r_144, runA.sl.r_63, runA.sl.v342, runA.sl.r_32, runA.sl.r_28, runA.sl.r_76, runA.sl.r_10, runA.sl.r_33, runA.sl.r_143, runA.sl.r_13, runA.sl.r_9, runA.sl.H15_3, runA.sl.r_57, runA.sl.r_69, runA.sl.v435, runA.sl.r_121, runA.sl.v779, runA.sl.v1372, runA.sl.r_54, runA.sl.v805, runA.sl.r_97, runA.sl.v803, runA.sl.r_79, runA.sl.r_119, runA.sl.r_150, runA.sl.v4, runA.sl.r_108, runA.sl.r_74, runA.sl.r_117, runA.sl.r_135, runA.sl.r_107, runA.sl.r_50, runA.sl.r_59, runA.sl.r, runA.sl.r_93, runA.sl.r_100, runA.sl.r_82, runA.sl.HS2_9, runA.sl.r_133, runA.sl.r_147, runA.sl.r_5, runA.sl.r_168, runA.sl.r_104, runA.sl.r_105, runA.sl.r_163, runA.sl.r_12, runA.sl.r_115, runA.sl.r_62, runA.sl.HS3_5, runA.sl.r_177, runA.sl.r_132, runA.sl.r_95, runA.sl.r_38, runA.sl.r_170, runA.sl.r_166, runA.sl.HS1_2, runA.sl.HS3_8, runA.sl.v784, runA.sl.r_152, runA.sl.r_90, runA.sl.v494, runA.sl.r_6, runA.sl.r_126, runA.sl.HS2_6, runA.sl.r_40, runA.sl.r_92, runA.sl.r_11, runA.sl.v48, runA.sl.H14_8, runA.sl.r_190, runA.sl.H14_1, runA.sl.HS3_2, runA.sl.r_67, runA.sl.r_45, runA.sl.H15_4, runA.sl.H14_3, runA.sl.r_110, runA.sl.r_77, runA.sl.r_162, runA.sl.v3, runA.sl.r_25, runA.sl.r_27, runA.sl.HS2_2, runA.sl.r_164, runA.sl.r_186, runA.sl.r_72, runA.sl.r_35, runA.sl.H15_1, runA.sl.v953, runA.sl.r_37, runA.sl.r_118, runA.sl.r_34, runA.sl.HS2_7, runA.sl.r_136, runA.sl.r_21, runA.sl.r_8, runA.sl.r_122, runA.sl.r_145, runA.sl.HS3_7, runA.sl.r_20, runA.sl.HS2_8, runA.sl.r_41, runA.sl.r_86, runA.sl.r_129, runA.sl.r_148, runA.sl.v1237, runA.sl.r_161, runA.sl.v7, runA.sl.r_66, runA.sl.r_48, runA.sl.r_123, runA.sl.r_14, runA.sl.r_171, runA.sl.r_140, runA.sl.r_192, runA.sl.H15_5, runA.sl.r_137, runA.sl.r_130, runA.sl.r_56, runA.sl.v1189, runA.sl.r_178, runA.sl.H14_4, runA.sl.r_146, runA.sl.HS1_3, runA.sl.r_139, runA.sl.v1330, runA.sl.HS0_8, runA.sl.r_96, runA.sl.r_111, runA.sl.v1358, runA.sl.r_153, runA.sl.v498, runA.sl.r_70, runA.sl.r_29, runA.sl.v648, runA.sl.v5, runA.sl.r_172, runA.sl.r_159, runA.sl.cst_229, runA.sl.v194, runA.sl.r_1]

end Cert.KernelIdeal.Hand

end
-- ==== Proof.ValB.lean ====
/- The values of a run of the body in case B: the pieces of each buffer by the vocabulary of the body. -/
module

public import proofs.«01_k».proof.Proof.Body
public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What a run of this case leaves in each buffer. -/
theorem runB_vals  (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : ¬cond0_0 i) (hc1 : ¬cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xo14 : Vec F S1x1x4x128 .f32) (xo15 : Vec F S1x4x8 .f32) (xs1 : Vec F S528x1024 .f32) (xs2 : Vec F S4x128x256 .f32) (xs3 : Vec F S8x128 .f32)  :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).1 = [⟨Rect.unit ![0, 0, 0] S1x512x1024.size inb_S1x512x1024_S1x512x1024_0_0_0, yV (k0_pay6 x0 x7) x3 (convV (k0_pay6 x0 x7) x3 x10 xs1) (View.canon (hgL (k0_pay10 (k0_pay6 x0 x7) x1) (gates (k0_pay7 x0 x7 x2 x8)) xs2 xo14 xs3 (k0_pay6 x0 x7) x3 x9)) x0 x4 x5 x6 x11⟩] ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.1 = cL (k0_pay10 (k0_pay6 x0 x7) x1) (gates (k0_pay7 x0 x7 x2 x8)) xs2 xs3 ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.1 = nL (k0_pay10 (k0_pay6 x0 x7) x1) (gates (k0_pay7 x0 x7 x2 x8)) xo14 xs3 ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.1 = moL (gates (k0_pay7 x0 x7 x2 x8)) xs3 xo15 (BitVec.ofNat 32 (i 0).val) ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.2.1 = [⟨Rect.unit ![0, 0, 0, 0] S1x1x2x1024.size inb_S1x1x2x1024_S1x1x2x1024_0_0_0_0, convOut (k0_pay6 x0 x7) x3⟩] ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.2.2.1 = ubL (k0_pay6 x0 x7) x3 ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.2.2.2.1 = ctL (k0_pay10 (k0_pay6 x0 x7) x1) (gates (k0_pay7 x0 x7 x2 x8)) xs2 xs3 ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.2.2.2.2.1 = mL (gates (k0_pay7 x0 x7 x2 x8)) xs3 ∧
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo14 xo15 xs1 xs2 xs3).2.2.2.2.2.2.2.2.1 = hgL (k0_pay10 (k0_pay6 x0 x7) x1) (gates (k0_pay7 x0 x7 x2 x8)) xs2 xo14 xs3 (k0_pay6 x0 x7) x3 x9 := by
  refine ⟨?_, ?_, ?_, ?_, ?_, ?_, ?_, ?_, ?_⟩ <;> conv_lhs => whnf
  all_goals simp (proj := false) (disch := decide) only [yV, convV, ubW, readCov_hg, convOut, ubL, ubTail, ↓View.readCov_skip, View.readCov_skip, View.readCov_cons_toLoadRect, View.readCov_fill, View.readAt_eq_ld, readCov_m,
    harg2.read_unread, harg3.read_unread, harg4.read_unread, harg5.read_unread, harg6.read_unread, harg7.read_unread, harg8.read_unread, harg9.read_unread,
    harg10.read_unread, harg11.read_unread, harg12.read_unread, harg13.read_unread, harg16.read_unread, harg17.read_unread, harg20.read_unread, harg21.read_unread, harg22.read_unread,
    gcU_0, gcU_1, bcU_0, bcU_1, gtU_0, gtU_1, gtU_0', gtU_1', fold_conv, readCov_ub504, readCov_ub6, read_ub, List.cons_append, List.nil_append, ctL, nL, mL, moL, hgL, cL,
    ctU_00, ctU_01, ctU_02, ctU_03, ctU_10, ctU_11, ctU_12, ctU_13, nU_00, nU_01, nU_02, nU_03, nU_10, nU_11, nU_12, nU_13, mU_00, mU_01, mU_02, mU_03, mU_10, mU_11, mU_12, mU_13, moU_00, moU_01, moU_02, moU_03, moU_10, moU_11, moU_12, moU_13, hgU_00, hgU_01, hgU_02, hgU_03, hgU_10, hgU_11, hgU_12, hgU_13,
    fold_mA, fold_mB, fold_ctA, fold_ctB, fold_nA, fold_nB, fold_moA, fold_moB, fold_hA, fold_hB, fold_hgA_0, fold_hgA_1, fold_hgA_2, fold_hgA_3, fold_hgB_0, fold_hgB_1, fold_hgB_2, fold_hgB_3,
    ld_ct0, ld_ct1, ld_ct2, ld_ct3, ld_n0, ld_n1, ld_n2, ld_n3, ld_m0, ld_m1, ld_m2, ld_m3, ld_mo0, ld_mo1, ld_mo2, ld_mo3, ld_nw0, ld_nw1, ld_nw2, ld_nw3, ld_w256_0, ld_w256_1, ld_w256_2, ld_w256_3, ld_w256_4, ld_w256_5, ld_w256_6, ld_w256_7, ld_w1024_2, ld_w1024_3, ld_w1024_4, ld_w1024_5, ld_w1024_6, ld_w1024_7, ld_cw0, ld_cw1, ld_cw2, ld_f1x512x1024, ld_f1x1024, ld_f1024x2048, ld_f1024x128, ld_f1x128, ld_f1024x1024, pay292, pay293, pay294,
    runB.sl.r_50, runB.sl.r_162, runB.sl.r_113, runB.sl.v1044, runB.sl.r_19, runB.sl.r_109, runB.sl.r_176, runB.sl.r_48, runB.sl.r_99, runB.sl.cst_229, runB.sl.r_105, runB.sl.r_143, runB.sl.v807, runB.sl.r_187, runB.sl.r_180, runB.sl.r_101, runB.sl.cst_15, runB.sl.cst_140, runB.sl.r_166, runB.sl.r_135, runB.sl.r_43, runB.sl.v496, runB.sl.r_71, runB.sl.H14_5, runB.sl.r_185, runB.sl.v1, runB.sl.r_70, runB.sl.r_164, runB.sl.r_177, runB.sl.H14_7, runB.sl.r_15, runB.sl.r_33, runB.sl.r_140, runB.sl.v3, runB.sl.v1098, runB.sl.r_53, runB.sl.v587, runB.sl.r_38, runB.sl.r_73, runB.sl.v1358, runB.sl.r_81, runB.sl.r_114, runB.sl.H15_5, runB.sl.r_84, runB.sl.v650, runB.sl.r_32, runB.sl.r_188, runB.sl.r_44, runB.sl.r_40, runB.sl.v1189, runB.sl.HS3_7, runB.sl.r_139, runB.sl.r_16, runB.sl.r_93, runB.sl.r_47, runB.sl.r_167, runB.sl.r_120, runB.sl.r_68, runB.sl.r_74, runB.sl.v48, runB.sl.r_157, runB.sl.r_55, runB.sl.v648, runB.sl.r_14, runB.sl.r_189, runB.sl.r_87, runB.sl.v52, runB.sl.r_79, runB.sl.v1390, runB.sl.r_7, runB.sl.H15_4, runB.sl.r_190, runB.sl.v2, runB.sl.HS2_5, runB.sl.r_34, runB.sl.r_18, runB.sl.v1096, runB.sl.HS1_2, runB.sl.r_54, runB.sl.HS2_6, runB.sl.r_64, runB.sl.v4, runB.sl.r_52, runB.sl.v494, runB.sl.r_90, runB.sl.r_122, runB.sl.r_132, runB.sl.r_112, runB.sl.r_98, runB.sl.r_66, runB.sl.r_152, runB.sl.r_58, runB.sl.r_171, runB.sl.r_57, runB.sl.r_39, runB.sl.r_110, runB.sl.r_35, runB.sl.r_3, runB.sl.r_91, runB.sl.r_184, runB.sl.r_182, runB.sl.r_82, runB.sl.r_160, runB.sl.r_118, runB.sl.r_142, runB.sl.r_63, runB.sl.r_165, runB.sl.v5, runB.sl.r_138, runB.sl.r_46, runB.sl.v342, runB.sl.r_154, runB.sl.r_129, runB.sl.r_141, runB.sl.r_12, runB.sl.r_78, runB.sl.r_193, runB.sl.r_174, runB.sl.r_137, runB.sl.r_191, runB.sl.r_65, runB.sl.r_116, runB.sl.r_76, runB.sl.r_20, runB.sl.r_123, runB.sl.r_173, runB.sl.v498, runB.sl.v1330, runB.sl.r_59, runB.sl.r_45, runB.sl.r_23, runB.sl.r_130, runB.sl.r_175, runB.sl.v646, runB.sl.r_62, runB.sl.r_127, runB.sl.r_22, runB.sl.r_172, runB.sl.H15_7, runB.sl.r_29, runB.sl.v, runB.sl.r_31, runB.sl.v435, runB.sl.HS2_7, runB.sl.r_136, runB.sl.r_88, runB.sl.v8, runB.sl.r_131, runB.sl.r_67, runB.sl.r_108, runB.sl.r_83, runB.sl.r_86, runB.sl.r_72, runB.sl.v805, runB.sl.r_27, runB.sl.r_41, runB.sl.H14_4, runB.sl.r_24, runB.sl.r_161, runB.sl.r_159, runB.sl.r_147, runB.sl.r_13, runB.sl.r_75, runB.sl.v346, runB.sl.r_156, runB.sl.r_149, runB.sl.r_80, runB.sl.r_17, runB.sl.r_115, runB.sl.r_100, runB.sl.r_117, runB.sl.r_5, runB.sl.v1366, runB.sl.r_42, runB.sl.r_85, runB.sl.v1362, runB.sl.r_169, runB.sl.r_151, runB.sl.r_124, runB.sl.r_121, runB.sl.HS2_8, runB.sl.r_56, runB.sl.r_168, runB.sl.r_94, runB.sl.r_4, runB.sl.r_145, runB.sl.r_125, runB.sl.r_155, runB.sl.r_89, runB.sl.r_51, runB.sl.r, runB.sl.r_183, runB.sl.r_96, runB.sl.r_179, runB.sl.v739, runB.sl.HS3_4, runB.sl.r_134, runB.sl.v953, runB.sl.r_77, runB.sl.r_126, runB.sl.v803, runB.sl.r_103, runB.sl.r_158, runB.sl.r_97, runB.sl.r_119, runB.sl.r_37, runB.sl.r_11, runB.sl.v344, runB.sl.r_146, runB.sl.r_106, runB.sl.r_10, runB.sl.v1239, runB.sl.H15_6, runB.sl.r_8, runB.sl.v955, runB.sl.r_186, runB.sl.r_153, runB.sl.r_133, runB.sl.HS3_5, runB.sl.v7, runB.sl.r_2, runB.sl.H14_6, runB.sl.r_60, runB.sl.r_95, runB.sl.r_69, runB.sl.v1378, runB.sl.HS2_4, runB.sl.r_28, runB.sl.HS1_1, runB.sl.HS3_6, runB.sl.v1100, runB.sl.r_111, runB.sl.r_21, runB.sl.r_192, runB.sl.v1237, runB.sl.v1372, runB.sl.r_170, runB.sl.r_36, runB.sl.r_144, runB.sl.HS0_8, runB.sl.v0, runB.sl.r_6, runB.sl.v896, runB.sl.r_9, runB.sl.r_61, runB.sl.v1241, runB.sl.r_26, runB.sl.r_25, runB.sl.r_1, runB.sl.r_30, runB.sl.r_128, runB.sl.r_92, runB.sl.r_148, runB.sl.r_104, runB.sl.r_107, runB.sl.r_163, runB.sl.r_102, runB.sl.r_178, runB.sl.r_181, runB.sl.r_49, runB.sl.v951, runB.sl.r_150]

end Cert.KernelIdeal.Hand

end
-- ==== Proof.ValC.lean ====
/- The values of a run of the body in case C: the pieces of each buffer by the vocabulary of the body. -/
module

public import proofs.«01_k».proof.Proof.Body
public import proofs.«01_k».proof.Proof.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What a run of this case leaves in each buffer. -/
theorem runC_vals  (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x8192 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x3072 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x1x4x256x128 .f32) (harg15 : arg15.IsWhole) (arg16 : Memref sig .tc .vmem S1x1x4x128 .f32) (harg16 : arg16.IsWhole) (arg17 : Memref sig .tc .vmem S1x4x8 .f32) (harg17 : arg17.IsWhole) (arg18 : Memref sig .tc .vmem S1x1x2x1024 .f32) (harg18 : arg18.IsWhole) (arg19 : Memref sig .tc .vmem S512x1024 .bf16) (harg19 : arg19.IsWhole) (arg20 : Memref sig .tc .vmem S528x1024 .f32) (harg20 : arg20.IsWhole) (arg21 : Memref sig .tc .vmem S4x128x256 .f32) (harg21 : arg21.IsWhole) (arg22 : Memref sig .tc .vmem S8x128 .f32) (harg22 : arg22.IsWhole) (hc0 : ¬cond0_0 i) (hc1 : cond0_1 i)
    (x0 : Vec F S1x512x1024 .f32) (x1 : Vec F S1024x2048 .bf16) (x2 : Vec F S1024x128 .bf16) (x3 : Vec F S1024x8192 .bf16) (x4 : Vec F S1024x1024 .bf16) (x5 : Vec F S1024x1024 .bf16) (x6 : Vec F S1024x1024 .bf16) (x7 : Vec F S1x1024 .f32) (x8 : Vec F S1x128 .f32) (x9 : Vec F S1x1024 .f32) (x10 : Vec F S1x3072 .f32) (x11 : Vec F S1x1024 .f32) (xo15 : Vec F S1x4x8 .f32) (xs1 : Vec F S528x1024 .f32)  :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).1 = [⟨Rect.unit ![0, 0, 0] S1x512x1024.size inb_S1x512x1024_S1x512x1024_0_0_0, yV (k0_pay6 x0 x7) x3 (convV (k0_pay6 x0 x7) x3 x10 (VecWindow.put xs1 ![0, 0] S8x1024.size k0_pay5)) (View.canon (hgL (k0_pay10 (k0_pay6 x0 x7) x1) (gates (k0_pay7 x0 x7 x2 x8)) k0_pay2 k0_pay3 k0_pay4 (k0_pay6 x0 x7) x3 x9)) x0 x4 x5 x6 x11⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.1 = cL (k0_pay10 (k0_pay6 x0 x7) x1) (gates (k0_pay7 x0 x7 x2 x8)) k0_pay2 k0_pay4 ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.1 = nL (k0_pay10 (k0_pay6 x0 x7) x1) (gates (k0_pay7 x0 x7 x2 x8)) k0_pay3 k0_pay4 ++ [⟨Rect.unit ![0, 0, 0, 0] S1x1x4x128.size inb_S1x1x4x128_S1x1x4x128_0_0_0_0, k0_pay3⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.1 = moL (gates (k0_pay7 x0 x7 x2 x8)) k0_pay4 xo15 (BitVec.ofNat 32 (i 0).val) ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.2.1 = [⟨Rect.unit ![0, 0, 0, 0] S1x1x2x1024.size inb_S1x1x2x1024_S1x1x2x1024_0_0_0_0, convOut (k0_pay6 x0 x7) x3⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.2.2.1 = ubL (k0_pay6 x0 x7) x3 ++ [⟨Rect.unit ![0, 0] S8x1024.size inb_S528x1024_S8x1024_0_0, k0_pay5⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.2.2.2.1 = ctL (k0_pay10 (k0_pay6 x0 x7) x1) (gates (k0_pay7 x0 x7 x2 x8)) k0_pay2 k0_pay4 ++ [⟨Rect.unit ![0, 0, 0] S4x128x256.size inb_S4x128x256_S4x128x256_0_0_0, k0_pay2⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.2.2.2.2.1 = mL (gates (k0_pay7 x0 x7 x2 x8)) k0_pay4 ++ [⟨Rect.unit ![0, 0] S8x128.size inb_S8x128_S8x128_0_0, k0_pay4⟩] ∧
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xo15 xs1).2.2.2.2.2.2.2.2.1 = hgL (k0_pay10 (k0_pay6 x0 x7) x1) (gates (k0_pay7 x0 x7 x2 x8)) k0_pay2 k0_pay3 k0_pay4 (k0_pay6 x0 x7) x3 x9 := by
  refine ⟨?_, ?_, ?_, ?_, ?_, ?_, ?_, ?_, ?_⟩ <;> conv_lhs => whnf
  all_goals simp (proj := false) (disch := decide) only [yV, convV, ubW, readCov_hg, convOut, ubL, ubTail, ↓View.readCov_skip, View.readCov_skip, View.readCov_cons_toLoadRect, View.readCov_fill, View.readAt_eq_ld, readCov_m,
    harg2.read_unread, harg3.read_unread, harg4.read_unread, harg5.read_unread, harg6.read_unread, harg7.read_unread, harg8.read_unread, harg9.read_unread,
    harg10.read_unread, harg11.read_unread, harg12.read_unread, harg13.read_unread, harg16.read_unread, harg17.read_unread, harg20.read_unread, harg21.read_unread, harg22.read_unread,
    gcU_0, gcU_1, bcU_0, bcU_1, gtU_0, gtU_1, gtU_0', gtU_1', fold_conv, readCov_ub504, readCov_ub6, read_ub, readCov_ubAt xs1 (k := 6) (hk := by decide), readCov_ubAt xs1 (k := 7) (hk := by decide), List.cons_append, List.nil_append, ctL, nL, mL, moL, hgL, cL,
    ctU_00, ctU_01, ctU_02, ctU_03, ctU_10, ctU_11, ctU_12, ctU_13, nU_00, nU_01, nU_02, nU_03, nU_10, nU_11, nU_12, nU_13, mU_00, mU_01, mU_02, mU_03, mU_10, mU_11, mU_12, mU_13, moU_00, moU_01, moU_02, moU_03, moU_10, moU_11, moU_12, moU_13, hgU_00, hgU_01, hgU_02, hgU_03, hgU_10, hgU_11, hgU_12, hgU_13,
    fold_mA, fold_mB, fold_ctA, fold_ctB, fold_nA, fold_nB, fold_moA, fold_moB, fold_hA, fold_hB, fold_hgA_0, fold_hgA_1, fold_hgA_2, fold_hgA_3, fold_hgB_0, fold_hgB_1, fold_hgB_2, fold_hgB_3,
    ld_ct0, ld_ct1, ld_ct2, ld_ct3, ld_n0, ld_n1, ld_n2, ld_n3, ld_m0, ld_m1, ld_m2, ld_m3, ld_mo0, ld_mo1, ld_mo2, ld_mo3, ld_nw0, ld_nw1, ld_nw2, ld_nw3, ld_w256_0, ld_w256_1, ld_w256_2, ld_w256_3, ld_w256_4, ld_w256_5, ld_w256_6, ld_w256_7, ld_w1024_2, ld_w1024_3, ld_w1024_4, ld_w1024_5, ld_w1024_6, ld_w1024_7, ld_cw0, ld_cw1, ld_cw2, ld_f1x512x1024, ld_f1x1024, ld_f1024x2048, ld_f1024x128, ld_f1x128, ld_f1024x1024, pay292, pay293, pay294,
    runC.sl.r_62, runC.sl.v955, runC.sl.H14_6, runC.sl.r_65, runC.sl.r_90, runC.sl.v494, runC.sl.r_185, runC.sl.r_83, runC.sl.r_113, runC.sl.HS2_5, runC.sl.v7, runC.sl.r_106, runC.sl.r_19, runC.sl.r_109, runC.sl.r_110, runC.sl.r_59, runC.sl.r_6, runC.sl.r_98, runC.sl.v190, runC.sl.r_57, runC.sl.r_162, runC.sl.r_163, runC.sl.r_117, runC.sl.r_188, runC.sl.r_56, runC.sl.r_149, runC.sl.r_41, runC.sl.HS3_3, runC.sl.r_189, runC.sl.r_130, runC.sl.r_171, runC.sl.r_67, runC.sl.v803, runC.sl.r_82, runC.sl.r_8, runC.sl.v951, runC.sl.r_75, runC.sl.v194, runC.sl.r_37, runC.sl.r_134, runC.sl.r_29, runC.sl.HS2_9, runC.sl.r_99, runC.sl.r_119, runC.sl.r_23, runC.sl.r_86, runC.sl.v1362, runC.sl.r_30, runC.sl.r_46, runC.sl.H14_7, runC.sl.v1378, runC.sl.r_187, runC.sl.r_168, runC.sl.r_1, runC.sl.r_121, runC.sl.r_129, runC.sl.r_154, runC.sl.v496, runC.sl.r_122, runC.sl.v807, runC.sl.r_12, runC.sl.r_54, runC.sl.r_152, runC.sl.r_79, runC.sl.r_70, runC.sl.v896, runC.sl.v587, runC.sl.v1372, runC.sl.r_177, runC.sl.r_179, runC.sl.r_155, runC.sl.r_172, runC.sl.v48, runC.sl.cst_140, runC.sl.H14_5, runC.sl.v648, runC.sl.r_14, runC.sl.r_107, runC.sl.r_22, runC.sl.HS2_3, runC.sl.v1358, runC.sl.r_16, runC.sl.v805, runC.sl.r_47, runC.sl.HS2_7, runC.sl.r_85, runC.sl.r_104, runC.sl.r_137, runC.sl.r_142, runC.sl.r_178, runC.sl.v342, runC.sl.H14_2, runC.sl.r_160, runC.sl.r_34, runC.sl.r_147, runC.sl.r_118, runC.sl.v4, runC.sl.v498, runC.sl.r_114, runC.sl.HS3_5, runC.sl.r_35, runC.sl.r_133, runC.sl.v953, runC.sl.r_128, runC.sl.r_126, runC.sl.r_61, runC.sl.r_176, runC.sl.r_157, runC.sl.v, runC.sl.H15_7, runC.sl.v1044, runC.sl.r_31, runC.sl.r_170, runC.sl.HS3_6, runC.sl.r_55, runC.sl.r_10, runC.sl.r_127, runC.sl.v1098, runC.sl.r_7, runC.sl.H15_4, runC.sl.H15_6, runC.sl.H14_4, runC.sl.r_81, runC.sl.r_91, runC.sl.HS2_1, runC.sl.v650, runC.sl.r_182, runC.sl.r_146, runC.sl.r_60, runC.sl.r_20, runC.sl.r_120, runC.sl.r_96, runC.sl.r_48, runC.sl.r_103, runC.sl.v344, runC.sl.r_115, runC.sl.r_92, runC.sl.r_32, runC.sl.v346, runC.sl.r_17, runC.sl.r_73, runC.sl.r_72, runC.sl.r_49, runC.sl.r_95, runC.sl.H14_3, runC.sl.r_112, runC.sl.r_139, runC.sl.HS2_8, runC.sl.r_108, runC.sl.v1390, runC.sl.r_169, runC.sl.r_76, runC.sl.v1, runC.sl.H14_8, runC.sl.r_167, runC.sl.r_18, runC.sl.HS3_7, runC.sl.v1366, runC.sl.r_181, runC.sl.r_143, runC.sl.r_63, runC.sl.r_42, runC.sl.r_191, runC.sl.r_132, runC.sl.v1100, runC.sl.r_150, runC.sl.r_88, runC.sl.r_9, runC.sl.r_131, runC.sl.r_53, runC.sl.v192, runC.sl.r_39, runC.sl.r_166, runC.sl.r_27, runC.sl.v5, runC.sl.r_153, runC.sl.r_156, runC.sl.r_77, runC.sl.r_94, runC.sl.r_164, runC.sl.r_145, runC.sl.r_11, runC.sl.r_161, runC.sl.r_64, runC.sl.cst_15, runC.sl.r_69, runC.sl.r_184, runC.sl.r_33, runC.sl.r_2, runC.sl.v435, runC.sl.v1189, runC.sl.v1239, runC.sl.r_50, runC.sl.r_123, runC.sl.r_165, runC.sl.HS3_2, runC.sl.r, runC.sl.r_186, runC.sl.r_4, runC.sl.r_5, runC.sl.r_151, runC.sl.r_87, runC.sl.r_40, runC.sl.H15_5, runC.sl.r_93, runC.sl.r_21, runC.sl.v1330, runC.sl.r_190, runC.sl.v0, runC.sl.r_52, runC.sl.r_135, runC.sl.v1237, runC.sl.HS0_8, runC.sl.HS2_2, runC.sl.HS1_2, runC.sl.r_71, runC.sl.r_102, runC.sl.v1241, runC.sl.v1096, runC.sl.r_43, runC.sl.r_100, runC.sl.r_159, runC.sl.HS2_6, runC.sl.r_26, runC.sl.r_148, runC.sl.v2, runC.sl.r_97, runC.sl.r_58, runC.sl.r_45, runC.sl.r_124, runC.sl.v739, runC.sl.r_24, runC.sl.r_138, runC.sl.HS1_3, runC.sl.r_36, runC.sl.r_38, runC.sl.r_28, runC.sl.HS2_4, runC.sl.r_144, runC.sl.r_173, runC.sl.r_158, runC.sl.r_116, runC.sl.r_3, runC.sl.v779, runC.sl.HS3_1, runC.sl.r_111, runC.sl.r_51, runC.sl.v52, runC.sl.H14_1, runC.sl.r_25, runC.sl.r_84, runC.sl.v646, runC.sl.r_66, runC.sl.r_15, runC.sl.r_125, runC.sl.HS3_8, runC.sl.r_175, runC.sl.r_180, runC.sl.r_105, runC.sl.r_78, runC.sl.r_174, runC.sl.r_141, runC.sl.r_140, runC.sl.r_192, runC.sl.r_89, runC.sl.HS3_4, runC.sl.r_80, runC.sl.cst_229, runC.sl.v8, runC.sl.r_136, runC.sl.v784, runC.sl.r_74, runC.sl.r_13, runC.sl.r_101, runC.sl.r_68, runC.sl.v3, runC.sl.r_44, runC.sl.r_183]

end Cert.KernelIdeal.Hand

end
-- ==== Proof.Frame.lean ====
/- The run of the kernel: the body at every point of the grid, by the state the point before left. -/
module

public import Idealize.ShloMosaic.Lib.Claim
public import proofs.«01_k».proof.Proof.State
public import proofs.«01_k».proof.Proof.ValA
public import proofs.«01_k».proof.Proof.ValB
public import proofs.«01_k».proof.Proof.ValC
public import Idealize.ShloMosaic.Lib.Pipeline.CanonAppend

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The state held before a point: before the first anything, later what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ u, ⌜Agree u (ubOf (ubTail (xnT m c ⟨n, hn⟩) (iblk m c 3 ⟨n, hn⟩)))⌝ ∗ owns (c : Thread nD τ) scM0_1 fullShare u) ∗ owns (c : Thread nD τ) scM0_2 fullShare ((stAt m c (n) hn).ct) ∗ owns (c : Thread nD τ) scM0_3 fullShare ((stAt m c (n) hn).mm)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) scM0_0 fullShare d) ∗ (∃ u, ⌜Agree u (ubOf (ubTail (xnT m c ⟨n, hn⟩) (iblk m c 3 ⟨n, hn⟩)))⌝ ∗ owns (c : Thread nD τ) scM0_1 fullShare u) ∗ owns (c : Thread nD τ) scM0_2 fullShare ((stAt m c (n) hn).ct) ∗ owns (c : Thread nD τ) scM0_3 fullShare ((stAt m c (n) hn).mm)) ∗ (∃ r, prngReg c r)) := rfl
theorem PhiS_pos (c : Dev nD) (n : ℕ) (h : n ≤ cfg0.N) (hz : n ≠ 0) :
    PhiS m c n h = iprop(iprop((∃ d, owns (c : Thread nD τ) scM0_0 fullShare d) ∗ (∃ u, ⌜Agree u (ubOf (ubTail (xnT m c ⟨n - 1, (by omega)⟩) (iblk m c 3 ⟨n - 1, (by omega)⟩)))⌝ ∗ owns (c : Thread nD τ) scM0_1 fullShare u) ∗ owns (c : Thread nD τ) scM0_2 fullShare ((stAt m c (n - 1) (by omega)).ct) ∗ owns (c : Thread nD τ) scM0_3 fullShare ((stAt m c (n - 1) (by omega)).mm)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yT m c t
    | ⟨13, _⟩ => cT m c t
    | ⟨14, _⟩ => (stAt m c t.val t.isLt).n
    | ⟨15, _⟩ => (stAt m c t.val t.isLt).mo
    | ⟨16, _⟩ => cvT m c t
    | ⟨_ + 17, h⟩ => absurd h (Nat.not_lt.2 (Nat.le_add_left _ _))
  Φ t := PhiS m c t.val (Nat.le_of_lt_succ t.isLt)
  q w := Pipeline.shareOf spec0 w
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = yT m c t := by dsimp only [dats]
theorem after0_13 (c : Dev nD) (t : Fin cfg0.N) : (dats m 0 c).after 13 t = cT m c t := by dsimp only [dats]
theorem after0_14 (c : Dev nD) (t : Fin cfg0.N) : (dats m 0 c).after 14 t = (stAt m c t.val t.isLt).n := by dsimp only [dats]
theorem after0_15 (c : Dev nD) (t : Fin cfg0.N) : (dats m 0 c).after 15 t = (stAt m c t.val t.isLt).mo := by dsimp only [dats]
theorem after0_16 (c : Dev nD) (t : Fin cfg0.N) : (dats m 0 c).after 16 t = cvT m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_14_B (c : Dev nD) (t : Fin cfg0.N) (h0 : ¬t.val % 32 = 0) (h1 : ¬t.val % 4 = 0) (d) :
    (dats m 0 c).before 14 t d = (stAt m c (t.val - 1) (Nat.lt_of_le_of_lt (Nat.sub_le _ _) t.isLt)).n := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 32 = 0) (h1 : ¬t.val % 4 = 0) (d) :
    (dats m 0 c).before 15 t d = (stAt m c (t.val - 1) (Nat.lt_of_le_of_lt (Nat.sub_le _ _) t.isLt)).mo := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_15_C (c : Dev nD) (t : Fin cfg0.N) (h0 : ¬t.val % 32 = 0) (h1 : t.val % 4 = 0) (d) :
    (dats m 0 c).before 15 t d = (stAt m c (t.val - 1) (Nat.lt_of_le_of_lt (Nat.sub_le _ _) t.isLt)).mo := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 24000000 in
theorem sound_A (c : Dev nD) (t : Fin cfg0.N) (h0 : t.val % 32 = 0) (h1 : t.val % 4 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_zero m c _ _ hz, PhiA0_eq]
  have hin : inS m c t = ⟨k0_pay2, k0_pay3, k0_pay4, k0_pay1⟩ := by obtain ⟨n, hn⟩ := t; dsimp only at hz; subst hz; rfl
  have htl : tailT m c t = k0_pay5 := if_pos h1
  iintro ⟨⟨⟨HS0, ⟨%u, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨vy, vc, vn, vmo, vcv, vub, vct, vm, -⟩ := runA_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%e12, H12⟩, ⟨%e13, H13⟩, ⟨%e14, H14⟩, ⟨%e15, H15⟩, ⟨%e16, H16⟩, ⟨%fT0, HS0⟩, HS1, ⟨%es2, HS2⟩, ⟨%es3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; isplitr
        swap
        · unfold owns; iexists _; isplitr
          swap; · iexact HS1
          ipureintro; rfl
        ipureintro; rw [vub]; exact agree_ubA _ _ _ _
      isplitl [HS2]
      · unfold owns; iexists _; isplitr
        swap; · iexact HS2
        ipureintro; rw [vct, stAt_eq, hin, stepSt_ct]; exact rd_append (F := F) _ _ _ _ (ctL_cover _ _ _ _)
      unfold owns; iexists _; isplitr
      swap; · iexact HS3
      ipureintro; rw [vm, stAt_eq, hin, stepSt_mm]; exact View.read_writes_eq_canon _ _ _ (mLf_cover _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [vy]; refine (View.read_writes_full _ _ _ _ _).trans ?_; unfold yT hgT; rw [hin, htl]; rw [convV_congr _ _ _ _ _ (agree_put u (fun _ => FloatOps.ofBits .f32 0#32) k0_pay5)]; rfl
  isplitl [H13]
  · unfold owns; iexists _; isplitr
    swap; · iexact H13
    ipureintro; rw [vc]; unfold cT; rw [hin]; exact View.read_writes_eq_canon _ _ _ (cL_cover _ _ _ _)
  isplitl [H14]
  · unfold owns; iexists _; isplitr
    swap; · iexact H14
    ipureintro; rw [vn, stAt_eq, hin, stepSt_n]; exact rd_append (F := F) _ _ _ _ (nL_cover _ _ _ _)
  isplitl [H15]
  · unfold owns; iexists _; isplitr
    swap; · iexact H15
    ipureintro; rw [vmo, stAt_eq, hin, stepSt_mo]; exact rd_append (F := F) _ _ _ _ (moL_cover _ _ _ _)
  unfold owns; iexists _; isplitr
  swap; · iexact H16
  ipureintro; rw [vcv]; exact View.read_writes_full _ _ _ _ _

set_option maxHeartbeats 24000000 in
theorem sound_B (c : Dev nD) (t : Fin cfg0.N) (h0 : ¬t.val % 32 = 0) (h1 : ¬t.val % 4 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_pos m c _ _ hz]
  simp only [before0_14_B m c t h0 h1, before0_15_B m c t h0 h1]
  have hin : inS m c t = stAt m c (t.val - 1) (Nat.lt_of_le_of_lt (Nat.sub_le _ _) t.isLt) := by
    unfold inS; rw [prevSt_pos m c t hz]; exact if_neg h1
  have htl : tailT m c t = ubTail (xnT m c ⟨t.val - 1, Nat.lt_of_le_of_lt (Nat.sub_le _ _) t.isLt⟩) (iblk m c 3 ⟨t.val - 1, Nat.lt_of_le_of_lt (Nat.sub_le _ _) t.isLt⟩) := if_neg h1
  iintro ⟨⟨⟨HS0, ⟨%u, %hu, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨vy, vc, vn, vmo, vcv, vub, vct, vm, -⟩ := runB_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c (t.val - 1) (Nat.lt_of_le_of_lt (Nat.sub_le _ _) t.isLt)).n (stAt m c (t.val - 1) (Nat.lt_of_le_of_lt (Nat.sub_le _ _) t.isLt)).mo u (stAt m c (t.val - 1) (Nat.lt_of_le_of_lt (Nat.sub_le _ _) t.isLt)).ct (stAt m c (t.val - 1) (Nat.lt_of_le_of_lt (Nat.sub_le _ _) t.isLt)).mm
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c (t.val - 1) (Nat.lt_of_le_of_lt (Nat.sub_le _ _) t.isLt)).n (stAt m c (t.val - 1) (Nat.lt_of_le_of_lt (Nat.sub_le _ _) t.isLt)).mo u (stAt m c (t.val - 1) (Nat.lt_of_le_of_lt (Nat.sub_le _ _) t.isLt)).ct (stAt m c (t.val - 1) (Nat.lt_of_le_of_lt (Nat.sub_le _ _) t.isLt)).mm).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexists _; iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%e12, H12⟩, ⟨%e13, H13⟩, ⟨%e14, H14⟩, ⟨%e15, H15⟩, ⟨%e16, H16⟩, ⟨%fT0, HS0⟩, HS1, ⟨%es2, HS2⟩, HS3⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; isplitr
        swap
        · unfold owns; iexists _; isplitr
          swap; · iexact HS1
          ipureintro; rfl
        ipureintro; rw [vub]; exact agree_ubB _ _ _ _
      isplitl [HS2]
      · unfold owns; iexists _; isplitr
        swap; · iexact HS2
        ipureintro; rw [vct, stAt_eq, hin, stepSt_ct]; exact View.read_writes_eq_canon _ _ _ (ctL_cover _ _ _ _)
      unfold owns; iexists _; isplitr
      swap; · iexact HS3
      ipureintro; rw [vm, stAt_eq, hin, stepSt_mm]; exact rd_mB _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [vy]; refine (View.read_writes_full _ _ _ _ _).trans ?_; unfold yT hgT; rw [hin, htl]; rw [convV_congr _ _ _ _ _ hu]; rfl
  isplitl [H13]
  · unfold owns; iexists _; isplitr
    swap; · iexact H13
    ipureintro; rw [vc]; unfold cT; rw [hin]; exact View.read_writes_eq_canon _ _ _ (cL_cover _ _ _ _)
  isplitl [H14]
  · unfold owns; iexists _; isplitr
    swap; · iexact H14
    ipureintro; rw [vn, stAt_eq, hin, stepSt_n]; exact View.read_writes_eq_canon _ _ _ (nL_cover _ _ _ _)
  isplitl [H15]
  · unfold owns; iexists _; isplitr
    swap; · iexact H15
    ipureintro; rw [vmo, stAt_eq, hin, stepSt_mo]; exact View.read_writes_eq_canon _ _ _ (moL_cover _ _ _ _)
  unfold owns; iexists _; isplitr
  swap; · iexact H16
  ipureintro; rw [vcv]; exact View.read_writes_full _ _ _ _ _

set_option maxHeartbeats 24000000 in
theorem sound_C (c : Dev nD) (t : Fin cfg0.N) (h0 : ¬t.val % 32 = 0) (h1 : t.val % 4 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_pos m c _ _ hz]
  simp only [before0_15_C m c t h0 h1]
  have hin : inS m c t = ⟨k0_pay2, k0_pay3, k0_pay4, (stAt m c (t.val - 1) (Nat.lt_of_le_of_lt (Nat.sub_le _ _) t.isLt)).mo⟩ := by
    unfold inS; rw [prevSt_pos m c t hz]; exact if_pos h1
  have htl : tailT m c t = k0_pay5 := if_pos h1
  iintro ⟨⟨⟨HS0, ⟨%u, %hu, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨vy, vc, vn, vmo, vcv, vub, vct, vm, -⟩ := runC_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c (t.val - 1) (Nat.lt_of_le_of_lt (Nat.sub_le _ _) t.isLt)).mo u
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c (t.val - 1) (Nat.lt_of_le_of_lt (Nat.sub_le _ _) t.isLt)).mo u).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexists _; iexact H16
  isplitl [HS0]; · iexact HS0
  isplitl [HS1]; · iexact HS1
  isplitl [HS2]; · iexists _; iexact HS2
  isplitl [HS3]; · iexists _; iexact HS3
  iintro ⟨H0, H1, H2, H3, H4, H5, H6, H7, H8, H9, H10, H11, ⟨%e12, H12⟩, ⟨%e13, H13⟩, ⟨%e14, H14⟩, ⟨%e15, H15⟩, ⟨%e16, H16⟩, ⟨%fT0, HS0⟩, HS1, ⟨%es2, HS2⟩, ⟨%es3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; isplitr
        swap
        · unfold owns; iexists _; isplitr
          swap; · iexact HS1
          ipureintro; rfl
        ipureintro; rw [vub]; exact agree_ubA _ _ _ _
      isplitl [HS2]
      · unfold owns; iexists _; isplitr
        swap; · iexact HS2
        ipureintro; rw [vct, stAt_eq, hin, stepSt_ct]; exact rd_append (F := F) _ _ _ _ (ctL_cover _ _ _ _)
      unfold owns; iexists _; isplitr
      swap; · iexact HS3
      ipureintro; rw [vm, stAt_eq, hin, stepSt_mm]; exact View.read_writes_eq_canon _ _ _ (mLf_cover _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [vy]; refine (View.read_writes_full _ _ _ _ _).trans ?_; unfold yT hgT; rw [hin, htl]; rw [convV_congr _ _ _ _ _ (agree_put u (fun _ => FloatOps.ofBits .f32 0#32) k0_pay5)]; rfl
  isplitl [H13]
  · unfold owns; iexists _; isplitr
    swap; · iexact H13
    ipureintro; rw [vc]; unfold cT; rw [hin]; exact View.read_writes_eq_canon _ _ _ (cL_cover _ _ _ _)
  isplitl [H14]
  · unfold owns; iexists _; isplitr
    swap; · iexact H14
    ipureintro; rw [vn, stAt_eq, hin, stepSt_n]; exact rd_append (F := F) _ _ _ _ (nL_cover _ _ _ _)
  isplitl [H15]
  · unfold owns; iexists _; isplitr
    swap; · iexact H15
    ipureintro; rw [vmo, stAt_eq, hin, stepSt_mo]; exact View.read_writes_eq_canon _ _ _ (moL_cover _ _ _ _)
  unfold owns; iexists _; isplitr
  swap; · iexact H16
  ipureintro; rw [vcv]; exact View.read_writes_full _ _ _ _ _

theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : t.val % 32 = 0
  · exact sound_A m c t h0 (by omega) (by omega)
  · by_cases h1 : t.val % 4 = 0
    · exact sound_C m c t h0 h1 (by omega)
    · exact sound_B m c t h0 h1 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · icases HS1 with ⟨%u, %hu, HS1⟩
      iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: every run ends, the arguments as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Hand

end
-- ==== Proof.Math.lean ====
/- The gated recurrence over the reals: a stabilizer, and the sums it stabilizes, advanced by several positions at once. -/
module

public import Idealize.ShloMosaic.PureOps.Ideal.Laws

@[expose] public section

noncomputable section

namespace Cert.Rec

open scoped BigOperators
open Idealize.ShloMosaic

/-- The sum of the log forget gates before position `T`. -/
def B (lf : ℕ → ℝ) (T : ℕ) : ℝ := ∑ i ∈ Finset.range T, lf i

/-- The stabilizer after `T` positions. -/
def M (lf ig : ℕ → ℝ) : ℕ → ℝ
  | 0 => 0
  | T + 1 => max (lf T + M lf ig T) (ig T)

/-- The weight at position `T` of the contribution of position `s < T`. -/
def W (lf ig : ℕ → ℝ) (T s : ℕ) : ℝ := Real.exp (B lf T - B lf (s + 1) + ig s - M lf ig T)

/-- The weighted sum of `a` over the first `T` positions. -/
def S (lf ig : ℕ → ℝ) (a : ℕ → ℝ) (T : ℕ) : ℝ := ∑ s ∈ Finset.range T, W lf ig T s * a s

variable (lf ig : ℕ → ℝ)

theorem B_succ (T : ℕ) : B lf (T + 1) = B lf T + lf T := Finset.sum_range_succ _ _

theorem M_le_iff (T j : ℕ) (x : ℝ) :
    M lf ig (T + j) ≤ x ↔
      (B lf (T + j) - B lf T + M lf ig T ≤ x ∧ ∀ s < j, B lf (T + j) - B lf (T + s + 1) + ig (T + s) ≤ x) := by
  induction j generalizing x with
  | zero => simp
  | succ j ih =>
    show max (lf (T + j) + M lf ig (T + j)) (ig (T + j)) ≤ x ↔ _
    rw [max_le_iff, ← le_sub_iff_add_le', ih]
    have hB : B lf (T + (j + 1)) = B lf (T + j) + lf (T + j) := B_succ lf (T + j)
    rw [hB]
    constructor
    · rintro ⟨⟨h1, h2⟩, h3⟩
      refine ⟨by linarith, fun s hs => ?_⟩
      rcases Nat.lt_succ_iff_lt_or_eq.mp hs with h | rfl
      · have := h2 s h; linarith
      · have := B_succ lf (T + s); linarith
    · rintro ⟨h1, h2⟩
      refine ⟨⟨by linarith, fun s hs => ?_⟩, ?_⟩
      · have := h2 s (Nat.lt_succ_of_lt hs); linarith
      · have := h2 j (Nat.lt_succ_self j); have := B_succ lf (T + j); linarith

/-- The stabilizer within a block of `n` positions from `T`, as the masked maximum of a row. -/
theorem max_row (T n : ℕ) (r : ℕ) (hr : r < n) (b : ℝ) (hb : b = B lf (T + r + 1) - B lf T) (p : Fin n → EReal)
    (hp : ∀ s : Fin n, p s = if s.val ≤ r then
      ((b - (B lf (T + s.val + 1) - B lf T) + ig (T + s.val) : ℝ) : EReal) else ⊥) :
    max ((b + M lf ig T : ℝ) : EReal) (Finset.univ.fold max ⊥ p) = (M lf ig (T + r + 1) : EReal) := by
  subst hb
  apply eq_of_forall_ge_iff
  intro c
  rw [max_le_iff, Finset.fold_max_le]
  induction c using EReal.rec with
  | bot =>
    exact ⟨fun h => absurd (le_bot_iff.mp h.1) (EReal.coe_ne_bot _), fun h => absurd (le_bot_iff.mp h) (EReal.coe_ne_bot _)⟩
  | top => simp
  | coe x =>
    rw [EReal.coe_le_coe_iff, EReal.coe_le_coe_iff]
    have := M_le_iff lf ig T (r + 1) x
    simp only [← Nat.add_assoc] at this
    rw [this]
    apply and_congr Iff.rfl
    constructor
    · rintro ⟨-, h⟩ s hs
      have h' := h ⟨s, by omega⟩ (Finset.mem_univ _)
      rw [hp, if_pos (show s ≤ r by omega), EReal.coe_le_coe_iff] at h'
      simp only at h'
      linarith
    · intro h
      refine ⟨bot_le, fun s _ => ?_⟩
      rw [hp]
      split_ifs with hs
      · rw [EReal.coe_le_coe_iff]
        have := h s.val (by omega)
        linarith
      · exact bot_le

/-- The stabilizer at the end of a block. -/
theorem max_end (T n : ℕ) (hn : 0 < n) (b : ℝ) (hb : b = B lf (T + n) - B lf T) (p : Fin n → EReal)
    (hp : ∀ s : Fin n, p s = ((b - (B lf (T + s.val + 1) - B lf T) + ig (T + s.val) : ℝ) : EReal)) :
    max ((b + M lf ig T : ℝ) : EReal) (Finset.univ.fold max ⊥ p) = (M lf ig (T + n) : EReal) := by
  obtain ⟨k, rfl⟩ : ∃ k, n = k + 1 := ⟨n - 1, by omega⟩
  refine max_row lf ig T (k + 1) k (by omega) b hb p fun s => ?_
  rw [hp, if_pos (by omega)]

/-- The weights advance by the forget factor. -/
theorem W_advance (T j s : ℕ) :
    Real.exp ((B lf (T + j) - B lf T + M lf ig T) - M lf ig (T + j)) * W lf ig T s = W lf ig (T + j) s := by
  unfold W
  rw [← Real.exp_add]
  congr 1
  ring

/-- A weighted sum advances: the old sum times the forget factor plus the block's own terms. -/
theorem S_advance (a : ℕ → ℝ) (T j : ℕ) :
    S lf ig a (T + j) = Real.exp ((B lf (T + j) - B lf T + M lf ig T) - M lf ig (T + j)) * S lf ig a T
      + ∑ s ∈ Finset.range j, W lf ig (T + j) (T + s) * a (T + s) := by
  unfold S
  rw [Finset.sum_range_add, Finset.mul_sum]
  congr 1
  refine Finset.sum_congr rfl fun s _ => ?_
  rw [← mul_assoc, W_advance]

/-! Casts of finite sums of reals. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = (Real.exp r : EReal) := rfl
theorem exp_bot : Ideal.exp ⊥ = 0 := rfl

/-- A masked weight against a real factor. -/
theorem row_sum (T n r : ℕ) (hr : r < n) (p : Fin n → EReal) (a : ℕ → ℝ) (b : ℝ) (hb : b = B lf (T + r + 1) - B lf T)
    (hp : ∀ s : Fin n, p s = if s.val ≤ r then
      ((b - (B lf (T + s.val + 1) - B lf T) + ig (T + s.val) : ℝ) : EReal) else ⊥) :
    ∑ s : Fin n, Ideal.exp (p s - (M lf ig (T + r + 1) : EReal)) * (a (T + s.val) : EReal)
      = ((∑ s ∈ Finset.range (r + 1), W lf ig (T + r + 1) (T + s) * a (T + s) : ℝ) : EReal) := by
  subst hb
  have e : ∀ s : Fin n, Ideal.exp (p s - (M lf ig (T + r + 1) : EReal)) * (a (T + s.val) : EReal)
      = ((if s.val ∈ Finset.range (r + 1) then W lf ig (T + r + 1) (T + s.val) * a (T + s.val) else 0 : ℝ) : EReal) := by
    intro s
    rw [hp]
    by_cases h : s.val ≤ r
    · rw [if_pos h, if_pos (Finset.mem_range.mpr (by omega)), ← EReal.coe_sub, exp_coe, ← EReal.coe_mul]
      congr 3
      ring
    · rw [if_neg h, if_neg (by simp; omega), EReal.bot_sub, exp_bot, zero_mul]; rfl
  rw [Finset.sum_congr rfl fun s _ => e s, ← coe_sum]
  congr 1
  rw [Fin.sum_univ_eq_sum_range (fun s => if s ∈ Finset.range (r + 1) then W lf ig (T + r + 1) (T + s) * a (T + s) else 0) n]
  rw [← Finset.sum_filter]
  refine Finset.sum_congr ?_ fun _ _ => rfl
  ext s; simp; omega

end Cert.Rec

end
-- ==== Proof.Chunk.lean ====
/- One head over one chunk, read at an index and computed with real numbers. -/
module

public import proofs.«01_k».proof.Proof.State
public import proofs.«01_k».proof.Proof.Math
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.Rec

theorem sel_sge {α : Type} (r x : ℕ) (hr : r < 2048) (hx : x < 2048) (a b : α) :
    Scalar.select (IntOp.cmpi CmpIPredicate.sge (BitVec.ofNat 32 r) (BitVec.ofNat 32 x)) a b = if x ≤ r then a else b := by
  have h1 : (BitVec.ofNat 32 r).toInt = r := by
    have e : (BitVec.ofNat 32 r).toNat = r := by rw [BitVec.toNat_ofNat]; exact Nat.mod_eq_of_lt (by omega)
    rw [BitVec.toInt_eq_toNat_of_lt (by rw [e]; omega), e]
  have h2 : (BitVec.ofNat 32 x).toInt = x := by
    have e : (BitVec.ofNat 32 x).toNat = x := by rw [BitVec.toNat_ofNat]; exact Nat.mod_eq_of_lt (by omega)
    rw [BitVec.toInt_eq_toNat_of_lt (by rw [e]; omega), e]
  unfold Scalar.select
  rw [show IntOp.cmpi CmpIPredicate.sge (BitVec.ofNat 32 r) (BitVec.ofNat 32 x) = BitVec.ofBool (decide ((BitVec.ofNat 32 x).toInt ≤ (BitVec.ofNat 32 r).toInt)) from rfl, h1, h2]
  by_cases h : x ≤ r
  · rw [if_pos h, if_pos]; simp [h]
  · rw [if_neg h, decide_eq_false (by exact_mod_cast h)]; rfl
theorem sel_slt {α : Type} (r x : ℕ) (hr : r < 2048) (hx : x < 2048) (a b : α) :
    Scalar.select (IntOp.cmpi CmpIPredicate.slt (BitVec.ofNat 32 r) (BitVec.ofNat 32 x)) a b = if r < x then a else b := by
  have h1 : (BitVec.ofNat 32 r).toInt = r := by
    have e : (BitVec.ofNat 32 r).toNat = r := by rw [BitVec.toNat_ofNat]; exact Nat.mod_eq_of_lt (by omega)
    rw [BitVec.toInt_eq_toNat_of_lt (by rw [e]; omega), e]
  have h2 : (BitVec.ofNat 32 x).toInt = x := by
    have e : (BitVec.ofNat 32 x).toNat = x := by rw [BitVec.toNat_ofNat]; exact Nat.mod_eq_of_lt (by omega)
    rw [BitVec.toInt_eq_toNat_of_lt (by rw [e]; omega), e]
  unfold Scalar.select
  rw [show IntOp.cmpi CmpIPredicate.slt (BitVec.ofNat 32 r) (BitVec.ofNat 32 x) = BitVec.ofBool (decide ((BitVec.ofNat 32 r).toInt < (BitVec.ofNat 32 x).toInt)) from rfl, h1, h2]
  by_cases h : r < x
  · rw [if_pos h, if_pos]; simp [h]
  · rw [if_neg h, decide_eq_false (by exact_mod_cast h)]; rfl
theorem ofBits_bot : Ideal.ofBits FTy.f32 4286578688#32 = ⊥ := rfl
theorem mask_bot : (Named.named (F := Ideal) (φ := .f32) κ "mask" 4048155338#32 : EReal) = ⊥ := rfl

/-- The lanes of a head's forget and input gates. -/
def fL (h : Fin 4) : Fin 128 := ⟨4 + h.val, by omega⟩
def iL (h : Fin 4) : Fin 128 := ⟨h.val, by omega⟩

/-- A chunk's gates of head `h` by the real gates `lf`, `ig` of the positions from `T`. -/
structure IsGates (lf ig : ℕ → ℝ) (T : ℕ) (h : Fin 4) (gc bc : FVec Ideal S256x128 .f32) (gt : FVec Ideal S128x256 .f32) : Prop where
  hb : ∀ r : Fin 256, bc (ix2 r (fL h)) = ((B lf (T + r.val + 1) - B lf T : ℝ) : EReal)
  hi : ∀ r : Fin 256, gc (ix2 r (iL h)) = ((ig (T + r.val) : ℝ) : EReal)
  hbt : ∀ r : Fin 256, gt (ix2 (fL h) r) = ((B lf (T + r.val + 1) - B lf T : ℝ) : EReal)
  hit : ∀ r : Fin 256, gt (ix2 (iL h) r) = ((ig (T + r.val) : ℝ) : EReal)

section
variable {lf ig : ℕ → ℝ} {T : ℕ} {h : Fin 4} {gc bc : FVec Ideal S256x128 .f32} {gt : FVec Ideal S128x256 .f32} (hG : IsGates lf ig T h gc bc gt)
include hG

theorem uM_val (mv : Vec Ideal S1x1 .f32) (hm : mv (ix2 0 0) = ((M lf ig T : ℝ) : EReal)) :
    uM h bc gt mv (ix2 0 0) = ((M lf ig (T + 256) : ℝ) : EReal) := by
  unfold uM k0_pay42 k0_pay41 k0_pay40 colS rowS
  pointwise
  change max (bc (ix2 255 (fL h)) + mv (ix2 0 0)) (Finset.fold max (Ideal.ofBits FTy.f32 4286578688#32)
        (fun x => bc (ix2 255 (fL h)) - gt (ix2 (fL h) x) + gt (ix2 (iL h) x)) Finset.univ) = _
  rw [hG.hb, hm, ofBits_bot, ← EReal.coe_add]
  refine max_end lf ig T 256 (by omega) _ rfl _ fun s => ?_
  rw [hG.hbt, hG.hit, ← EReal.coe_sub, ← EReal.coe_add]
  rfl

theorem uN_val (ci : Fin 2) (X : FVec Ideal S512x2048 .f32) (nv : Vec Ideal S1x1x1x128 .f32) (mv : Vec Ideal S1x1 .f32)
    (hm : mv (ix2 0 0) = ((M lf ig T : ℝ) : EReal)) (a : ℕ → ℝ) (d : Fin 128) (hk : ∀ r : Fin 256, kS ci h X (ix2 r d) = ((a (T + r.val) : ℝ) : EReal))
    (hn : nv (ix4 0 0 0 d) = ((S lf ig a T : ℝ) : EReal)) :
    uN ci h X gc bc gt nv mv (ix4 0 0 0 d) = ((S lf ig a (T + 256) : ℝ) : EReal) := by
  have hM := uM_val hG mv hm
  unfold uN k0_pay47 k0_pay45 k0_pay44 k0_pay43 k0_pay41 k0_pay40 k0_pay33
  generalize uM h bc gt mv = m' at hM
  unfold colS
  pointwise
  change Ideal.exp (bc (ix2 255 (fL h)) + mv (ix2 0 0) - m' (ix2 0 0)) * nv (ix4 0 0 0 d)
    + ∑ x, Ideal.exp (bc (ix2 255 (fL h)) - bc (ix2 x (fL h)) + gc (ix2 x (iL h)) - m' (ix2 0 0)) * kS ci h X (ix2 x d) = _
  rw [hM, hn, hm, hG.hb, ← EReal.coe_add, ← EReal.coe_sub, exp_coe, ← EReal.coe_mul]
  simp only [hk]
  rw [S_advance lf ig a T 256, EReal.coe_add]
  congr 1
  exact row_sum lf ig T 256 255 (by omega) (fun x => ((B lf (T + 255 + 1) - B lf T : ℝ) : EReal) - bc (ix2 x (fL h)) + gc (ix2 x (iL h))) a _ rfl
    (fun s => by rw [if_pos (by omega), hG.hb, hG.hi, ← EReal.coe_sub, ← EReal.coe_add])

theorem uCT_val (ci : Fin 2) (X : FVec Ideal S512x2048 .f32) (ct : Vec Ideal S1x128x256 .f32) (mv : Vec Ideal S1x1 .f32)
    (hm : mv (ix2 0 0) = ((M lf ig T : ℝ) : EReal)) (k v : ℕ → ℝ) (d : Fin 128) (e : Fin 256)
    (hk : ∀ r : Fin 256, kS ci h X (ix2 r d) = ((k (T + r.val) : ℝ) : EReal)) (hv : ∀ r : Fin 256, vS ci h X (ix2 r e) = ((v (T + r.val) : ℝ) : EReal))
    (hc : ct (ix3 0 d e) = ((S lf ig (fun s => k s * v s) T : ℝ) : EReal)) :
    uCT ci h X gc bc gt ct mv (ix3 0 d e) = ((S lf ig (fun s => k s * v s) (T + 256) : ℝ) : EReal) := by
  have hM := uM_val hG mv hm
  unfold uCT k0_pay46 k0_pay45 k0_pay44 k0_pay43 k0_pay41 k0_pay40 k0_pay32
  generalize uM h bc gt mv = m' at hM
  unfold colS
  pointwise
  change Ideal.exp (bc (ix2 255 (fL h)) + mv (ix2 0 0) - m' (ix2 0 0)) * ct (ix3 0 d e)
    + ∑ x, kS ci h X (ix2 x d) * (Ideal.exp (bc (ix2 255 (fL h)) - bc (ix2 x (fL h)) + gc (ix2 x (iL h)) - m' (ix2 0 0)) * vS ci h X (ix2 x e)) = _
  rw [hM, hc, hm, hG.hb, ← EReal.coe_add, ← EReal.coe_sub, exp_coe, ← EReal.coe_mul]
  simp only [hk, hv]
  rw [S_advance lf ig _ T 256, EReal.coe_add]
  congr 1
  refine Eq.trans (Finset.sum_congr rfl fun x _ => ?_) (row_sum lf ig T 256 255 (by omega) (fun x => ((B lf (T + 255 + 1) - B lf T : ℝ) : EReal) - bc (ix2 x (fL h)) + gc (ix2 x (iL h))) (fun s => k s * v s) _ rfl
    (fun s => by rw [if_pos (by omega), hG.hb, hG.hi, ← EReal.coe_sub, ← EReal.coe_add]))
  rw [EReal.coe_mul]
  exact mul_left_comm _ _ _

/-- The value of a head at a position: the weighted values over the weighted keys, both against the query. -/
def hR (lf ig : ℕ → ℝ) (qk : ℕ → ℝ) (v : ℕ → ℝ) (n : ℕ) : EReal :=
  Ideal.div ((S lf ig (fun s => qk s * v s) n : ℝ) : EReal) (max (FloatOps.absf (F := Ideal) (φ := .f32) ((S lf ig qk n : ℝ) : EReal)) (Ideal.exp (0 - ((M lf ig n : ℝ) : EReal))))

theorem uH_val (ci : Fin 2) (X : FVec Ideal S512x2048 .f32) (ct : Vec Ideal S1x128x256 .f32) (nv : Vec Ideal S1x1x1x128 .f32) (mv : Vec Ideal S1x1 .f32)
    (hm : mv (ix2 0 0) = ((M lf ig T : ℝ) : EReal)) (q : Fin 128 → ℝ) (k : Fin 128 → ℕ → ℝ) (v : ℕ → ℝ) (r e : Fin 256)
    (hq : ∀ d, qS ci h X (ix2 r d) = ((q d : ℝ) : EReal))
    (hk : ∀ (r : Fin 256) d, kS ci h X (ix2 r d) = ((k d (T + r.val) : ℝ) : EReal)) (hv : ∀ r : Fin 256, vS ci h X (ix2 r e) = ((v (T + r.val) : ℝ) : EReal))
    (hc : ∀ d, ct (ix3 0 d e) = ((S lf ig (fun s => k d s * v s) T : ℝ) : EReal)) (hn : ∀ d, nv (ix4 0 0 0 d) = ((S lf ig (k d) T : ℝ) : EReal)) :
    uH ci h X bc gt ct nv mv (ix2 r e) = hR lf ig (fun s => ∑ d, q d * k d s) v (T + r.val + 1) := by
  unfold uH k0_pay39 k0_pay32 k0_pay33 k0_pay11
  unfold colS rowS
  pointwise
  simp only [sel_sge _ _ (lt_trans r.isLt (by decide : (256:ℕ) < 2048)) (lt_trans (Fin.isLt _) (by decide : (256:ℕ) < 2048)), ofBits_bot, mask_bot]
  set p : Fin 256 → EReal := fun x => if x.val ≤ r.val then bc (ix2 r (fL h)) - gt (ix2 (fL h) x) + gt (ix2 (iL h) x) else ⊥ with hp
  have hpv : ∀ s : Fin 256, p s = if s.val ≤ r.val then ((B lf (T + r.val + 1) - B lf T - (B lf (T + s.val + 1) - B lf T) + ig (T + s.val) : ℝ) : EReal) else ⊥ := fun s => by
    rw [hp]; dsimp only
    rw [hG.hb, hG.hbt, hG.hit, ← EReal.coe_sub, ← EReal.coe_add]
  change Ideal.div (Ideal.exp (bc (ix2 r (fL h)) + mv (ix2 0 0) - max (bc (ix2 r (fL h)) + mv (ix2 0 0)) (Finset.fold max ⊥ p Finset.univ)) * ∑ x, qS ci h X (ix2 r x) * ct (ix3 0 x e)
      + ∑ x, (∑ d, qS ci h X (ix2 r d) * kS ci h X (ix2 x d)) * Ideal.exp (p x - max (bc (ix2 r (fL h)) + mv (ix2 0 0)) (Finset.fold max ⊥ p Finset.univ)) * vS ci h X (ix2 x e))
    (max (FloatOps.absf (F := Ideal) (φ := .f32) (Ideal.exp (bc (ix2 r (fL h)) + mv (ix2 0 0) - max (bc (ix2 r (fL h)) + mv (ix2 0 0)) (Finset.fold max ⊥ p Finset.univ)) * ∑ x, qS ci h X (ix2 r x) * nv (ix4 0 0 0 x)
      + ∑ x, (∑ d, qS ci h X (ix2 r d) * kS ci h X (ix2 x d)) * Ideal.exp (p x - max (bc (ix2 r (fL h)) + mv (ix2 0 0)) (Finset.fold max ⊥ p Finset.univ))))
      (Ideal.exp (0 - max (bc (ix2 r (fL h)) + mv (ix2 0 0)) (Finset.fold max ⊥ p Finset.univ)))) = _
  rw [hG.hb, hm, ← EReal.coe_add, max_row lf ig T 256 r.val r.isLt _ rfl p hpv]
  simp only [hq, hk, hv, hc, hn, ← EReal.coe_mul, ← coe_sum, ← EReal.coe_sub, exp_coe]
  unfold hR
  have e1 : ∀ (a : ℕ → ℝ), Real.exp (B lf (T + r.val + 1) - B lf T + M lf ig T - M lf ig (T + r.val + 1)) * S lf ig a T + ∑ s ∈ Finset.range (r.val + 1), W lf ig (T + r.val + 1) (T + s) * a (T + s) = S lf ig a (T + r.val + 1) :=
    fun a => (S_advance lf ig a T (r.val + 1)).symm
  have e2 : ∀ u : ℕ → ℝ, ∑ d, q d * S lf ig (fun s => k d s * u s) T = S lf ig (fun s => (∑ d, q d * k d s) * u s) T := fun u => by
    unfold S
    simp only [Finset.mul_sum, Finset.sum_mul]
    rw [Finset.sum_comm]
    refine Finset.sum_congr rfl fun s _ => Finset.sum_congr rfl fun d _ => ?_
    ring
  have e3 : ∀ u : ℕ → ℝ, ∑ x : Fin 256, (((∑ d, q d * k d (T + x.val) : ℝ) : EReal) * Ideal.exp (p x - ((M lf ig (T + r.val + 1) : ℝ) : EReal))) * ((u (T + x.val) : ℝ) : EReal)
      = ((∑ s ∈ Finset.range (r.val + 1), W lf ig (T + r.val + 1) (T + s) * ((∑ d, q d * k d (T + s)) * u (T + s)) : ℝ) : EReal) := fun u => by
    refine Eq.trans (Finset.sum_congr rfl fun x _ => ?_) (row_sum lf ig T 256 r.val r.isLt p (fun s => (∑ d, q d * k d s) * u s) _ rfl hpv)
    rw [EReal.coe_mul, mul_right_comm, mul_comm]
  have e4 := e3 (fun _ => 1)
  simp only [EReal.coe_one, mul_one] at e4
  have e5 := e2 (fun _ => 1)
  simp only [mul_one] at e5
  rw [e3 v, e4, e2 v, e5, ← EReal.coe_add, ← EReal.coe_add, e1 (fun s => (∑ d, q d * k d s) * v s), e1 (fun s => (∑ d, q d * k d s))]
end

end Cert.KernelIdeal.Hand
end
-- ==== Proof.Proj.lean ====
/- The normed rows, their projections and the gates, over the reals. -/
module

public import proofs.«01_k».proof.Proof.Math

@[expose] public section

noncomputable section

namespace Cert.Rec

open scoped BigOperators
open Idealize.ShloMosaic

/-- The real arguments of the layer that its state depends on. -/
structure In where
  x : Fin 8 → ℕ → Fin 1024 → ℝ
  nw : Fin 1024 → ℝ
  w : Fin 1024 → ℕ → ℝ
  bi : Fin 4 → ℝ
  bf : Fin 4 → ℝ

/-- The constants of the layer: the norm's epsilon and the scale of the keys. -/
def eps : ℝ := (Ideal.ofBits .f32 897988541#32 : EReal).toReal
def ksc : ℝ := (Ideal.ofBits .f32 1035273459#32 : EReal).toReal

theorem eps_eq : ∃ r : ℝ, 0 < r ∧ Ideal.ofBits .f32 897988541#32 = (r : EReal) := by
  refine ⟨_, ?_, by simp [Ideal.ofBits, Ideal.ieee]; rfl⟩
  norm_num
theorem ksc_eq : ∃ r : ℝ, Ideal.ofBits .f32 1035273459#32 = (r : EReal) := by
  exact ⟨_, by simp [Ideal.ofBits, Ideal.ieee]; rfl⟩
theorem eps_pos : 0 < eps := by obtain ⟨r, h, e⟩ := eps_eq; unfold eps; rw [e]; exact h
theorem eps_val : Ideal.ofBits .f32 897988541#32 = (eps : EReal) := by obtain ⟨r, h, e⟩ := eps_eq; unfold eps; rw [e]; rfl
theorem ksc_val : Ideal.ofBits .f32 1035273459#32 = (ksc : EReal) := by obtain ⟨r, e⟩ := ksc_eq; unfold ksc; rw [e]; rfl
theorem d_val : Ideal.ofBits .f32 1149239296#32 = ((1024 : ℝ) : EReal) := by
  have : ((8388608 : ℝ) : EReal) * (((2 ^ 13)⁻¹ : ℝ) : EReal) = ((1024 : ℝ) : EReal) := by rw [← EReal.coe_mul]; norm_num
  simp only [Ideal.ofBits, Ideal.ieee]
  simp
  exact this

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

def lsig (x : ℝ) : ℝ := min x 0 - Real.log (1 + Real.exp (-|x|))

variable (I : In)
def In.ss (b : Fin 8) (i : ℕ) : ℝ := ∑ j, I.x b i j * I.x b i j
def In.xn (b : Fin 8) (i : ℕ) (k : Fin 1024) : ℝ := I.x b i k * (√(I.ss b i / 1024 + eps))⁻¹ * I.nw k
def In.p (b : Fin 8) (i : ℕ) (c : ℕ) : ℝ := ∑ k, I.xn b i k * I.w k c
def In.ig (b : Fin 8) (h : Fin 4) (i : ℕ) : ℝ := I.p b i (2048 + h.val) + I.bi h
def In.lf (b : Fin 8) (h : Fin 4) (i : ℕ) : ℝ := lsig (I.p b i (2052 + h.val) + I.bf h)
def In.q (b : Fin 8) (h : Fin 4) (i : ℕ) (d : Fin 128) : ℝ := I.p b i (128 * h.val + d.val)
def In.k (b : Fin 8) (h : Fin 4) (d : Fin 128) (i : ℕ) : ℝ := I.p b i (512 + 128 * h.val + d.val) * ksc
def In.v (b : Fin 8) (h : Fin 4) (e : Fin 256) (i : ℕ) : ℝ := I.p b i (1024 + 256 * h.val + e.val)

/-- A row's norm, computed on the extended line. -/
theorem norm_val (xs : Fin 1024 → ℝ) (a n : ℝ) :
    (a : EReal) * Ideal.rsqrt (Ideal.div (∑ j, (xs j : EReal) * (xs j : EReal)) (Ideal.ofBits .f32 1149239296#32) + Ideal.ofBits .f32 897988541#32) * (n : EReal)
      = ((a * (√((∑ j, xs j * xs j) / 1024 + eps))⁻¹ * n : ℝ) : EReal) := by
  have h : (∑ j, (xs j : EReal) * (xs j : EReal)) = ((∑ j, xs j * xs j : ℝ) : EReal) := by
    rw [coe_sum]; simp only [EReal.coe_mul]
  have h0 : 0 ≤ ∑ j, xs j * xs j := Finset.sum_nonneg fun j _ => mul_self_nonneg _
  have he := eps_pos
  have hp : 0 < (∑ j, xs j * xs j) * (1 / 1024) + eps := by positivity
  rw [h, d_val, eps_val, Ideal.div_coe (by norm_num), ← EReal.coe_mul, ← EReal.coe_add, Ideal.rsqrt_coe, if_neg (not_lt.mpr hp.le), if_neg hp.ne', ← EReal.coe_mul,
    ← EReal.coe_mul, mul_one_div]

theorem log1p_coe {r : ℝ} (h : -1 < r) : Ideal.log1p (r : EReal) = (Real.log (1 + r) : EReal) := by
  unfold Ideal.log1p
  rw [← EReal.coe_one, ← EReal.coe_add]
  show (if 1 + r ≤ 0 then ⊥ else ((Real.log (1 + r) : ℝ) : EReal)) = _
  rw [if_neg (by linarith)]

theorem abs_coe (r : ℝ) : max (r : EReal) (-(r : EReal)) = ((|r| : ℝ) : EReal) := by
  rw [← EReal.coe_neg, ← coe_max]; rfl

theorem lsig_val (r : ℝ) :
    min (r : EReal) 0 - Ideal.log1p (Ideal.exp (0 - max (r : EReal) (-(r : EReal)))) = (lsig r : EReal) := by
  rw [abs_coe, zero_sub, ← EReal.coe_neg, exp_coe, log1p_coe (by have := Real.exp_pos (-|r|); linarith), ← EReal.coe_zero, ← coe_min, ← EReal.coe_sub]
  rfl

theorem lsig_val' (r : ℝ) :
    -(max (-(r : EReal)) 0 + Ideal.log1p (Ideal.exp (-(max (-(r : EReal) - 0) (-(-(r : EReal) - 0)))))) = (lsig r : EReal) := by
  rw [sub_zero, ← EReal.coe_neg, abs_coe, ← EReal.coe_neg, exp_coe, log1p_coe (by have := Real.exp_pos (-|-r|); linarith), ← EReal.coe_zero, ← coe_max, ← EReal.coe_add,
    ← EReal.coe_neg, abs_neg]
  unfold lsig
  congr 1
  rcases le_total r 0 with h | h
  · rw [max_eq_left (by linarith), min_eq_left h]; ring
  · rw [max_eq_right (by linarith), min_eq_right h]; ring

end Cert.Rec

end
-- ==== Proof.Gates.lean ====
/- The gates of a chunk: a running sum by doubling, read with real numbers. -/
module

public import proofs.«01_k».proof.Proof.Chunk
public import proofs.«01_k».proof.Proof.Proj
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.Rec

theorem gcV_read (ci : Fin 2) (G : FVec Ideal S512x128 .f32) (r : Fin 256) (k : Fin 128) :
    gcV ci G (ix2 r k) = G (ix2 ⟨256 * ci.val + r.val, by omega⟩ k) := by
  unfold gcV
  pointwise

theorem rollAdd_read (w : ℕ) (hw : 0 < w) (hw2 : w < 256) (g : FVec Ideal S256x128 .f32) (r : Fin 256) (l : Fin 128) :
    rollAdd (BitVec.ofNat 32 w) g (ix2 r l) = g (ix2 r l) + if h : w ≤ r.val then g (ix2 ⟨r.val - w, by omega⟩ l) else 0 := by
  have hm : (BitVec.ofNat 32 w).toNat % 256 = w := by rw [BitVec.toNat_ofNat]; omega
  unfold rollAdd
  pointwise
  rw [sel_sge _ _ (by omega) (by omega)]
  congr 1
  by_cases h : w ≤ r.val
  · rw [if_pos h, dif_pos h]
    congr 2
    apply Fin.ext
    show (r.val + 256 - (BitVec.ofNat 32 w).toNat % 256) % 256 = r.val - w
    rw [hm]; omega
  · rw [if_neg h, dif_neg h]

section
variable (lf : ℕ → ℝ) (T : ℕ)

theorem roll_step (w : ℕ) (hw : 0 < w) (hw2 : w < 256) (g : FVec Ideal S256x128 .f32) (l : Fin 128)
    (hg : ∀ r : Fin 256, g (ix2 r l) = ((B lf (T + r.val + 1) - B lf (T + (r.val + 1 - w)) : ℝ) : EReal)) (r : Fin 256) :
    rollAdd (BitVec.ofNat 32 w) g (ix2 r l) = ((B lf (T + r.val + 1) - B lf (T + (r.val + 1 - 2 * w)) : ℝ) : EReal) := by
  rw [rollAdd_read w hw hw2, hg]
  by_cases h : w ≤ r.val
  · rw [dif_pos h, hg, ← EReal.coe_add]
    congr 1
    show B lf (T + r.val + 1) - B lf (T + (r.val + 1 - w)) + (B lf (T + (r.val - w) + 1) - B lf (T + (r.val - w + 1 - w))) = _
    rw [show T + (r.val - w) + 1 = T + (r.val + 1 - w) by omega, show r.val - w + 1 - w = r.val + 1 - 2 * w by omega]
    ring
  · rw [dif_neg h, add_zero, show r.val + 1 - w = r.val + 1 - 2 * w by omega]

theorem bcV_val (ci : Fin 2) (G : FVec Ideal S512x128 .f32) (l : Fin 128) (hg : ∀ r : Fin 256, gcV ci G (ix2 r l) = ((lf (T + r.val) : ℝ) : EReal)) (r : Fin 256) :
    bcV ci G (ix2 r l) = ((B lf (T + r.val + 1) - B lf T : ℝ) : EReal) := by
  have h0 : ∀ r : Fin 256, gcV ci G (ix2 r l) = ((B lf (T + r.val + 1) - B lf (T + (r.val + 1 - 1)) : ℝ) : EReal) := fun r => by
    rw [hg, show T + (r.val + 1 - 1) = T + r.val by omega, B_succ]; congr 1; ring
  have h := roll_step lf T 128 (by omega) (by omega) _ l (roll_step lf T 64 (by omega) (by omega) _ l (roll_step lf T 32 (by omega) (by omega) _ l
    (roll_step lf T 16 (by omega) (by omega) _ l (roll_step lf T 8 (by omega) (by omega) _ l (roll_step lf T 4 (by omega) (by omega) _ l
    (roll_step lf T 2 (by omega) (by omega) _ l (roll_step lf T 1 (by omega) (by omega) _ l h0))))))) r
  rw [show T + (r.val + 1 - 2 * 128) = T by omega] at h
  exact h

theorem gtV_read (ci : Fin 2) (G : FVec Ideal S512x128 .f32) (r : Fin 256) (k : Fin 128) :
    gtV ci G (ix2 k r) = if k.val < 4 then gcV ci G (ix2 r k) else bcV ci G (ix2 r k) := by
  unfold gtV
  generalize gcV ci G = a
  generalize bcV ci G = b
  pointwise
  exact sel_slt k.val 4 (by omega) (by omega) _ _

/-- The gates of a chunk from the gate columns of a block. -/
theorem isGates (ig : ℕ → ℝ) (h : Fin 4) (ci : Fin 2) (G : FVec Ideal S512x128 .f32) (T0 : ℕ)
    (hf : ∀ r : Fin 512, G (ix2 r (fL h)) = ((lf (T0 + r.val) : ℝ) : EReal)) (hi : ∀ r : Fin 512, G (ix2 r (iL h)) = ((ig (T0 + r.val) : ℝ) : EReal)) :
    IsGates lf ig (T0 + 256 * ci.val) h (gcV ci G) (bcV ci G) (gtV ci G) := by
  have h1 : ∀ r : Fin 256, gcV ci G (ix2 r (fL h)) = ((lf (T0 + 256 * ci.val + r.val) : ℝ) : EReal) := fun r => by
    rw [gcV_read, hf]; simp only [Nat.add_assoc]
  have h2 : ∀ r : Fin 256, gcV ci G (ix2 r (iL h)) = ((ig (T0 + 256 * ci.val + r.val) : ℝ) : EReal) := fun r => by
    rw [gcV_read, hi]; simp only [Nat.add_assoc]
  have h3 := bcV_val lf (T0 + 256 * ci.val) ci G (fL h) h1
  refine ⟨h3, h2, fun r => ?_, fun r => ?_⟩
  · rw [gtV_read, if_neg (by unfold fL; simp only; omega)]; exact h3 r
  · rw [gtV_read, if_pos (by unfold iL; simp only; omega)]; exact h2 r

end

/-- The gate columns of a block: the input gates as they are, the forget gates by the log-sigmoid. -/
theorem gates_read (g : FVec Ideal S512x128 .f32) (r : Fin 512) (k : Fin 128) (a : ℝ) (hg : g (ix2 r k) = (a : EReal)) :
    gates g (ix2 r k) = if k.val < 4 then (a : EReal) else (lsig a : EReal) := by
  unfold gates k0_pay9 k0_pay8
  pointwise
  rw [sel_slt k.val 4 (by omega) (by omega), hg]
  split_ifs
  · rfl
  · exact lsig_val a

end Cert.KernelIdeal.Hand

end
-- ==== Proof.Inv.lean ====
/- The pieces of a state read at an index, and the state after a block. -/
module

public import proofs.«01_k».proof.Proof.Chunk
public import Idealize.ShloMosaic.Lib.Pipeline.ValueKit.Tiles
public import proofs.«01_k».proof.Proof.Math
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.Rec

section
variable {F : FTy → Type} [FloatOps F] [Named F]
theorem canon_skip {s : Shape} {e : EltTy} {off size : Fin s.rank → ℕ} (inb : ∀ a, off a + size a ≤ s.size a) (w : (Rect.unit (s := s) off size inb).shape.Idx → Elt F e)
    (L : List (View.Piece (Elt F) s e)) (y : s.Idx) (a : Fin s.rank) (h : (y a).val < off a ∨ off a + size a ≤ (y a).val) :
    View.canon ((⟨Rect.unit off size inb, w⟩ : View.Piece (Elt F) s e) :: L) y = View.canon L y := by
  apply View.canon_cons_of_not_mem
  intro hy
  obtain ⟨j, hj⟩ := LoadRect.exists_idx_of_mem _ hy
  have h1 : (y a).val = off a + (j a).val := by rw [← hj]; exact Rect.idx_unit_val off size inb j a
  have h2 : (j a).val < size a := (j a).isLt
  omega
theorem canon_at {s : Shape} {e : EltTy} {off size : Fin s.rank → ℕ} (inb : ∀ a, off a + size a ≤ s.size a) (w : (Rect.unit (s := s) off size inb).shape.Idx → Elt F e)
    (L : List (View.Piece (Elt F) s e)) (y : s.Idx) (x : (Rect.unit (s := s) off size inb).shape.Idx) (h : ∀ a, (y a).val = off a + (x a).val) :
    View.canon ((⟨Rect.unit off size inb, w⟩ : View.Piece (Elt F) s e) :: L) y = w x := by
  have : y = (Rect.unit (s := s) off size inb).emb x := funext fun a => Fin.ext ((h a).trans (Rect.idx_unit_val off size inb x a).symm)
  rw [this]; exact View.canon_cons_emb _ w L x
theorem ctL_read_0 (X G a b) (d : Fin 128) (e : Fin 256) : View.canon (ctL (F := F) X G a b) (ix3 0 d e) = ctB X G a b 0 (ix3 0 d e) := by
  unfold ctL
  refine (canon_skip (F := F) (s := S4x128x256) (e := .f32) (off := ![3, 0, 0]) (size := S1x128x256.size) _ _ _ _ 0 (Or.inl (show 0 < 3 by decide))).trans ?_
  refine (canon_skip (F := F) (s := S4x128x256) (e := .f32) (off := ![2, 0, 0]) (size := S1x128x256.size) _ _ _ _ 0 (Or.inl (show 0 < 2 by decide))).trans ?_
  refine (canon_skip (F := F) (s := S4x128x256) (e := .f32) (off := ![1, 0, 0]) (size := S1x128x256.size) _ _ _ _ 0 (Or.inl (show 0 < 1 by decide))).trans ?_
  exact canon_at (F := F) (s := S4x128x256) (e := .f32) (off := ![0, 0, 0]) (size := S1x128x256.size) inb_S4x128x256_S1x128x256_0_0_0 _ _ _ (ix3 0 d e) (fun a => by fin_cases a <;> simp [ix3])
theorem ctL_read_1 (X G a b) (d : Fin 128) (e : Fin 256) : View.canon (ctL (F := F) X G a b) (ix3 1 d e) = ctB X G a b 1 (ix3 0 d e) := by
  unfold ctL
  refine (canon_skip (F := F) (s := S4x128x256) (e := .f32) (off := ![3, 0, 0]) (size := S1x128x256.size) _ _ _ _ 0 (Or.inl (show 1 < 3 by decide))).trans ?_
  refine (canon_skip (F := F) (s := S4x128x256) (e := .f32) (off := ![2, 0, 0]) (size := S1x128x256.size) _ _ _ _ 0 (Or.inl (show 1 < 2 by decide))).trans ?_
  exact canon_at (F := F) (s := S4x128x256) (e := .f32) (off := ![1, 0, 0]) (size := S1x128x256.size) inb_S4x128x256_S1x128x256_1_0_0 _ _ _ (ix3 0 d e) (fun a => by fin_cases a <;> simp [ix3])
theorem ctL_read_2 (X G a b) (d : Fin 128) (e : Fin 256) : View.canon (ctL (F := F) X G a b) (ix3 2 d e) = ctB X G a b 2 (ix3 0 d e) := by
  unfold ctL
  refine (canon_skip (F := F) (s := S4x128x256) (e := .f32) (off := ![3, 0, 0]) (size := S1x128x256.size) _ _ _ _ 0 (Or.inl (show 2 < 3 by decide))).trans ?_
  exact canon_at (F := F) (s := S4x128x256) (e := .f32) (off := ![2, 0, 0]) (size := S1x128x256.size) inb_S4x128x256_S1x128x256_2_0_0 _ _ _ (ix3 0 d e) (fun a => by fin_cases a <;> simp [ix3])
theorem ctL_read_3 (X G a b) (d : Fin 128) (e : Fin 256) : View.canon (ctL (F := F) X G a b) (ix3 3 d e) = ctB X G a b 3 (ix3 0 d e) := by
  unfold ctL
  exact canon_at (F := F) (s := S4x128x256) (e := .f32) (off := ![3, 0, 0]) (size := S1x128x256.size) inb_S4x128x256_S1x128x256_3_0_0 _ _ _ (ix3 0 d e) (fun a => by fin_cases a <;> simp [ix3])
theorem ctL_read (X G a b) (h : Fin 4) (d : Fin 128) (e : Fin 256) : View.canon (ctL (F := F) X G a b) (ix3 h d e) = ctB X G a b h (ix3 0 d e) := by
  match h with
  | 0 => exact ctL_read_0 X G a b d e
  | 1 => exact ctL_read_1 X G a b d e
  | 2 => exact ctL_read_2 X G a b d e
  | 3 => exact ctL_read_3 X G a b d e
theorem nL_read_0 (X G a b) (d : Fin 128) : View.canon (nL (F := F) X G a b) (ix4 0 0 0 d) = nB X G a b 0 (ix4 0 0 0 d) := by
  unfold nL
  refine (canon_skip (F := F) (s := S1x1x4x128) (e := .f32) (off := ![0, 0, 3, 0]) (size := S1x1x1x128.size) _ _ _ _ 2 (Or.inl (show 0 < 3 by decide))).trans ?_
  refine (canon_skip (F := F) (s := S1x1x4x128) (e := .f32) (off := ![0, 0, 2, 0]) (size := S1x1x1x128.size) _ _ _ _ 2 (Or.inl (show 0 < 2 by decide))).trans ?_
  refine (canon_skip (F := F) (s := S1x1x4x128) (e := .f32) (off := ![0, 0, 1, 0]) (size := S1x1x1x128.size) _ _ _ _ 2 (Or.inl (show 0 < 1 by decide))).trans ?_
  exact canon_at (F := F) (s := S1x1x4x128) (e := .f32) (off := ![0, 0, 0, 0]) (size := S1x1x1x128.size) inb_S1x1x4x128_S1x1x1x128_0_0_0_0 _ _ _ (ix4 0 0 0 d) (fun a => by fin_cases a <;> simp [ix4])
theorem nL_read_1 (X G a b) (d : Fin 128) : View.canon (nL (F := F) X G a b) (ix4 0 0 1 d) = nB X G a b 1 (ix4 0 0 0 d) := by
  unfold nL
  refine (canon_skip (F := F) (s := S1x1x4x128) (e := .f32) (off := ![0, 0, 3, 0]) (size := S1x1x1x128.size) _ _ _ _ 2 (Or.inl (show 1 < 3 by decide))).trans ?_
  refine (canon_skip (F := F) (s := S1x1x4x128) (e := .f32) (off := ![0, 0, 2, 0]) (size := S1x1x1x128.size) _ _ _ _ 2 (Or.inl (show 1 < 2 by decide))).trans ?_
  exact canon_at (F := F) (s := S1x1x4x128) (e := .f32) (off := ![0, 0, 1, 0]) (size := S1x1x1x128.size) inb_S1x1x4x128_S1x1x1x128_0_0_1_0 _ _ _ (ix4 0 0 0 d) (fun a => by fin_cases a <;> simp [ix4])
theorem nL_read_2 (X G a b) (d : Fin 128) : View.canon (nL (F := F) X G a b) (ix4 0 0 2 d) = nB X G a b 2 (ix4 0 0 0 d) := by
  unfold nL
  refine (canon_skip (F := F) (s := S1x1x4x128) (e := .f32) (off := ![0, 0, 3, 0]) (size := S1x1x1x128.size) _ _ _ _ 2 (Or.inl (show 2 < 3 by decide))).trans ?_
  exact canon_at (F := F) (s := S1x1x4x128) (e := .f32) (off := ![0, 0, 2, 0]) (size := S1x1x1x128.size) inb_S1x1x4x128_S1x1x1x128_0_0_2_0 _ _ _ (ix4 0 0 0 d) (fun a => by fin_cases a <;> simp [ix4])
theorem nL_read_3 (X G a b) (d : Fin 128) : View.canon (nL (F := F) X G a b) (ix4 0 0 3 d) = nB X G a b 3 (ix4 0 0 0 d) := by
  unfold nL
  exact canon_at (F := F) (s := S1x1x4x128) (e := .f32) (off := ![0, 0, 3, 0]) (size := S1x1x1x128.size) inb_S1x1x4x128_S1x1x1x128_0_0_3_0 _ _ _ (ix4 0 0 0 d) (fun a => by fin_cases a <;> simp [ix4])
theorem nL_read (X G a b) (h : Fin 4) (d : Fin 128) : View.canon (nL (F := F) X G a b) (ix4 0 0 h d) = nB X G a b h (ix4 0 0 0 d) := by
  match h with
  | 0 => exact nL_read_0 X G a b d
  | 1 => exact nL_read_1 X G a b d
  | 2 => exact nL_read_2 X G a b d
  | 3 => exact nL_read_3 X G a b d
theorem moL_read_0 (G a b i) (l : Fin 8) : View.canon (moL (F := F) G a b i) (ix3 0 0 l) = moB G a b i 0 (ix3 0 0 l) := by
  unfold moL
  refine (canon_skip (F := F) (s := S1x4x8) (e := .f32) (off := ![0, 3, 0]) (size := S1x1x8.size) _ _ _ _ 1 (Or.inl (show 0 < 3 by decide))).trans ?_
  refine (canon_skip (F := F) (s := S1x4x8) (e := .f32) (off := ![0, 2, 0]) (size := S1x1x8.size) _ _ _ _ 1 (Or.inl (show 0 < 2 by decide))).trans ?_
  refine (canon_skip (F := F) (s := S1x4x8) (e := .f32) (off := ![0, 1, 0]) (size := S1x1x8.size) _ _ _ _ 1 (Or.inl (show 0 < 1 by decide))).trans ?_
  exact canon_at (F := F) (s := S1x4x8) (e := .f32) (off := ![0, 0, 0]) (size := S1x1x8.size) inb_S1x4x8_S1x1x8_0_0_0 _ _ _ (ix3 0 0 l) (fun a => by fin_cases a <;> simp [ix3])
theorem moL_read_1 (G a b i) (l : Fin 8) : View.canon (moL (F := F) G a b i) (ix3 0 1 l) = moB G a b i 1 (ix3 0 0 l) := by
  unfold moL
  refine (canon_skip (F := F) (s := S1x4x8) (e := .f32) (off := ![0, 3, 0]) (size := S1x1x8.size) _ _ _ _ 1 (Or.inl (show 1 < 3 by decide))).trans ?_
  refine (canon_skip (F := F) (s := S1x4x8) (e := .f32) (off := ![0, 2, 0]) (size := S1x1x8.size) _ _ _ _ 1 (Or.inl (show 1 < 2 by decide))).trans ?_
  exact canon_at (F := F) (s := S1x4x8) (e := .f32) (off := ![0, 1, 0]) (size := S1x1x8.size) inb_S1x4x8_S1x1x8_0_1_0 _ _ _ (ix3 0 0 l) (fun a => by fin_cases a <;> simp [ix3])
theorem moL_read_2 (G a b i) (l : Fin 8) : View.canon (moL (F := F) G a b i) (ix3 0 2 l) = moB G a b i 2 (ix3 0 0 l) := by
  unfold moL
  refine (canon_skip (F := F) (s := S1x4x8) (e := .f32) (off := ![0, 3, 0]) (size := S1x1x8.size) _ _ _ _ 1 (Or.inl (show 2 < 3 by decide))).trans ?_
  exact canon_at (F := F) (s := S1x4x8) (e := .f32) (off := ![0, 2, 0]) (size := S1x1x8.size) inb_S1x4x8_S1x1x8_0_2_0 _ _ _ (ix3 0 0 l) (fun a => by fin_cases a <;> simp [ix3])
theorem moL_read_3 (G a b i) (l : Fin 8) : View.canon (moL (F := F) G a b i) (ix3 0 3 l) = moB G a b i 3 (ix3 0 0 l) := by
  unfold moL
  exact canon_at (F := F) (s := S1x4x8) (e := .f32) (off := ![0, 3, 0]) (size := S1x1x8.size) inb_S1x4x8_S1x1x8_0_3_0 _ _ _ (ix3 0 0 l) (fun a => by fin_cases a <;> simp [ix3])
theorem moL_read (G a b i) (h : Fin 4) (l : Fin 8) : View.canon (moL (F := F) G a b i) (ix3 0 h l) = moB G a b i h (ix3 0 0 l) := by
  match h with
  | 0 => exact moL_read_0 G a b i l
  | 1 => exact moL_read_1 G a b i l
  | 2 => exact moL_read_2 G a b i l
  | 3 => exact moL_read_3 G a b i l
theorem cL_read_0 (X G a b) (e : Fin 256) (d : Fin 128) : View.canon (cL (F := F) X G a b) (ix5 0 0 0 e d) = k0_pay291 (ctB X G a b 0) (ix5 0 0 0 e d) := by
  unfold cL
  refine (canon_skip (F := F) (s := S1x1x4x256x128) (e := .f32) (off := ![0, 0, 3, 0, 0]) (size := S1x1x1x256x128.size) _ _ _ _ 2 (Or.inl (show 0 < 3 by decide))).trans ?_
  refine (canon_skip (F := F) (s := S1x1x4x256x128) (e := .f32) (off := ![0, 0, 2, 0, 0]) (size := S1x1x1x256x128.size) _ _ _ _ 2 (Or.inl (show 0 < 2 by decide))).trans ?_
  refine (canon_skip (F := F) (s := S1x1x4x256x128) (e := .f32) (off := ![0, 0, 1, 0, 0]) (size := S1x1x1x256x128.size) _ _ _ _ 2 (Or.inl (show 0 < 1 by decide))).trans ?_
  exact canon_at (F := F) (s := S1x1x4x256x128) (e := .f32) (off := ![0, 0, 0, 0, 0]) (size := S1x1x1x256x128.size) inb_S1x1x4x256x128_S1x1x1x256x128_0_0_0_0_0 _ _ _ (ix5 0 0 0 e d) (fun a => by fin_cases a <;> simp [ix5])
theorem cL_read_1 (X G a b) (e : Fin 256) (d : Fin 128) : View.canon (cL (F := F) X G a b) (ix5 0 0 1 e d) = k0_pay291 (ctB X G a b 1) (ix5 0 0 0 e d) := by
  unfold cL
  refine (canon_skip (F := F) (s := S1x1x4x256x128) (e := .f32) (off := ![0, 0, 3, 0, 0]) (size := S1x1x1x256x128.size) _ _ _ _ 2 (Or.inl (show 1 < 3 by decide))).trans ?_
  refine (canon_skip (F := F) (s := S1x1x4x256x128) (e := .f32) (off := ![0, 0, 2, 0, 0]) (size := S1x1x1x256x128.size) _ _ _ _ 2 (Or.inl (show 1 < 2 by decide))).trans ?_
  exact canon_at (F := F) (s := S1x1x4x256x128) (e := .f32) (off := ![0, 0, 1, 0, 0]) (size := S1x1x1x256x128.size) inb_S1x1x4x256x128_S1x1x1x256x128_0_0_1_0_0 _ _ _ (ix5 0 0 0 e d) (fun a => by fin_cases a <;> simp [ix5])
theorem cL_read_2 (X G a b) (e : Fin 256) (d : Fin 128) : View.canon (cL (F := F) X G a b) (ix5 0 0 2 e d) = k0_pay291 (ctB X G a b 2) (ix5 0 0 0 e d) := by
  unfold cL
  refine (canon_skip (F := F) (s := S1x1x4x256x128) (e := .f32) (off := ![0, 0, 3, 0, 0]) (size := S1x1x1x256x128.size) _ _ _ _ 2 (Or.inl (show 2 < 3 by decide))).trans ?_
  exact canon_at (F := F) (s := S1x1x4x256x128) (e := .f32) (off := ![0, 0, 2, 0, 0]) (size := S1x1x1x256x128.size) inb_S1x1x4x256x128_S1x1x1x256x128_0_0_2_0_0 _ _ _ (ix5 0 0 0 e d) (fun a => by fin_cases a <;> simp [ix5])
theorem cL_read_3 (X G a b) (e : Fin 256) (d : Fin 128) : View.canon (cL (F := F) X G a b) (ix5 0 0 3 e d) = k0_pay291 (ctB X G a b 3) (ix5 0 0 0 e d) := by
  unfold cL
  exact canon_at (F := F) (s := S1x1x4x256x128) (e := .f32) (off := ![0, 0, 3, 0, 0]) (size := S1x1x1x256x128.size) inb_S1x1x4x256x128_S1x1x1x256x128_0_0_3_0_0 _ _ _ (ix5 0 0 0 e d) (fun a => by fin_cases a <;> simp [ix5])
theorem cL_read (X G a b) (h : Fin 4) (e : Fin 256) (d : Fin 128) : View.canon (cL (F := F) X G a b) (ix5 0 0 h e d) = k0_pay291 (ctB X G a b h) (ix5 0 0 0 e d) := by
  match h with
  | 0 => exact cL_read_0 X G a b e d
  | 1 => exact cL_read_1 X G a b e d
  | 2 => exact cL_read_2 X G a b e d
  | 3 => exact cL_read_3 X G a b e d

def row8 (h : Fin 4) : Fin 8 := ⟨h.val, by omega⟩
theorem mL_read_0 (G a L)  : View.canon (mL (F := F) G a ++ L) (ix2 (row8 0) 0) = k0_pay48 (mB G a 0) (ix2 0 0) := by
  unfold mL
  simp only [List.cons_append]
  refine (canon_skip (F := F) (s := S8x128) (e := .f32) (off := ![3, 0]) (size := S1x128.size) _ _ _ _ 0 (Or.inl (show 0 < 3 by decide))).trans ?_
  refine (canon_skip (F := F) (s := S8x128) (e := .f32) (off := ![2, 0]) (size := S1x128.size) _ _ _ _ 0 (Or.inl (show 0 < 2 by decide))).trans ?_
  refine (canon_skip (F := F) (s := S8x128) (e := .f32) (off := ![1, 0]) (size := S1x128.size) _ _ _ _ 0 (Or.inl (show 0 < 1 by decide))).trans ?_
  exact canon_at (F := F) (s := S8x128) (e := .f32) (off := ![0, 0]) (size := S1x128.size) inb_S8x128_S1x128_0_0 _ _ _ (ix2 0 0) (fun a => by fin_cases a <;> simp [ix2, row8])
theorem mL_read_1 (G a L)  : View.canon (mL (F := F) G a ++ L) (ix2 (row8 1) 0) = k0_pay48 (mB G a 1) (ix2 0 0) := by
  unfold mL
  simp only [List.cons_append]
  refine (canon_skip (F := F) (s := S8x128) (e := .f32) (off := ![3, 0]) (size := S1x128.size) _ _ _ _ 0 (Or.inl (show 1 < 3 by decide))).trans ?_
  refine (canon_skip (F := F) (s := S8x128) (e := .f32) (off := ![2, 0]) (size := S1x128.size) _ _ _ _ 0 (Or.inl (show 1 < 2 by decide))).trans ?_
  exact canon_at (F := F) (s := S8x128) (e := .f32) (off := ![1, 0]) (size := S1x128.size) inb_S8x128_S1x128_1_0 _ _ _ (ix2 0 0) (fun a => by fin_cases a <;> simp [ix2, row8])
theorem mL_read_2 (G a L)  : View.canon (mL (F := F) G a ++ L) (ix2 (row8 2) 0) = k0_pay48 (mB G a 2) (ix2 0 0) := by
  unfold mL
  simp only [List.cons_append]
  refine (canon_skip (F := F) (s := S8x128) (e := .f32) (off := ![3, 0]) (size := S1x128.size) _ _ _ _ 0 (Or.inl (show 2 < 3 by decide))).trans ?_
  exact canon_at (F := F) (s := S8x128) (e := .f32) (off := ![2, 0]) (size := S1x128.size) inb_S8x128_S1x128_2_0 _ _ _ (ix2 0 0) (fun a => by fin_cases a <;> simp [ix2, row8])
theorem mL_read_3 (G a L)  : View.canon (mL (F := F) G a ++ L) (ix2 (row8 3) 0) = k0_pay48 (mB G a 3) (ix2 0 0) := by
  unfold mL
  simp only [List.cons_append]
  exact canon_at (F := F) (s := S8x128) (e := .f32) (off := ![3, 0]) (size := S1x128.size) inb_S8x128_S1x128_3_0 _ _ _ (ix2 0 0) (fun a => by fin_cases a <;> simp [ix2, row8])
theorem mL_read (G a L) (h : Fin 4)  : View.canon (mL (F := F) G a ++ L) (ix2 (row8 h) 0) = k0_pay48 (mB G a h) (ix2 0 0) := by
  match h with
  | 0 => exact mL_read_0 G a L
  | 1 => exact mL_read_1 G a L
  | 2 => exact mL_read_2 G a L
  | 3 => exact mL_read_3 G a L

theorem pay48_read (w : FVec F S1x1 .f32) : k0_pay48 w (ix2 0 0) = w (ix2 0 0) := by
  unfold k0_pay48; pointwise
theorem ctI_read (x : Vec F S4x128x256 .f32) (h : Fin 4) (d : Fin 128) (e : Fin 256) : ctI x h (ix3 0 d e) = x (ix3 h d e) :=
  View.ld_unit_apply_of _ _ _ _ _ _ (by intro a; fin_cases a <;> simp [ix3])
theorem nI_read (x : Vec F S1x1x4x128 .f32) (h : Fin 4) (d : Fin 128) : nI x h (ix4 0 0 0 d) = x (ix4 0 0 h d) :=
  View.ld_unit_apply_of _ _ _ _ _ _ (by intro a; fin_cases a <;> simp [ix4])
theorem mI_read (x : Vec F S8x128 .f32) (h : Fin 4) : mI x h (ix2 0 0) = x (ix2 (row8 h) 0) :=
  View.ld_unit_apply_of _ _ _ _ _ _ (by intro a; fin_cases a <;> simp [ix2, row8])
theorem moI_read (x : Vec F S1x4x8 .f32) (h : Fin 4) (l : Fin 8) : moI x h (ix3 0 0 l) = x (ix3 0 h l) :=
  View.ld_unit_apply_of _ _ _ _ _ _ (by intro a; fin_cases a <;> simp [ix3])
end

/-- The real sequences of one batch: per head the log forget gates, the input gates, the scaled keys and the values. -/
structure Seqs where
  lf : Fin 4 → ℕ → ℝ
  ig : Fin 4 → ℕ → ℝ
  q : Fin 4 → ℕ → Fin 128 → ℝ
  k : Fin 4 → Fin 128 → ℕ → ℝ
  v : Fin 4 → Fin 256 → ℕ → ℝ

/-- The state holds the sums over the first `T` positions. -/
structure Good (Q : Seqs) (s : St Ideal) (T : ℕ) : Prop where
  ct : ∀ h d e, s.ct (ix3 h d e) = ((S (Q.lf h) (Q.ig h) (fun i => Q.k h d i * Q.v h e i) T : ℝ) : EReal)
  n : ∀ h d, s.n (ix4 0 0 h d) = ((S (Q.lf h) (Q.ig h) (Q.k h d) T : ℝ) : EReal)
  mm : ∀ h, s.mm (ix2 (row8 h) 0) = ((M (Q.lf h) (Q.ig h) T : ℝ) : EReal)

/-- A block's projections and gates are those of the positions from `T`. -/
structure IsBlk (Q : Seqs) (X : FVec Ideal S512x2048 .f32) (G : FVec Ideal S512x128 .f32) (T : ℕ) : Prop where
  q : ∀ (ci : Fin 2) h (r : Fin 256) d, qS ci h X (ix2 r d) = ((Q.q h (T + 256 * ci.val + r.val) d : ℝ) : EReal)
  k : ∀ (ci : Fin 2) h (r : Fin 256) d, kS ci h X (ix2 r d) = ((Q.k h d (T + 256 * ci.val + r.val) : ℝ) : EReal)
  v : ∀ (ci : Fin 2) h (r : Fin 256) e, vS ci h X (ix2 r e) = ((Q.v h e (T + 256 * ci.val + r.val) : ℝ) : EReal)
  g : ∀ (ci : Fin 2) h, IsGates (Q.lf h) (Q.ig h) (T + 256 * ci.val) h (gcV ci G) (bcV ci G) (gtV ci G)

section
variable {Q : Seqs} {X : FVec Ideal S512x2048 .f32} {G : FVec Ideal S512x128 .f32} {T : ℕ} (hK : IsBlk Q X G T)
  {ct : Vec Ideal S4x128x256 .f32} {n : Vec Ideal S1x1x4x128 .f32} {mm : Vec Ideal S8x128 .f32}
  (hc : ∀ h d e, ct (ix3 h d e) = ((S (Q.lf h) (Q.ig h) (fun i => Q.k h d i * Q.v h e i) T : ℝ) : EReal))
  (hn : ∀ h d, n (ix4 0 0 h d) = ((S (Q.lf h) (Q.ig h) (Q.k h d) T : ℝ) : EReal))
  (hm : ∀ h, mm (ix2 (row8 h) 0) = ((M (Q.lf h) (Q.ig h) T : ℝ) : EReal))
include hK hm
theorem mA_val (h : Fin 4) : mA G mm h (ix2 0 0) = ((M (Q.lf h) (Q.ig h) (T + 256) : ℝ) : EReal) := by
  have := hK.g 0 h
  exact uM_val (T := T) this _ ((mI_read mm h).trans (hm h))
theorem mB_val (h : Fin 4) : mB G mm h (ix2 0 0) = ((M (Q.lf h) (Q.ig h) (T + 512) : ℝ) : EReal) := by
  have := hK.g 1 h
  exact uM_val (T := T + 256) this _ (mA_val hK hm h)
include hc in
theorem ctA_val (h : Fin 4) (d : Fin 128) (e : Fin 256) : ctA X G ct mm h (ix3 0 d e) = ((S (Q.lf h) (Q.ig h) (fun i => Q.k h d i * Q.v h e i) (T + 256) : ℝ) : EReal) :=
  uCT_val (T := T) (hK.g 0 h) 0 X _ _ ((mI_read mm h).trans (hm h)) (Q.k h d) (Q.v h e) d e (fun r => hK.k 0 h r d) (fun r => hK.v 0 h r e) ((ctI_read ct h d e).trans (hc h d e))
include hc in
theorem ctB_val (h : Fin 4) (d : Fin 128) (e : Fin 256) : ctB X G ct mm h (ix3 0 d e) = ((S (Q.lf h) (Q.ig h) (fun i => Q.k h d i * Q.v h e i) (T + 512) : ℝ) : EReal) :=
  uCT_val (T := T + 256) (hK.g 1 h) 1 X _ _ (mA_val hK hm h) (Q.k h d) (Q.v h e) d e (fun r => hK.k 1 h r d) (fun r => hK.v 1 h r e) (ctA_val hK hc hm h d e)
include hn in
theorem nA_val (h : Fin 4) (d : Fin 128) : nA X G n mm h (ix4 0 0 0 d) = ((S (Q.lf h) (Q.ig h) (Q.k h d) (T + 256) : ℝ) : EReal) :=
  uN_val (T := T) (hK.g 0 h) 0 X _ _ ((mI_read mm h).trans (hm h)) (Q.k h d) d (fun r => hK.k 0 h r d) ((nI_read n h d).trans (hn h d))
include hn in
theorem nB_val (h : Fin 4) (d : Fin 128) : nB X G n mm h (ix4 0 0 0 d) = ((S (Q.lf h) (Q.ig h) (Q.k h d) (T + 512) : ℝ) : EReal) :=
  uN_val (T := T + 256) (hK.g 1 h) 1 X _ _ (mA_val hK hm h) (Q.k h d) d (fun r => hK.k 1 h r d) (nA_val hK hn hm h d)
include hc hn in
theorem hA_val (h : Fin 4) (r e : Fin 256) : hA X G ct n mm h (ix2 r e)
    = hR (Q.lf h) (Q.ig h) (fun s => ∑ d, Q.q h (T + r.val) d * Q.k h d s) (Q.v h e) (T + r.val + 1) :=
  uH_val (T := T) (hK.g 0 h) 0 X _ _ _ ((mI_read mm h).trans (hm h)) _ (Q.k h) (Q.v h e) r e (fun d => hK.q 0 h r d) (fun r d => hK.k 0 h r d) (fun r => hK.v 0 h r e)
    (fun d => (ctI_read ct h d e).trans (hc h d e)) (fun d => (nI_read n h d).trans (hn h d))
include hc hn in
theorem hB_val (h : Fin 4) (r e : Fin 256) : hB X G ct n mm h (ix2 r e)
    = hR (Q.lf h) (Q.ig h) (fun s => ∑ d, Q.q h (T + 256 + r.val) d * Q.k h d s) (Q.v h e) (T + 256 + r.val + 1) :=
  uH_val (T := T + 256) (hK.g 1 h) 1 X _ _ _ (mA_val hK hm h) _ (Q.k h) (Q.v h e) r e (fun d => hK.q 1 h r d) (fun r d => hK.k 1 h r d) (fun r => hK.v 1 h r e)
    (fun d => ctA_val hK hc hm h d e) (fun d => nA_val hK hn hm h d)
end

section
variable (m : (ℓ : Loc nD τ sig) → Buf (Elt Ideal) ℓ) (c : Dev nD)
theorem good_step {Q : Seqs} {T : ℕ} (t : Fin cfg0.N) (s : St Ideal) (hB : IsBlk Q (XT m c t) (GT m c t) T) (hs : Good Q s T) : Good Q (stepSt m c t s) (T + 512) := by
  refine ⟨fun h d e => ?_, fun h d => ?_, fun h => ?_⟩
  · rw [stepSt_ct, ctL_read]; exact ctB_val hB hs.ct hs.mm h d e
  · rw [stepSt_n, nL_read]; exact nB_val hB hs.n hs.mm h d
  · rw [stepSt_mm, mL_read, pay48_read]; exact mB_val hB hs.mm h
theorem good_start (Q : Seqs) (mo) : Good Q (⟨k0_pay2 (F := Ideal), k0_pay3 (F := Ideal), k0_pay4 (F := Ideal), mo⟩ : St Ideal) 0 := by
  refine ⟨fun h d e => ?_, fun h d => ?_, fun h => ?_⟩
  · show Ideal.ofBits .f32 0#32 = _
    rw [show Ideal.ofBits .f32 0#32 = 0 by pointwise]; unfold S; rfl
  · show Ideal.ofBits .f32 0#32 = _
    rw [show Ideal.ofBits .f32 0#32 = 0 by pointwise]; unfold S; rfl
  · show Ideal.ofBits .f32 0#32 = _
    rw [show Ideal.ofBits .f32 0#32 = 0 by pointwise]; unfold Cert.Rec.M; rfl
/-- After point `4 b + j` of the grid the state holds the sums over `512 (j + 1)` positions of batch `b`. -/
theorem good_at (Q : Fin 8 → Seqs) (hB : ∀ t : Fin cfg0.N, IsBlk (Q ⟨t.val / 4, by have := t.isLt; have : cfg0.N = 32 := N_0; omega⟩) (XT m c t) (GT m c t) (512 * (t.val % 4))) :
    ∀ (n : ℕ) (hn : n < cfg0.N), Good (Q ⟨n / 4, by have : cfg0.N = 32 := N_0; omega⟩) (stAt m c n hn) (512 * (n % 4) + 512)
      ∧ Good (Q ⟨n / 4, by have : cfg0.N = 32 := N_0; omega⟩) (inS m c ⟨n, hn⟩) (512 * (n % 4))
  | 0, hn => by
    have h1 : Good (Q ⟨0 / 4, by decide⟩) (inS m c ⟨0, hn⟩) 0 := good_start _ _
    refine ⟨?_, h1⟩
    rw [stAt_eq m c ⟨0, hn⟩]
    exact good_step m c ⟨0, hn⟩ _ (hB ⟨0, hn⟩) h1
  | n + 1, hn => by
    have ih := good_at Q hB n (Nat.lt_of_succ_lt hn)
    have h1 : Good (Q ⟨(n + 1) / 4, by have : cfg0.N = 32 := N_0; omega⟩) (inS m c ⟨n + 1, hn⟩) (512 * ((n + 1) % 4)) := by
      unfold inS startSt
      by_cases h4 : (n + 1) % 4 = 0
      · rw [if_pos h4, h4]; exact good_start _ _
      · rw [if_neg h4]
        have e1 : 512 * ((n + 1) % 4) = 512 * (n % 4) + 512 := by omega
        have e2 : (⟨(n + 1) / 4, by have : cfg0.N = 32 := N_0; omega⟩ : Fin 8) = ⟨n / 4, by have : cfg0.N = 32 := N_0; omega⟩ := Fin.ext (by show (n + 1) / 4 = n / 4; omega)
        rw [e1, e2]; exact ih.1
    refine ⟨?_, h1⟩
    rw [stAt_eq m c ⟨n + 1, hn⟩]
    exact good_step m c ⟨n + 1, hn⟩ _ (hB ⟨n + 1, hn⟩) h1
end

end Cert.KernelIdeal.Hand
end
-- ==== Proof.Blocks.lean ====
/- The blocks of the kernel's operands, read off the arguments. -/
module

public import proofs.«01_k».proof.Proof.Gates
public import proofs.«01_k».proof.Proof.Inv
public import Idealize.ShloMosaic.Lib.Claim
public import Idealize.ShloMosaic.Lib.StableHlo.ReadAt
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.Rec

variable (m : (ℓ : Loc nD τ sig) → Buf (Elt Ideal) ℓ) (c : Dev nD)

theorem ib0 (t : Fin cfg0.N) : win0_0.index t 0 = t.val / 4 ∧ win0_0.index t 1 = t.val % 4 ∧ win0_0.index t 2 = 0 := by
  revert t; decide +kernel

theorem x_read (t : Fin cfg0.N) (r : Fin 512) (k : Fin 1024) :
    (iblk m c 0 t : Vec Ideal S1x512x1024 .f32) (ix3 0 r k)
      = (m ((c : Thread nD τ).loc main_arg0) : Vec Ideal S8x2048x1024 .f32) (ix3 ⟨t.val / 4, by have := t.isLt; have : cfg0.N = 32 := N_0; omega⟩ ⟨512 * (t.val % 4) + r.val, by omega⟩ k) := by
  have hi := ib0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 4; rw [hi.1]; omega
  | ⟨1, _⟩ => show win0_0.index t 1 * 512 + 1 * r.val = 512 * (t.val % 4) + r.val; rw [hi.2.1]; omega
  | ⟨2, _⟩ => show win0_0.index t 2 * 1024 + 1 * k.val = k.val; rw [hi.2.2]; omega

theorem ib1 (t : Fin cfg0.N) : win0_1.index t 0 = 0 ∧ win0_1.index t 1 = 0 := by
  revert t; decide +kernel

theorem V2 (k : Fin 1024) (j : Fin 2048) : (V m c main_v2 : Vec Ideal S1024x2048 .bf16) (ix2 k j)
      = (m ((c : Thread nD τ).loc main_arg2) : Vec Ideal S1x1024x10248 .f32) (ix3 0 k ⟨j.val, by omega⟩) := by
  unfold V
  after_reads_at

theorem wh_read (t : Fin cfg0.N) (k : Fin 1024) (j : Fin 2048) :
    (iblk m c 1 t : Vec Ideal S1024x2048 .bf16) (ix2 k j)
      = (m ((c : Thread nD τ).loc main_arg2) : Vec Ideal S1x1024x10248 .f32) (ix3 0 k ⟨j.val, by omega⟩) := by
  have hi := ib1 t
  unfold iblk
  rw [View.read_apply]
  refine Eq.trans ?_ (V2 m c k j)
  show V m c main_v2 _ = V m c main_v2 _
  congr 1
  funext a
  apply Fin.ext
  match a with
  | ⟨0, _⟩ => show win0_1.index t 0 * 1024 + 1 * k.val = k.val; rw [hi.1]; omega
  | ⟨1, _⟩ => show win0_1.index t 1 * 2048 + 1 * j.val = j.val; rw [hi.2]; omega

theorem ib2 (t : Fin cfg0.N) : win0_2.index t 0 = 0 ∧ win0_2.index t 1 = 0 := by
  revert t; decide +kernel

theorem blk2 (t : Fin cfg0.N) (k : Fin 1024) (j : Fin 128) :
    (iblk m c 2 t : Vec Ideal S1024x128 .bf16) (ix2 k j) = (V m c main_v5 : Vec Ideal S1024x128 .bf16) (ix2 k j) := by
  have hi := ib2 t
  unfold iblk
  rw [View.read_apply]
  show V m c main_v5 _ = V m c main_v5 _
  congr 1
  funext a
  apply Fin.ext
  match a with
  | ⟨0, _⟩ => show win0_2.index t 0 * 1024 + 1 * k.val = k.val; rw [hi.1]; omega
  | ⟨1, _⟩ => show win0_2.index t 1 * 128 + 1 * j.val = j.val; rw [hi.2]; omega

theorem ib3 (t : Fin cfg0.N) : win0_3.index t 0 = 0 ∧ win0_3.index t 1 = 0 := by
  revert t; decide +kernel

theorem blk3 (t : Fin cfg0.N) (k : Fin 1024) (j : Fin 8192) :
    (iblk m c 3 t : Vec Ideal S1024x8192 .bf16) (ix2 k j) = (V m c main_v7 : Vec Ideal S1024x8192 .bf16) (ix2 k j) := by
  have hi := ib3 t
  unfold iblk
  rw [View.read_apply]
  show V m c main_v7 _ = V m c main_v7 _
  congr 1
  funext a
  apply Fin.ext
  match a with
  | ⟨0, _⟩ => show win0_3.index t 0 * 1024 + 1 * k.val = k.val; rw [hi.1]; omega
  | ⟨1, _⟩ => show win0_3.index t 1 * 8192 + 1 * j.val = j.val; rw [hi.2]; omega

theorem ib7 (t : Fin cfg0.N) : win0_7.index t 0 = 0 ∧ win0_7.index t 1 = 0 := by
  revert t; decide +kernel

theorem blk7 (t : Fin cfg0.N) (k : Fin 1) (j : Fin 1024) :
    (iblk m c 7 t : Vec Ideal S1x1024 .f32) (ix2 k j) = (V m c main_v16 : Vec Ideal S1x1024 .f32) (ix2 k j) := by
  have hi := ib7 t
  unfold iblk
  rw [View.read_apply]
  show V m c main_v16 _ = V m c main_v16 _
  congr 1
  funext a
  apply Fin.ext
  match a with
  | ⟨0, _⟩ => show win0_7.index t 0 * 1 + 1 * k.val = k.val; rw [hi.1]; omega
  | ⟨1, _⟩ => show win0_7.index t 1 * 1024 + 1 * j.val = j.val; rw [hi.2]; omega

theorem ib8 (t : Fin cfg0.N) : win0_8.index t 0 = 0 ∧ win0_8.index t 1 = 0 := by
  revert t; decide +kernel

theorem blk8 (t : Fin cfg0.N) (k : Fin 1) (j : Fin 128) :
    (iblk m c 8 t : Vec Ideal S1x128 .f32) (ix2 k j) = (V m c main_v14 : Vec Ideal S1x128 .f32) (ix2 k j) := by
  have hi := ib8 t
  unfold iblk
  rw [View.read_apply]
  show V m c main_v14 _ = V m c main_v14 _
  congr 1
  funext a
  apply Fin.ext
  match a with
  | ⟨0, _⟩ => show win0_8.index t 0 * 1 + 1 * k.val = k.val; rw [hi.1]; omega
  | ⟨1, _⟩ => show win0_8.index t 1 * 128 + 1 * j.val = j.val; rw [hi.2]; omega

theorem V5 (k : Fin 1024) (j : Fin 128) (hj : j.val < 8) : (V m c main_v5 : Vec Ideal S1024x128 .bf16) (ix2 k j)
      = (m ((c : Thread nD τ).loc main_arg2) : Vec Ideal S1x1024x10248 .f32) (ix3 0 k ⟨2048 + j.val, by omega⟩) := by
  unfold V
  after_reads_at
  rw [dif_pos hj]

theorem V7 (k : Fin 1024) (j : Fin 8192) : (V m c main_v7 : Vec Ideal S1024x8192 .bf16) (ix2 k j)
      = (m ((c : Thread nD τ).loc main_arg2) : Vec Ideal S1x1024x10248 .f32) (ix3 0 k ⟨2056 + j.val, by omega⟩) := by
  unfold V
  after_reads_at

theorem V16 (j : Fin 1024) : (V m c main_v16 : Vec Ideal S1x1024 .f32) (ix2 0 j)
      = (m ((c : Thread nD τ).loc main_arg1) : Vec Ideal S1x1024 .f32) (ix2 0 j) := by
  unfold V
  after_reads_at

theorem V14i (h : Fin 4) : (V m c main_v14 : Vec Ideal S1x128 .f32) (ix2 0 (iL h))
      = (m ((c : Thread nD τ).loc main_arg3) : Vec Ideal S1x4 .f32) (ix2 0 h) := by
  unfold V iL
  after_reads_at

theorem V14f (h : Fin 4) : (V m c main_v14 : Vec Ideal S1x128 .f32) (ix2 0 (fL h))
      = (m ((c : Thread nD τ).loc main_arg4) : Vec Ideal S1x4 .f32) (ix2 0 h) := by
  unfold V fL
  after_reads_at

/-- The arguments are the reals `I`. -/
structure Args (I : In) : Prop where
  x : ∀ b (i : Fin 2048) k, (m ((c : Thread nD τ).loc main_arg0) : Vec Ideal S8x2048x1024 .f32) (ix3 b i k) = ((I.x b i.val k : ℝ) : EReal)
  nw : ∀ k, (m ((c : Thread nD τ).loc main_arg1) : Vec Ideal S1x1024 .f32) (ix2 0 k) = ((I.nw k : ℝ) : EReal)
  w : ∀ k (j : Fin 10248), (m ((c : Thread nD τ).loc main_arg2) : Vec Ideal S1x1024x10248 .f32) (ix3 0 k j) = ((I.w k j.val : ℝ) : EReal)
  bi : ∀ h, (m ((c : Thread nD τ).loc main_arg3) : Vec Ideal S1x4 .f32) (ix2 0 h) = ((I.bi h : ℝ) : EReal)
  bf : ∀ h, (m ((c : Thread nD τ).loc main_arg4) : Vec Ideal S1x4 .f32) (ix2 0 h) = ((I.bf h : ℝ) : EReal)

def seqsOf (I : In) (b : Fin 8) : Seqs := ⟨I.lf b, I.ig b, I.q b, I.k b, I.v b⟩

theorem pay6_read (x0 : Vec Ideal S1x512x1024 .f32) (x7 : Vec Ideal S1x1024 .f32) (r : Fin 512) (k : Fin 1024) :
    k0_pay6 x0 x7 (ix2 r k) = x0 (ix3 0 r k) * Ideal.rsqrt (Ideal.div (∑ x, x0 (ix3 0 r x) * x0 (ix3 0 r x)) (Ideal.ofBits .f32 1149239296#32)
      + Ideal.ofBits .f32 897988541#32) * x7 (ix2 0 k) := by
  unfold k0_pay6
  pointwise

theorem pay7_read (x0 : Vec Ideal S1x512x1024 .f32) (x7 : Vec Ideal S1x1024 .f32) (x2 : Vec Ideal S1024x128 .bf16) (x8 : Vec Ideal S1x128 .f32) (r : Fin 512) (k : Fin 128) :
    k0_pay7 x0 x7 x2 x8 (ix2 r k) = ∑ x, k0_pay6 x0 x7 (ix2 r x) * x2 (ix2 x k) + x8 (ix2 0 k) := by
  unfold k0_pay7
  generalize k0_pay6 x0 x7 = xn
  pointwise

theorem pay10_read (xn : FVec Ideal S512x1024 .bf16) (x1 : Vec Ideal S1024x2048 .bf16) (r : Fin 512) (k : Fin 2048) :
    k0_pay10 xn x1 (ix2 r k) = ∑ x, xn (ix2 r x) * x1 (ix2 x k) := by
  unfold k0_pay10
  pointwise

/-- The sequence and the first position of a point's block. -/
def bT (t : Fin cfg0.N) : Fin 8 := ⟨t.val / 4, by have := t.isLt; have : cfg0.N = 32 := N_0; omega⟩
def pT (t : Fin cfg0.N) : ℕ := 512 * (t.val % 4)

section
variable {m c} {I : In} (hA : Args m c I) (t : Fin cfg0.N)
include hA

theorem xn_val (r : Fin 512) (k : Fin 1024) : xnT m c t (ix2 r k) = ((I.xn (bT t) (pT t + r.val) k : ℝ) : EReal) := by
  unfold xnT
  rw [pay6_read]
  have e7 : (iblk m c 7 t : Vec Ideal S1x1024 .f32) (ix2 0 k) = ((I.nw k : ℝ) : EReal) := by rw [blk7, V16, hA.nw]
  rw [e7]
  simp only [x_read, hA.x]
  exact norm_val (fun k => I.x (bT t) (pT t + r.val) k) _ _

theorem dot_val (w : Fin 1024 → EReal) (j : ℕ) (hw : ∀ k, w k = ((I.w k j : ℝ) : EReal)) (r : Fin 512) :
    ∑ k, xnT m c t (ix2 r k) * w k = ((I.p (bT t) (pT t + r.val) j : ℝ) : EReal) := by
  unfold In.p
  rw [coe_sum]
  refine Finset.sum_congr rfl fun k _ => ?_
  rw [xn_val hA, hw, EReal.coe_mul]

theorem X_val (r : Fin 512) (j : Fin 2048) : XT m c t (ix2 r j) = ((I.p (bT t) (pT t + r.val) j.val : ℝ) : EReal) := by
  unfold XT
  rw [pay10_read]
  exact dot_val hA t (fun k => iblk m c 1 t (ix2 k j)) j.val (fun k => by rw [wh_read, hA.w]) r

theorem pre_val (r : Fin 512) (j : Fin 128) (hj : j.val < 8) (b : ℝ) (hb : (iblk m c 8 t : Vec Ideal S1x128 .f32) (ix2 0 j) = (b : EReal)) :
    k0_pay7 (iblk m c 0 t) (iblk m c 7 t) (iblk m c 2 t) (iblk m c 8 t) (ix2 r j) = ((I.p (bT t) (pT t + r.val) (2048 + j.val) + b : ℝ) : EReal) := by
  rw [pay7_read, hb, EReal.coe_add]
  congr 1
  exact dot_val hA t (fun k => iblk m c 2 t (ix2 k j)) (2048 + j.val) (fun k => by rw [blk2, V5 m c k j hj, hA.w]) r

theorem G_i (h : Fin 4) (r : Fin 512) : GT m c t (ix2 r (iL h)) = ((I.ig (bT t) h (pT t + r.val) : ℝ) : EReal) := by
  unfold GT
  rw [gates_read _ r (iL h) _ (pre_val hA t r (iL h) (by unfold iL; simp only; omega) (I.bi h) (by rw [blk8, V14i, hA.bi])), if_pos (by unfold iL; simp only; omega)]
  rfl

theorem G_f (h : Fin 4) (r : Fin 512) : GT m c t (ix2 r (fL h)) = ((I.lf (bT t) h (pT t + r.val) : ℝ) : EReal) := by
  unfold GT
  rw [gates_read _ r (fL h) _ (pre_val hA t r (fL h) (by unfold fL; simp only; omega) (I.bf h) (by rw [blk8, V14f, hA.bf])), if_neg (by unfold fL; simp only; omega)]
  unfold In.lf fL
  rw [← Nat.add_assoc]

theorem isBlk : IsBlk (seqsOf I (bT t)) (XT m c t) (GT m c t) (pT t) := by
  have hX := X_val hA t
  refine ⟨fun ci h r d => ?_, fun ci h r d => ?_, fun ci h r e => ?_, fun ci h => isGates _ _ _ _ _ _ (G_f hA t h) (G_i hA t h)⟩
  · have e : qS ci h (XT m c t) (ix2 r d) = XT m c t (ix2 ⟨256 * ci.val + r.val, by omega⟩ ⟨128 * h.val + d.val, by omega⟩) := by
      generalize XT m c t = X
      unfold qS
      pointwise
    rw [e, hX]
    simp only [← Nat.add_assoc]
    rfl
  · have e : kS ci h (XT m c t) (ix2 r d) = XT m c t (ix2 ⟨256 * ci.val + r.val, by omega⟩ ⟨512 + 128 * h.val + d.val, by omega⟩) * Ideal.ofBits .f32 1035273459#32 := by
      generalize XT m c t = X
      unfold kS
      pointwise
    rw [e, hX, ksc_val, ← EReal.coe_mul]
    simp only [← Nat.add_assoc]
    rfl
  · have e : vS ci h (XT m c t) (ix2 r e) = XT m c t (ix2 ⟨256 * ci.val + r.val, by omega⟩ ⟨1024 + 256 * h.val + e.val, by omega⟩) := by
      generalize XT m c t = X
      unfold vS
      pointwise
    rw [e, hX]
    simp only [← Nat.add_assoc]
    rfl

/-- The state after every point is the recurrence's. -/
theorem good_all (t : Fin cfg0.N) : Good (seqsOf I (bT t)) (stAt m c t.val t.isLt) (pT t + 512) ∧ Good (seqsOf I (bT t)) (inS m c t) (pT t) :=
  good_at m c (seqsOf I) (fun t => isBlk hA t) t.val t.isLt

end

end Cert.KernelIdeal.Hand

end
-- ==== Proof.Outs.lean ====
/- The arrays of the recurrent state after the kernel's run. -/
module

public import proofs.«01_k».proof.Proof.Frame
public import proofs.«01_k».proof.Proof.Blocks
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Cert.Rec

variable (m : (ℓ : Loc nD τ sig) → Buf (Elt Ideal) ℓ) (c : Dev nD) {I : In} (hA : Args m c I)

/-- The results, as reals. -/
def outC (I : In) : Vec Ideal S1x8x4x256x128 .f32 := fun i =>
  ((S (I.lf (i 1) (i 2)) (I.ig (i 1) (i 2)) (fun s => I.k (i 1) (i 2) (i 4) s * I.v (i 1) (i 2) (i 3) s) 2048 : ℝ) : EReal)
def outN (I : In) : Vec Ideal S1x8x4x128 .f32 := fun i =>
  ((S (I.lf (i 1) (i 2)) (I.ig (i 1) (i 2)) (I.k (i 1) (i 2) (i 3)) 2048 : ℝ) : EReal)
def outM (I : In) : Vec Ideal S1x4x8 .f32 := fun i =>
  ((M (I.lf (i 2) (i 1)) (I.ig (i 2) (i 1)) 2048 : ℝ) : EReal)

theorem pay291_read (x : Vec Ideal S1x128x256 .f32) (e : Fin 256) (d : Fin 128) : k0_pay291 x (ix5 0 0 0 e d) = x (ix3 0 d e) := by
  unfold k0_pay291
  pointwise

include hA in
theorem cT_val (t : Fin cfg0.N) (ht : t.val % 4 = 3) (h : Fin 4) (e : Fin 256) (d : Fin 128) :
    cT m c t (ix5 0 0 h e d) = ((S (I.lf (bT t) h) (I.ig (bT t) h) (fun s => I.k (bT t) h d s * I.v (bT t) h e s) 2048 : ℝ) : EReal) := by
  have hg := (good_all hA t).1.ct h d e
  rw [show pT t + 512 = 2048 by unfold pT; omega, stAt_eq, stepSt_ct, ctL_read] at hg
  unfold cT
  rw [cL_read, pay291_read]
  exact hg

include hA in
theorem n_val (t : Fin cfg0.N) (ht : t.val % 4 = 3) (h : Fin 4) (d : Fin 128) :
    (stAt m c t.val t.isLt).n (ix4 0 0 h d) = ((S (I.lf (bT t) h) (I.ig (bT t) h) (I.k (bT t) h d) 2048 : ℝ) : EReal) := by
  have hg := (good_all hA t).1.n h d
  rw [show pT t + 512 = 2048 by unfold pT; omega] at hg
  exact hg

theorem uMO_read (a0 : ℕ) (ha : a0 < 8) (v : FVec Ideal S1x1 .f32) (mo : Vec Ideal S1x1x8 .f32) (l : Fin 8) :
    uMO (F := Ideal) (BitVec.ofNat 32 a0) v mo (ix3 0 0 l) = if l.val = a0 then v (ix2 0 0) else mo (ix3 0 0 l) := by
  unfold uMO k0_pay49
  pointwise
  generalize v (ix2 0 0) = p
  generalize mo (ix3 0 0 l) = q
  interval_cases a0 <;> fin_cases l <;> rfl

theorem coord0 (t : Fin cfg0.N) : (grid0.coords t 0).val = t.val / 4 := by
  revert t; decide +kernel

include hA in
/-- The stabilizers' lanes: those of the sequences that are finished hold their end. -/
theorem mo_val : ∀ (n : ℕ) (hn : n < cfg0.N) (b : Fin 8) (h : Fin 4), 4 * b.val + 3 ≤ n →
    (stAt m c n hn).mo (ix3 0 h b) = ((M (I.lf b h) (I.ig b h) 2048 : ℝ) : EReal) := by
  intro n
  induction n with
  | zero => intro hn b h hb; omega
  | succ n ih =>
    intro hn b h hb
    have hN : cfg0.N = 32 := N_0
    have hs := stAt_eq m c ⟨n + 1, hn⟩
    have hmm := (good_all hA ⟨n + 1, hn⟩).2.mm
    have hv := mB_val (isBlk hA ⟨n + 1, hn⟩) hmm h
    have hmo : (inS m c ⟨n + 1, hn⟩).mo = (stAt m c n (Nat.lt_of_succ_lt hn)).mo := by
      show (startSt (n + 1) (stAt m c n (Nat.lt_of_succ_lt hn))).mo = _
      unfold startSt
      split_ifs <;> rfl
    refine (congrArg (fun s : St Ideal => s.mo (ix3 0 h b)) hs).trans ?_
    show (stepSt m c ⟨n + 1, hn⟩ (inS m c ⟨n + 1, hn⟩)).mo (ix3 0 h b) = _
    rw [stepSt_mo, moL_read, coord0]
    unfold moB
    rw [uMO_read _ (by show (n + 1) / 4 < 8; omega)]
    split_ifs with h1
    · rw [hv]
      have e1 : bT ⟨n + 1, hn⟩ = b := Fin.ext h1.symm
      have e2 : pT ⟨n + 1, hn⟩ + 512 = 2048 := by unfold pT; show 512 * ((n + 1) % 4) + 512 = 2048; have : b.val = (n + 1) / 4 := h1; omega
      rw [e1, e2]; rfl
    · unfold moA
      rw [uMO_read _ (by show (n + 1) / 4 < 8; omega), if_neg h1, moI_read, hmo]
      exact ih _ b h (by have : b.val ≠ (n + 1) / 4 := h1; omega)

theorem ob13 (t : Fin cfg0.N) : win0_13.index t 0 = 0 ∧ win0_13.index t 1 = t.val / 4 ∧ win0_13.index t 2 = 0 ∧ win0_13.index t 3 = 0 ∧ win0_13.index t 4 = 0 := by
  revert t; decide +kernel
theorem ob14 (t : Fin cfg0.N) : win0_14.index t 0 = 0 ∧ win0_14.index t 1 = t.val / 4 ∧ win0_14.index t 2 = 0 ∧ win0_14.index t 3 = 0 := by
  revert t; decide +kernel
theorem ob15 (t : Fin cfg0.N) : win0_15.index t 0 = 0 ∧ win0_15.index t 1 = 0 ∧ win0_15.index t 2 = 0 := by
  revert t; decide +kernel

theorem emb13 (t : Fin cfg0.N) (h : Fin 4) (e : Fin 256) (d : Fin 128) :
    (((cfg0.win 13).blk t).view.emb (ix5 (0 : Fin 1) (0 : Fin 1) h e d) : S1x8x4x256x128.Idx) = ix5 0 (bT t) h e d := by
  have hi := ob13 t
  funext a
  apply Fin.ext
  match a with
  | ⟨0, _⟩ => show win0_13.index t 0 * 1 + 1 * 0 = 0; rw [hi.1]
  | ⟨1, _⟩ => show win0_13.index t 1 * 1 + 1 * 0 = t.val / 4; rw [hi.2.1]; omega
  | ⟨2, _⟩ => show win0_13.index t 2 * 4 + 1 * h.val = h.val; rw [hi.2.2.1]; omega
  | ⟨3, _⟩ => show win0_13.index t 3 * 256 + 1 * e.val = e.val; rw [hi.2.2.2.1]; omega
  | ⟨4, _⟩ => show win0_13.index t 4 * 128 + 1 * d.val = d.val; rw [hi.2.2.2.2]; omega
theorem emb14 (t : Fin cfg0.N) (h : Fin 4) (d : Fin 128) :
    (((cfg0.win 14).blk t).view.emb (ix4 (0 : Fin 1) (0 : Fin 1) h d) : S1x8x4x128.Idx) = ix4 0 (bT t) h d := by
  have hi := ob14 t
  funext a
  apply Fin.ext
  match a with
  | ⟨0, _⟩ => show win0_14.index t 0 * 1 + 1 * 0 = 0; rw [hi.1]
  | ⟨1, _⟩ => show win0_14.index t 1 * 1 + 1 * 0 = t.val / 4; rw [hi.2.1]; omega
  | ⟨2, _⟩ => show win0_14.index t 2 * 4 + 1 * h.val = h.val; rw [hi.2.2.1]; omega
  | ⟨3, _⟩ => show win0_14.index t 3 * 128 + 1 * d.val = d.val; rw [hi.2.2.2]; omega
theorem emb15 (t : Fin cfg0.N) (h : Fin 4) (b : Fin 8) :
    (((cfg0.win 15).blk t).view.emb (ix3 (0 : Fin 1) h b) : S1x4x8.Idx) = ix3 0 h b := by
  have hi := ob15 t
  funext a
  apply Fin.ext
  match a with
  | ⟨0, _⟩ => show win0_15.index t 0 * 1 + 1 * 0 = 0; rw [hi.1]
  | ⟨1, _⟩ => show win0_15.index t 1 * 4 + 1 * h.val = h.val; rw [hi.2.1]; omega
  | ⟨2, _⟩ => show win0_15.index t 2 * 8 + 1 * b.val = b.val; rw [hi.2.2]; omega
theorem idx5 (y : S1x1x4x256x128.Idx) : ∃ (h : Fin 4) (e : Fin 256) (d : Fin 128), y = ix5 0 0 h e d := by
  refine ⟨y 2, y 3, y 4, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl
  | ⟨4, _⟩ => rfl
theorem idx4 (y : S1x1x4x128.Idx) : ∃ (h : Fin 4) (d : Fin 128), y = ix4 0 0 h d := by
  refine ⟨y 2, y 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem idx3 (y : S1x4x8.Idx) : ∃ (h : Fin 4) (b : Fin 8), y = ix3 0 h b := by
  refine ⟨y 1, y 2, ?_⟩
  funext a
  match a with
  | ⟨0, _⟩ => exact Subsingleton.elim (α := Fin 1) _ _
  | ⟨1, _⟩ => rfl
  | ⟨2, _⟩ => rfl
include hA in
theorem out13 (t : Fin cfg0.N) (ht : t.val % 4 = 3) (y : S1x1x4x256x128.Idx) : cT m c t y = outC I (((cfg0.win 13).blk t).view.emb y) := by
  obtain ⟨h, e, d, rfl⟩ := idx5 y
  rw [cT_val m c hA t ht, emb13]; rfl
include hA in
theorem out14 (t : Fin cfg0.N) (ht : t.val % 4 = 3) (y : S1x1x4x128.Idx) : (stAt m c t.val t.isLt).n y = outN I (((cfg0.win 14).blk t).view.emb y) := by
  obtain ⟨h, d, rfl⟩ := idx4 y
  rw [n_val m c hA t ht, emb14]; rfl
include hA in
theorem out15 (t : Fin cfg0.N) (ht : t.val % 32 = 31) (y : S1x4x8.Idx) : (stAt m c t.val t.isLt).mo y = outM I (((cfg0.win 15).blk t).view.emb y) := by
  obtain ⟨h, b, rfl⟩ := idx3 y
  rw [mo_val m c hA t.val t.isLt b h (by omega), emb15]; rfl

include hA in
theorem arr13 : (dats m 0 c).arrAt 13 cfg0.N = outC I := by
  refine (dats m 0 c).arrAt_eq_of_covers 13 (outC I) (by decide +kernel) fun t hf y => ?_
  exact (congrFun (after0_13 m c t) y).trans (out13 m c hA t ((flush0_13 t).mp hf) y)
include hA in
theorem arr14 : (dats m 0 c).arrAt 14 cfg0.N = outN I := by
  refine (dats m 0 c).arrAt_eq_of_covers 14 (outN I) (by decide +kernel) fun t hf y => ?_
  exact (congrFun (after0_14 m c t) y).trans (out14 m c hA t ((flush0_14 t).mp hf) y)
include hA in
theorem arr15 : (dats m 0 c).arrAt 15 cfg0.N = outM I := by
  refine (dats m 0 c).arrAt_eq_of_covers 15 (outM I) (by decide +kernel) fun t hf y => ?_
  exact (congrFun (after0_15 m c t) y).trans (out15 m c hA t ((flush0_15 t).mp hf) y)

/-- Every run ends with the three arrays at these values and the arguments as launched. -/
theorem values (ρ : Dev nD → PrngReg) (J : Dev nD → In) (hJ : ∀ c, Args m c (J c)) : θ_run defs (onTc (τ := τ) (main (F := Ideal))) ⟨m, fun _ => 0, ρ⟩ (fun r => (∀ c : Dev nD,
      r.2.mem ((c.tc : Thread nD τ).loc main_v21_1) = outC (J c)
      ∧ r.2.mem ((c.tc : Thread nD τ).loc main_v21_2) = outN (J c)
      ∧ r.2.mem ((c.tc : Thread nD τ).loc main_v21_3) = outM (J c))) :=
  (θ_run defs _ _).mono (fun r h c => ⟨((h c).1 13).trans (arr13 m c (hJ c)), ((h c).1 14).trans (arr14 m c (hJ c)), ((h c).1 15).trans (arr15 m c (hJ c))⟩) (run_main m ρ)

end Cert.KernelIdeal.Hand

end
-- ==== Proof.Mix.lean ====
/- The layer after its recurrence, as one formula: the gates, the convolution, the projections and the norms. -/
module

public import proofs.«01_k».proof.Proof.Blocks

@[expose] public section

set_option maxRecDepth 16384

noncomputable section

namespace Cert.Rec

open Idealize.ShloMosaic

def sg (x : ℝ) : ℝ := (1 + Real.exp (-x))⁻¹

theorem half_val : Ideal.ofBits .f32 1056964608#32 = ((1 / 2 : ℝ) : EReal) := by
  have : ((8388608 : ℝ) : EReal) * (((2 ^ 24)⁻¹ : ℝ) : EReal) = ((1 / 2 : ℝ) : EReal) := by rw [← EReal.coe_mul]; norm_num
  simp only [Ideal.ofBits, Ideal.ieee]
  simp
  simpa using this

theorem sg_tanh (x : ℝ) : Ideal.ofBits .f32 1056964608#32 * Ideal.tanh (Ideal.ofBits .f32 1056964608#32 * (x : EReal)) + Ideal.ofBits .f32 1056964608#32 = (sg x : EReal) := by
  rw [half_val, ← EReal.coe_mul]
  show ((1 / 2 : ℝ) : EReal) * ((Real.tanh (1 / 2 * x) : ℝ) : EReal) + ((1 / 2 : ℝ) : EReal) = _
  rw [← EReal.coe_mul, ← EReal.coe_add]
  congr 1
  unfold sg
  rw [Real.tanh_eq_sinh_div_cosh, Real.sinh_eq, Real.cosh_eq]
  have e : Real.exp (-x) = Real.exp (-(1 / 2 * x)) * Real.exp (-(1 / 2 * x)) := by rw [← Real.exp_add]; congr 1; ring
  have e2 : Real.exp (1 / 2 * x) * Real.exp (-(1 / 2 * x)) = 1 := by rw [← Real.exp_add, add_neg_cancel, Real.exp_zero]
  have h1 := Real.exp_pos (1 / 2 * x)
  have h2 := Real.exp_pos (-(1 / 2 * x))
  rw [e]
  generalize Real.exp (1 / 2 * x) = a at *
  generalize Real.exp (-(1 / 2 * x)) = b at *
  have h3 : a + b ≠ 0 := by positivity
  have h4 : 1 + b * b ≠ 0 := by positivity
  field_simp
  nlinarith

/-- The weights of the layer that need not be finite. -/
structure Wt where
  hnw : Fin 1024 → EReal
  cw : Fin 3 → Fin 1024 → EReal
  wpm : Fin 1024 → Fin 1024 → EReal
  wpc : Fin 1024 → Fin 1024 → EReal
  wo : Fin 1024 → Fin 1024 → EReal
  fnw : Fin 1024 → EReal

open Cert.KernelIdeal.Hand (hR)

variable (I : In) (U : Wt)

def In.h (b : Fin 8) (i : ℕ) (h : Fin 4) (e : Fin 256) : EReal :=
  hR (I.lf b h) (I.ig b h) (fun s => ∑ d, I.q b h i d * I.k b h d s) (I.v b h e) (i + 1)
def In.hn (b : Fin 8) (i : ℕ) (h : Fin 4) (e : Fin 256) : EReal :=
  I.h b i h e * Ideal.rsqrt (Ideal.div (∑ x, I.h b i h x * I.h b i h x) (Ideal.ofBits .f32 1132462080#32) + Ideal.ofBits .f32 897988541#32)
def In.pe (b : Fin 8) (i : ℕ) (c : ℕ) : EReal := ((I.p b i c : ℝ) : EReal)
def In.sgp (b : Fin 8) (i : ℕ) (c : ℕ) : EReal := ((sg (I.p b i c) : ℝ) : EReal)
/-- The gated head outputs. -/
def In.hg (b : Fin 8) (i : ℕ) (h : Fin 4) (e : Fin 256) : EReal :=
  I.hn b i h e * U.hnw ⟨256 * h.val + e.val, by omega⟩ * I.sgp b i (2056 + (256 * h.val + e.val)) * (I.pe b i (3080 + (256 * h.val + e.val)) * I.sgp b i (3080 + (256 * h.val + e.val)))
def In.hgc (b : Fin 8) (i : ℕ) (j : Fin 1024) : EReal := I.hg U b i ⟨j.val / 256, by omega⟩ ⟨j.val % 256, by omega⟩
/-- The convolution's input and its value at a position. -/
def In.u (b : Fin 8) (i : ℕ) (j : Fin 1024) : EReal := I.pe b i (5128 + j.val) * I.pe b i (6152 + j.val)
def In.ub (b : Fin 8) (i k : ℕ) (j : Fin 1024) : EReal := if k ≤ i then I.u b (i - k) j else 0
def In.cv (b : Fin 8) (i : ℕ) (j : Fin 1024) : EReal := U.cw 0 j * I.ub b i 2 j + U.cw 1 j * I.ub b i 1 j + U.cw 2 j * I.u b i j
def In.yc (b : Fin 8) (i : ℕ) (j : Fin 1024) : EReal := I.pe b i (7176 + j.val) * I.sgp b i (7176 + j.val) * I.pe b i (4104 + j.val) * I.cv U b i j
def In.mix (b : Fin 8) (i : ℕ) (j : Fin 1024) : EReal :=
  I.sgp b i (8200 + j.val) * (∑ k, I.hgc U b i k * U.wpm k j) + I.sgp b i (9224 + j.val) * (∑ k, I.yc U b i k * U.wpc k j)
def In.o (b : Fin 8) (i : ℕ) (j : Fin 1024) : EReal := ((I.x b i j : ℝ) : EReal) + ∑ k, I.mix U b i k * U.wo k j
def In.y (b : Fin 8) (i : ℕ) (j : Fin 1024) : EReal :=
  I.o U b i j * Ideal.rsqrt (Ideal.div (∑ x, I.o U b i x * I.o U b i x) (Ideal.ofBits .f32 1149239296#32) + Ideal.ofBits .f32 897988541#32) * U.fnw j

end Cert.Rec

namespace Cert.KernelIdeal.Hand

open Cert.KernelIdeal.Gen
open Idealize.ShloMosaic Idealize.ShloMosaic.TcCoe Idealize.ShloMosaic.Tactic
open Cert.Rec

/-- The sigmoid as the body computes it. -/
def kS2 (x : EReal) : EReal := Ideal.ofBits .f32 1056964608#32 * Ideal.tanh (Ideal.ofBits .f32 1056964608#32 * x) + Ideal.ofBits .f32 1056964608#32

theorem pay191_read (xn : FVec Ideal S512x1024 .bf16) (w : Vec Ideal S1024x1024 .bf16) (r : Fin 512) (j : Fin 1024) :
    k0_pay191 xn w (ix2 r j) = ∑ x, xn (ix2 r x) * w (ix2 x j) := by
  unfold k0_pay191
  pointwise
theorem pay192_read (xn : FVec Ideal S512x1024 .bf16) (w : Vec Ideal S1024x1024 .bf16) (r : Fin 512) (j : Fin 1024) :
    k0_pay192 xn w (ix2 r j) = Ideal.tanh (Ideal.ofBits .f32 1056964608#32 * k0_pay191 xn w (ix2 r j)) := by
  unfold k0_pay192
  generalize k0_pay191 xn w = a
  pointwise
theorem pay193_read (xn : FVec Ideal S512x1024 .bf16) (cv a t : FVec Ideal S512x1024 .f32) (w : Vec Ideal S1024x1024 .bf16) (r : Fin 512) (j : Fin 1024) :
    k0_pay193 xn cv a t (FloatOps.ofBits FTy.f32 1056964608#32) w (ix2 r j)
      = a (ix2 r j) * (Ideal.ofBits .f32 1056964608#32 * t (ix2 r j) + Ideal.ofBits .f32 1056964608#32) * (∑ x, xn (ix2 r x) * w (ix2 x j)) * cv (ix2 r j) := by
  unfold k0_pay193
  pointwise
theorem pay225_read (xn yc : FVec Ideal S512x1024 .bf16) (w w' : Vec Ideal S1024x1024 .bf16) (r : Fin 512) (j : Fin 1024) :
    k0_pay225 xn yc w w' (ix2 r j) = kS2 (∑ x, xn (ix2 r x) * w (ix2 x j)) * (∑ x, yc (ix2 r x) * w' (ix2 x j)) := by
  unfold k0_pay225 kS2
  pointwise
theorem pay255_read (xn : FVec Ideal S512x1024 .bf16) (w : Vec Ideal S1024x1024 .bf16) (r : Fin 512) (j : Fin 1024) :
    k0_pay255 xn w (ix2 r j) = kS2 (∑ x, xn (ix2 r x) * w (ix2 x j)) := by
  unfold k0_pay255 kS2
  pointwise
theorem pay22_read (xn : FVec Ideal S512x1024 .bf16) (w : Vec Ideal S1024x256 .bf16) (r : Fin 512) (j : Fin 256) :
    k0_pay22 xn w (ix2 r j) = kS2 (∑ x, xn (ix2 r x) * w (ix2 x j)) := by
  unfold k0_pay22 kS2
  pointwise
theorem pay23_read (xn : FVec Ideal S512x1024 .bf16) (w : Vec Ideal S1024x256 .bf16) (r : Fin 512) (j : Fin 256) :
    k0_pay23 xn w (ix2 r j) = (∑ x, xn (ix2 r x) * w (ix2 x j)) * kS2 (∑ x, xn (ix2 r x) * w (ix2 x j)) := by
  unfold k0_pay23 kS2
  pointwise
theorem pay50_read (so sz hv : FVec Ideal S256x256 .f32) (nw : Vec Ideal S1x256 .f32) (r e : Fin 256) :
    k0_pay50 so sz hv nw (ix2 r e) = hv (ix2 r e) * Ideal.rsqrt (Ideal.div (∑ x, hv (ix2 r x) * hv (ix2 r x)) (Ideal.ofBits .f32 1132462080#32) + Ideal.ofBits .f32 897988541#32)
      * nw (ix2 0 e) * so (ix2 r e) * sz (ix2 r e) := by
  unfold k0_pay50
  pointwise
theorem oS_read (ci : Fin 2) (X : FVec Ideal S512x256 .f32) (r e : Fin 256) : oS ci X (ix2 r e) = X (ix2 ⟨256 * ci.val + r.val, by omega⟩ e) := by
  unfold oS
  pointwise
theorem pay157_read (xn : FVec Ideal S512x1024 .bf16) (w w' : Vec Ideal S1024x1024 .bf16) (r : Fin 512) (j : Fin 1024) :
    k0_pay157 xn w w' (ix2 r j) = (∑ x, xn (ix2 r x) * w (ix2 x j)) * (∑ x, xn (ix2 r x) * w' (ix2 x j)) := by
  unfold k0_pay157 k0_pay156
  pointwise
theorem pay158_read (xn : FVec Ideal S512x1024 .bf16) (w w' : Vec Ideal S1024x1024 .bf16) (c0 c1 c2 : Vec Ideal S1x1024 .f32) (u6 u7 : Vec Ideal S512x1024 .f32) (r : Fin 512) (j : Fin 1024) :
    k0_pay158 xn w w' c0 u6 c1 u7 c2 (ix2 r j) = c0 (ix2 0 j) * u6 (ix2 r j) + c1 (ix2 0 j) * u7 (ix2 r j)
      + c2 (ix2 0 j) * ((∑ x, xn (ix2 r x) * w (ix2 x j)) * (∑ x, xn (ix2 r x) * w' (ix2 x j))) := by
  unfold k0_pay158 k0_pay156
  pointwise
/-- The row before the last norm. -/
def oR (gy sgm : FVec Ideal S512x1024 .f32) (hg : Vec Ideal S512x1024 .bf16) (x4 : Vec Ideal S1024x1024 .bf16) (x0 : Vec Ideal S1x512x1024 .f32) (x6 : Vec Ideal S1024x1024 .bf16)
    (r : Fin 512) (j : Fin 1024) : EReal :=
  x0 (ix3 0 r j) + ∑ k, (sgm (ix2 r k) * (∑ l, hg (ix2 r l) * x4 (ix2 l k)) + gy (ix2 r k)) * x6 (ix2 k j)
theorem pay295_read (gy sgm : FVec Ideal S512x1024 .f32) (hg : Vec Ideal S512x1024 .bf16) (x4 : Vec Ideal S1024x1024 .bf16) (x0 : Vec Ideal S1x512x1024 .f32) (x6 : Vec Ideal S1024x1024 .bf16)
    (x11 : Vec Ideal S1x1024 .f32) (r : Fin 512) (j : Fin 1024) :
    k0_pay295 gy sgm hg x4 x0 x6 x11 (ix3 0 r j) = oR gy sgm hg x4 x0 x6 r j
      * Ideal.rsqrt (Ideal.div (∑ x, oR gy sgm hg x4 x0 x6 r x * oR gy sgm hg x4 x0 x6 r x) (Ideal.ofBits .f32 1149239296#32) + Ideal.ofBits .f32 897988541#32) * x11 (ix2 0 j) := by
  unfold k0_pay295 oR
  pointwise

end Cert.KernelIdeal.Hand

end
-- ==== Proof.LayerK.lean ====
/- The layer's output and the convolution's last rows, read off the body's values. -/
module

public import proofs.«01_k».proof.Proof.Mix

@[expose] public section

set_option maxRecDepth 16384

noncomputable section

namespace Cert.KernelIdeal.Hand

open Cert.KernelIdeal.Gen
open Idealize.ShloMosaic Idealize.ShloMosaic.TcCoe Idealize.ShloMosaic.Tactic
open Cert.Rec

variable (m : (ℓ : Loc nD τ sig) → Buf (Elt Ideal) ℓ) (c : Dev nD)

/-- The other weights, as they are. -/
def wtM : Wt where
  hnw j := (m ((c : Thread nD τ).loc main_arg5) : Vec Ideal S1x1024 .f32) (ix2 0 j)
  cw k j := (m ((c : Thread nD τ).loc main_arg6) : Vec Ideal S1x3x1024 .f32) (ix3 0 k j)
  wpm k j := (m ((c : Thread nD τ).loc main_arg7) : Vec Ideal S1x1024x1024 .f32) (ix3 0 k j)
  wpc k j := (m ((c : Thread nD τ).loc main_arg8) : Vec Ideal S1x1024x1024 .f32) (ix3 0 k j)
  wo k j := (m ((c : Thread nD τ).loc main_arg9) : Vec Ideal S1x1024x1024 .f32) (ix3 0 k j)
  fnw j := (m ((c : Thread nD τ).loc main_arg10) : Vec Ideal S1024 .f32) (ix1 j)

theorem ib4 (t : Fin cfg0.N) : win0_4.index t 0 = 0 ∧ win0_4.index t 1 = 0 := by
  revert t; decide +kernel
theorem blk4 (t : Fin cfg0.N) (k : Fin 1024) (j : Fin 1024) :
    (iblk m c 4 t : Vec Ideal S1024x1024 .bf16) (ix2 k j) = (V m c main_v12 : Vec Ideal S1024x3072 .bf16) (ix2 k ⟨0 + j.val, by omega⟩) := by
  have hi := ib4 t
  unfold iblk
  rw [View.read_apply]
  show V m c main_v12 _ = V m c main_v12 _
  congr 1
  funext a
  apply Fin.ext
  match a with
  | ⟨0, _⟩ => show win0_4.index t 0 * 1024 + 1 * k.val = k.val; rw [hi.1]; omega
  | ⟨1, _⟩ => show win0_4.index t 1 * 1024 + 1 * j.val = 0 + j.val; rw [hi.2]; omega

theorem ib5 (t : Fin cfg0.N) : win0_5.index t 0 = 0 ∧ win0_5.index t 1 = 1 := by
  revert t; decide +kernel
theorem blk5 (t : Fin cfg0.N) (k : Fin 1024) (j : Fin 1024) :
    (iblk m c 5 t : Vec Ideal S1024x1024 .bf16) (ix2 k j) = (V m c main_v12 : Vec Ideal S1024x3072 .bf16) (ix2 k ⟨1024 + j.val, by omega⟩) := by
  have hi := ib5 t
  unfold iblk
  rw [View.read_apply]
  show V m c main_v12 _ = V m c main_v12 _
  congr 1
  funext a
  apply Fin.ext
  match a with
  | ⟨0, _⟩ => show win0_5.index t 0 * 1024 + 1 * k.val = k.val; rw [hi.1]; omega
  | ⟨1, _⟩ => show win0_5.index t 1 * 1024 + 1 * j.val = 1024 + j.val; rw [hi.2]; omega

theorem ib6 (t : Fin cfg0.N) : win0_6.index t 0 = 0 ∧ win0_6.index t 1 = 2 := by
  revert t; decide +kernel
theorem blk6 (t : Fin cfg0.N) (k : Fin 1024) (j : Fin 1024) :
    (iblk m c 6 t : Vec Ideal S1024x1024 .bf16) (ix2 k j) = (V m c main_v12 : Vec Ideal S1024x3072 .bf16) (ix2 k ⟨2048 + j.val, by omega⟩) := by
  have hi := ib6 t
  unfold iblk
  rw [View.read_apply]
  show V m c main_v12 _ = V m c main_v12 _
  congr 1
  funext a
  apply Fin.ext
  match a with
  | ⟨0, _⟩ => show win0_6.index t 0 * 1024 + 1 * k.val = k.val; rw [hi.1]; omega
  | ⟨1, _⟩ => show win0_6.index t 1 * 1024 + 1 * j.val = 2048 + j.val; rw [hi.2]; omega

theorem ib9 (t : Fin cfg0.N) : win0_9.index t 0 = 0 ∧ win0_9.index t 1 = 0 := by
  revert t; decide +kernel
theorem blk9 (t : Fin cfg0.N) (k : Fin 1) (j : Fin 1024) :
    (iblk m c 9 t : Vec Ideal S1x1024 .f32) (ix2 k j) = (V m c main_v18 : Vec Ideal S1x1024 .f32) (ix2 k j) := by
  have hi := ib9 t
  unfold iblk
  rw [View.read_apply]
  show V m c main_v18 _ = V m c main_v18 _
  congr 1
  funext a
  apply Fin.ext
  match a with
  | ⟨0, _⟩ => show win0_9.index t 0 * 1 + 1 * k.val = k.val; rw [hi.1]; omega
  | ⟨1, _⟩ => show win0_9.index t 1 * 1024 + 1 * j.val = j.val; rw [hi.2]; omega

theorem ib10 (t : Fin cfg0.N) : win0_10.index t 0 = 0 ∧ win0_10.index t 1 = 0 := by
  revert t; decide +kernel
theorem blk10 (t : Fin cfg0.N) (k : Fin 1) (j : Fin 3072) :
    (iblk m c 10 t : Vec Ideal S1x3072 .f32) (ix2 k j) = (V m c main_v19 : Vec Ideal S1x3072 .f32) (ix2 k j) := by
  have hi := ib10 t
  unfold iblk
  rw [View.read_apply]
  show V m c main_v19 _ = V m c main_v19 _
  congr 1
  funext a
  apply Fin.ext
  match a with
  | ⟨0, _⟩ => show win0_10.index t 0 * 1 + 1 * k.val = k.val; rw [hi.1]; omega
  | ⟨1, _⟩ => show win0_10.index t 1 * 3072 + 1 * j.val = j.val; rw [hi.2]; omega

theorem ib11 (t : Fin cfg0.N) : win0_11.index t 0 = 0 ∧ win0_11.index t 1 = 0 := by
  revert t; decide +kernel
theorem blk11 (t : Fin cfg0.N) (k : Fin 1) (j : Fin 1024) :
    (iblk m c 11 t : Vec Ideal S1x1024 .f32) (ix2 k j) = (V m c main_v20 : Vec Ideal S1x1024 .f32) (ix2 k j) := by
  have hi := ib11 t
  unfold iblk
  rw [View.read_apply]
  show V m c main_v20 _ = V m c main_v20 _
  congr 1
  funext a
  apply Fin.ext
  match a with
  | ⟨0, _⟩ => show win0_11.index t 0 * 1 + 1 * k.val = k.val; rw [hi.1]; omega
  | ⟨1, _⟩ => show win0_11.index t 1 * 1024 + 1 * j.val = j.val; rw [hi.2]; omega

theorem V12a (k j : Fin 1024) : (V m c main_v12 : Vec Ideal S1024x3072 .bf16) (ix2 k ⟨0 + j.val, by omega⟩) = (wtM m c).wpm k j := by
  unfold V wtM
  after_reads_at
  after_reads_at
theorem V12b (k j : Fin 1024) : (V m c main_v12 : Vec Ideal S1024x3072 .bf16) (ix2 k ⟨1024 + j.val, by omega⟩) = (wtM m c).wpc k j := by
  unfold V wtM
  after_reads_at
  after_reads_at
theorem V12c (k j : Fin 1024) : (V m c main_v12 : Vec Ideal S1024x3072 .bf16) (ix2 k ⟨2048 + j.val, by omega⟩) = (wtM m c).wo k j := by
  unfold V wtM
  after_reads_at
  rw [dif_neg (by omega), dif_neg (by omega)]
  after_reads_at
  refine congrArg (m ((c : Thread nD τ).loc main_arg9) : Vec Ideal S1x1024x1024 .f32) (funext fun a => Fin.ext ?_)
  match a with
  | ⟨0, _⟩ => rfl
  | ⟨1, _⟩ => rfl
  | ⟨2, _⟩ => show 2048 + j.val - 1024 - 1024 = j.val; omega
theorem V18 (j : Fin 1024) : (V m c main_v18 : Vec Ideal S1x1024 .f32) (ix2 0 j) = (wtM m c).hnw j := by
  unfold V wtM
  after_reads_at
theorem V19 (k : Fin 3) (j : Fin 1024) : (V m c main_v19 : Vec Ideal S1x3072 .f32) (ix2 0 ⟨1024 * k.val + j.val, by omega⟩) = (wtM m c).cw k j := by
  unfold V wtM
  after_reads_at
theorem V20 (j : Fin 1024) : (V m c main_v20 : Vec Ideal S1x1024 .f32) (ix2 0 j) = (wtM m c).fnw j := by
  unfold V wtM
  after_reads_at

theorem w1024_read (x3 : Vec Ideal S1024x8192 .bf16) (k : Fin 8) (a j : Fin 1024) : w1024 x3 k (ix2 a j) = x3 (ix2 a ⟨1024 * k.val + j.val, by omega⟩) := by
  unfold w1024
  refine congrArg x3 (funext fun b => Fin.ext ?_)
  match b with
  | ⟨0, _⟩ => show 0 + 1 * a.val = a.val; omega
  | ⟨1, _⟩ => show 1024 * k.val + 1 * j.val = 1024 * k.val + j.val; omega
theorem w256_read (x3 : Vec Ideal S1024x8192 .bf16) (k : Fin 8) (a : Fin 1024) (j : Fin 256) : w256 x3 k (ix2 a j) = x3 (ix2 a ⟨256 * k.val + j.val, by omega⟩) := by
  unfold w256
  refine congrArg x3 (funext fun b => Fin.ext ?_)
  match b with
  | ⟨0, _⟩ => show 0 + 1 * a.val = a.val; omega
  | ⟨1, _⟩ => show 256 * k.val + 1 * j.val = 256 * k.val + j.val; omega
theorem nwI_read (x9 : Vec Ideal S1x1024 .f32) (h : Fin 4) (j : Fin 256) : nwI x9 h (ix2 0 j) = x9 (ix2 0 ⟨256 * h.val + j.val, by omega⟩) := by
  unfold nwI
  refine congrArg x9 (funext fun b => Fin.ext ?_)
  match b with
  | ⟨0, _⟩ => rfl
  | ⟨1, _⟩ => show 256 * h.val + 1 * j.val = 256 * h.val + j.val; omega
theorem cwI_read (x10 : Vec Ideal S1x3072 .f32) (h : Fin 3) (j : Fin 1024) : cwI x10 h (ix2 0 j) = x10 (ix2 0 ⟨1024 * h.val + j.val, by omega⟩) := by
  unfold cwI
  refine congrArg x10 (funext fun b => Fin.ext ?_)
  match b with
  | ⟨0, _⟩ => rfl
  | ⟨1, _⟩ => show 1024 * h.val + 1 * j.val = 1024 * h.val + j.val; omega

section
variable {m c} {I : In} (hA : Args m c I) (t : Fin cfg0.N)
include hA

/-- A column of the rest of the input projection. -/
theorem rest_val (r : Fin 512) (j : Fin 8192) : (∑ x, xnT m c t (ix2 r x) * (iblk m c 3 t : Vec Ideal S1024x8192 .bf16) (ix2 x j)) = I.pe (bT t) (pT t + r.val) (2056 + j.val) :=
  dot_val hA t (fun k => (iblk m c 3 t : Vec Ideal S1024x8192 .bf16) (ix2 k j)) (2056 + j.val) (fun k => by rw [blk3, V7, hA.w]) r
theorem rest1024 (k : Fin 8) (r : Fin 512) (j : Fin 1024) : (∑ x, xnT m c t (ix2 r x) * w1024 (iblk m c 3 t) k (ix2 x j)) = I.pe (bT t) (pT t + r.val) (2056 + (1024 * k.val + j.val)) := by
  simp only [w1024_read]
  exact rest_val hA t r _
theorem rest256 (k : Fin 8) (r : Fin 512) (j : Fin 256) : (∑ x, xnT m c t (ix2 r x) * w256 (iblk m c 3 t) k (ix2 x j)) = I.pe (bT t) (pT t + r.val) (2056 + (256 * k.val + j.val)) := by
  simp only [w256_read]
  exact rest_val hA t r _
omit hA in
theorem kS2_pe (b : Fin 8) (i n : ℕ) : kS2 (I.pe b i n) = I.sgp b i n := sg_tanh _

/-! The gated heads. -/

theorem uHG_val (ci : Fin 2) (h : Fin 4) (hv : FVec Ideal S256x256 .f32) (r e : Fin 256)
    (hh : ∀ x : Fin 256, hv (ix2 r x) = I.h (bT t) (pT t + (256 * ci.val + r.val)) h x) :
    uHG ci (xnT m c t) (w256 (iblk m c 3 t) (oK h)) (w256 (iblk m c 3 t) (zK h)) hv (nwI (iblk m c 9 t) h) (ix2 r e)
      = I.hg (wtM m c) (bT t) (pT t + (256 * ci.val + r.val)) h e := by
  unfold uHG
  rw [pay50_read, oS_read, oS_read, pay22_read, pay23_read, rest256 hA, rest256 hA, kS2_pe, kS2_pe, nwI_read, blk9, V18]
  simp only [hh]
  unfold In.hg In.hn
  rw [show 2056 + (256 * (oK h).val + e.val) = 2056 + (256 * h.val + e.val) from rfl,
    show 2056 + (256 * (zK h).val + e.val) = 3080 + (256 * h.val + e.val) by show 2056 + (256 * (4 + h.val) + e.val) = _; omega]

end

theorem hgL_read_1_3 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨256 + r.val, by omega⟩ ⟨768 + e.val, by omega⟩) = hgB X G a b d xn x3 x9 3 (ix2 r e) := by
  unfold hgL
  exact canon_at (F := Ideal) (s := S512x1024) (e := .bf16) (off := ![256, 768]) (size := S256x256.size) inb_S512x1024_S256x256_256_768 _ _ _ (ix2 r e) (fun a => by
    match a with
    | ⟨0, _⟩ => rfl
    | ⟨1, _⟩ => rfl)
theorem hgL_read_1_2 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨256 + r.val, by omega⟩ ⟨512 + e.val, by omega⟩) = hgB X G a b d xn x3 x9 2 (ix2 r e) := by
  unfold hgL
  refine (canon_skip (F := Ideal) (s := S512x1024) (e := .bf16) (off := ![256, 768]) (size := S256x256.size) _ _ _ _ 1 (Or.inl (show 512 + e.val < 768 by omega))).trans ?_
  exact canon_at (F := Ideal) (s := S512x1024) (e := .bf16) (off := ![256, 512]) (size := S256x256.size) inb_S512x1024_S256x256_256_512 _ _ _ (ix2 r e) (fun a => by
    match a with
    | ⟨0, _⟩ => rfl
    | ⟨1, _⟩ => rfl)
theorem hgL_read_1_1 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨256 + r.val, by omega⟩ ⟨256 + e.val, by omega⟩) = hgB X G a b d xn x3 x9 1 (ix2 r e) := by
  unfold hgL
  refine (canon_skip (F := Ideal) (s := S512x1024) (e := .bf16) (off := ![256, 768]) (size := S256x256.size) _ _ _ _ 1 (Or.inl (show 256 + e.val < 768 by omega))).trans ?_
  refine (canon_skip (F := Ideal) (s := S512x1024) (e := .bf16) (off := ![256, 512]) (size := S256x256.size) _ _ _ _ 1 (Or.inl (show 256 + e.val < 512 by omega))).trans ?_
  exact canon_at (F := Ideal) (s := S512x1024) (e := .bf16) (off := ![256, 256]) (size := S256x256.size) inb_S512x1024_S256x256_256_256 _ _ _ (ix2 r e) (fun a => by
    match a with
    | ⟨0, _⟩ => rfl
    | ⟨1, _⟩ => rfl)
theorem hgL_read_1_0 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨256 + r.val, by omega⟩ ⟨0 + e.val, by omega⟩) = hgB X G a b d xn x3 x9 0 (ix2 r e) := by
  unfold hgL
  refine (canon_skip (F := Ideal) (s := S512x1024) (e := .bf16) (off := ![256, 768]) (size := S256x256.size) _ _ _ _ 1 (Or.inl (show 0 + e.val < 768 by omega))).trans ?_
  refine (canon_skip (F := Ideal) (s := S512x1024) (e := .bf16) (off := ![256, 512]) (size := S256x256.size) _ _ _ _ 1 (Or.inl (show 0 + e.val < 512 by omega))).trans ?_
  refine (canon_skip (F := Ideal) (s := S512x1024) (e := .bf16) (off := ![256, 256]) (size := S256x256.size) _ _ _ _ 1 (Or.inl (show 0 + e.val < 256 by omega))).trans ?_
  exact canon_at (F := Ideal) (s := S512x1024) (e := .bf16) (off := ![256, 0]) (size := S256x256.size) inb_S512x1024_S256x256_256_0 _ _ _ (ix2 r e) (fun a => by
    match a with
    | ⟨0, _⟩ => rfl
    | ⟨1, _⟩ => rfl)
theorem hgL_read_0_3 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨0 + r.val, by omega⟩ ⟨768 + e.val, by omega⟩) = hgA X G a b d xn x3 x9 3 (ix2 r e) := by
  unfold hgL
  refine (canon_skip (F := Ideal) (s := S512x1024) (e := .bf16) (off := ![256, 768]) (size := S256x256.size) _ _ _ _ 0 (Or.inl (show 0 + r.val < 256 by omega))).trans ?_
  refine (canon_skip (F := Ideal) (s := S512x1024) (e := .bf16) (off := ![256, 512]) (size := S256x256.size) _ _ _ _ 0 (Or.inl (show 0 + r.val < 256 by omega))).trans ?_
  refine (canon_skip (F := Ideal) (s := S512x1024) (e := .bf16) (off := ![256, 256]) (size := S256x256.size) _ _ _ _ 0 (Or.inl (show 0 + r.val < 256 by omega))).trans ?_
  refine (canon_skip (F := Ideal) (s := S512x1024) (e := .bf16) (off := ![256, 0]) (size := S256x256.size) _ _ _ _ 0 (Or.inl (show 0 + r.val < 256 by omega))).trans ?_
  exact canon_at (F := Ideal) (s := S512x1024) (e := .bf16) (off := ![0, 768]) (size := S256x256.size) inb_S512x1024_S256x256_0_768 _ _ _ (ix2 r e) (fun a => by
    match a with
    | ⟨0, _⟩ => rfl
    | ⟨1, _⟩ => rfl)
theorem hgL_read_0_2 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨0 + r.val, by omega⟩ ⟨512 + e.val, by omega⟩) = hgA X G a b d xn x3 x9 2 (ix2 r e) := by
  unfold hgL
  refine (canon_skip (F := Ideal) (s := S512x1024) (e := .bf16) (off := ![256, 768]) (size := S256x256.size) _ _ _ _ 0 (Or.inl (show 0 + r.val < 256 by omega))).trans ?_
  refine (canon_skip (F := Ideal) (s := S512x1024) (e := .bf16) (off := ![256, 512]) (size := S256x256.size) _ _ _ _ 0 (Or.inl (show 0 + r.val < 256 by omega))).trans ?_
  refine (canon_skip (F := Ideal) (s := S512x1024) (e := .bf16) (off := ![256, 256]) (size := S256x256.size) _ _ _ _ 0 (Or.inl (show 0 + r.val < 256 by omega))).trans ?_
  refine (canon_skip (F := Ideal) (s := S512x1024) (e := .bf16) (off := ![256, 0]) (size := S256x256.size) _ _ _ _ 0 (Or.inl (show 0 + r.val < 256 by omega))).trans ?_
  refine (canon_skip (F := Ideal) (s := S512x1024) (e := .bf16) (off := ![0, 768]) (size := S256x256.size) _ _ _ _ 1 (Or.inl (show 512 + e.val < 768 by omega))).trans ?_
  exact canon_at (F := Ideal) (s := S512x1024) (e := .bf16) (off := ![0, 512]) (size := S256x256.size) inb_S512x1024_S256x256_0_512 _ _ _ (ix2 r e) (fun a => by
    match a with
    | ⟨0, _⟩ => rfl
    | ⟨1, _⟩ => rfl)
theorem hgL_read_0_1 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨0 + r.val, by omega⟩ ⟨256 + e.val, by omega⟩) = hgA X G a b d xn x3 x9 1 (ix2 r e) := by
  unfold hgL
  refine (canon_skip (F := Ideal) (s := S512x1024) (e := .bf16) (off := ![256, 768]) (size := S256x256.size) _ _ _ _ 0 (Or.inl (show 0 + r.val < 256 by omega))).trans ?_
  refine (canon_skip (F := Ideal) (s := S512x1024) (e := .bf16) (off := ![256, 512]) (size := S256x256.size) _ _ _ _ 0 (Or.inl (show 0 + r.val < 256 by omega))).trans ?_
  refine (canon_skip (F := Ideal) (s := S512x1024) (e := .bf16) (off := ![256, 256]) (size := S256x256.size) _ _ _ _ 0 (Or.inl (show 0 + r.val < 256 by omega))).trans ?_
  refine (canon_skip (F := Ideal) (s := S512x1024) (e := .bf16) (off := ![256, 0]) (size := S256x256.size) _ _ _ _ 0 (Or.inl (show 0 + r.val < 256 by omega))).trans ?_
  refine (canon_skip (F := Ideal) (s := S512x1024) (e := .bf16) (off := ![0, 768]) (size := S256x256.size) _ _ _ _ 1 (Or.inl (show 256 + e.val < 768 by omega))).trans ?_
  refine (canon_skip (F := Ideal) (s := S512x1024) (e := .bf16) (off := ![0, 512]) (size := S256x256.size) _ _ _ _ 1 (Or.inl (show 256 + e.val < 512 by omega))).trans ?_
  exact canon_at (F := Ideal) (s := S512x1024) (e := .bf16) (off := ![0, 256]) (size := S256x256.size) inb_S512x1024_S256x256_0_256 _ _ _ (ix2 r e) (fun a => by
    match a with
    | ⟨0, _⟩ => rfl
    | ⟨1, _⟩ => rfl)
theorem hgL_read_0_0 (X : FVec Ideal S512x2048 .f32) (G : FVec Ideal S512x128 .f32) (a b d) (xn : FVec Ideal S512x1024 .bf16) (x3 : Vec Ideal S1024x8192 .bf16) (x9 : Vec Ideal S1x1024 .f32) (r e : Fin 256) :
    View.canon (hgL (F := Ideal) X G a b d xn x3 x9) (ix2 ⟨0 + r.val, by omega⟩ ⟨0 + e.val, by omega⟩) = hgA X G a b d xn x3 x9 0 (ix2 r e) := by
  unfold hgL
  refine (canon_skip (F := Ideal) (s := S512x1024) (e := .bf16) (off := ![256, 768]) (size := S256x256.size) _ _ _ _ 0 (Or.inl (show 0 + r.val < 256 by omega))).trans ?_
  refine (canon_skip (F := Ideal) (s := S512x1024) (e := .bf16) (off := ![256, 512]) (size := S256x256.size) _ _ _ _ 0 (Or.inl (show 0 + r.val < 256 by omega))).trans ?_
  refine (canon_skip (F := Ideal) (s := S512x1024) (e := .bf16) (off := ![256, 256]) (size := S256x256.size) _ _ _ _ 0 (Or.inl (show 0 + r.val < 256 by omega))).trans ?_
  refine (canon_skip (F := Ideal) (s := S512x1024) (e := .bf16) (off := ![256, 0]) (size := S256x256.size) _ _ _ _ 0 (Or.inl (show 0 + r.val < 256 by omega))).trans ?_
  refine (canon_skip (F := Ideal) (s := S512x1024) (e := .bf16) (off := ![0, 768]) (size := S256x256.size) _ _ _ _ 1 (Or.inl (show 0 + e.val < 768 by omega))).trans ?_
  refine (canon_skip (F := Ideal) (s := S512x1024) (e := .bf16) (off := ![0, 512]) (size := S256x256.size) _ _ _ _ 1 (Or.inl (show 0 + e.val < 512 by omega))).trans ?_
  refine (canon_skip (F := Ideal) (s := S512x1024) (e := .bf16) (off := ![0, 256]) (size := S256x256.size) _ _ _ _ 1 (Or.inl (show 0 + e.val < 256 by omega))).trans ?_
  exact canon_at (F := Ideal) (s := S512x1024) (e := .bf16) (off := ![0, 0]) (size := S256x256.size) inb_S512x1024_S256x256_0_0 _ _ _ (ix2 r e) (fun a => by
    match a with
    | ⟨0, _⟩ => rfl
    | ⟨1, _⟩ => rfl)

theorem hgT_AB (t : Fin cfg0.N) (h : Fin 4) (r e : Fin 256) :
    hgT m c t (ix2 ⟨0 + r.val, by omega⟩ ⟨256 * h.val + e.val, by omega⟩) = hgA (XT m c t) (GT m c t) (inS m c t).ct (inS m c t).n (inS m c t).mm (xnT m c t) (iblk m c 3 t) (iblk m c 9 t) h (ix2 r e)
    ∧ hgT m c t (ix2 ⟨256 + r.val, by omega⟩ ⟨256 * h.val + e.val, by omega⟩) = hgB (XT m c t) (GT m c t) (inS m c t).ct (inS m c t).n (inS m c t).mm (xnT m c t) (iblk m c 3 t) (iblk m c 9 t) h (ix2 r e) := by
  match h with
  | ⟨0, _⟩ => exact ⟨hgL_read_0_0 _ _ _ _ _ _ _ _ r e, hgL_read_1_0 _ _ _ _ _ _ _ _ r e⟩
  | ⟨1, _⟩ => exact ⟨hgL_read_0_1 _ _ _ _ _ _ _ _ r e, hgL_read_1_1 _ _ _ _ _ _ _ _ r e⟩
  | ⟨2, _⟩ => exact ⟨hgL_read_0_2 _ _ _ _ _ _ _ _ r e, hgL_read_1_2 _ _ _ _ _ _ _ _ r e⟩
  | ⟨3, _⟩ => exact ⟨hgL_read_0_3 _ _ _ _ _ _ _ _ r e, hgL_read_1_3 _ _ _ _ _ _ _ _ r e⟩

section
variable {m c} {I : In} (hA : Args m c I) (t : Fin cfg0.N)
include hA

theorem hgT_val (r : Fin 512) (j : Fin 1024) : hgT m c t (ix2 r j) = I.hgc (wtM m c) (bT t) (pT t + r.val) j := by
  have hg := (good_all hA t).2
  have hK := isBlk hA t
  obtain ⟨h, e, rfl⟩ : ∃ (h : Fin 4) (e : Fin 256), j = ⟨256 * h.val + e.val, by omega⟩ :=
    ⟨⟨j.val / 256, by omega⟩, ⟨j.val % 256, by omega⟩, Fin.ext (by show j.val = 256 * (j.val / 256) + j.val % 256; omega)⟩
  have hj : I.hgc (wtM m c) (bT t) (pT t + r.val) ⟨256 * h.val + e.val, by omega⟩ = I.hg (wtM m c) (bT t) (pT t + r.val) h e := by
    unfold In.hgc
    congr 1
    · apply Fin.ext; show (256 * h.val + e.val) / 256 = h.val; omega
    · apply Fin.ext; show (256 * h.val + e.val) % 256 = e.val; omega
  rw [hj]
  by_cases hr : r.val < 256
  · have er : r = ⟨0 + (⟨r.val, hr⟩ : Fin 256).val, by omega⟩ := Fin.ext (by show r.val = 0 + r.val; omega)
    have key := (hgT_AB m c t h ⟨r.val, hr⟩ e).1
    rw [← er] at key
    rw [key]
    unfold hgA
    have := uHG_val hA t 0 h (Hand.hA (XT m c t) (GT m c t) (inS m c t).ct (inS m c t).n (inS m c t).mm h) ⟨r.val, hr⟩ e (fun x => by
      rw [hA_val hK hg.ct hg.n hg.mm]
      unfold In.h
      rw [show pT t + (256 * (0 : Fin 2).val + (⟨r.val, hr⟩ : Fin 256).val) = pT t + r.val by show pT t + (256 * 0 + r.val) = _; omega]
      rfl)
    rw [this, show pT t + (256 * (0 : Fin 2).val + (⟨r.val, hr⟩ : Fin 256).val) = pT t + r.val by show pT t + (256 * 0 + r.val) = _; omega]
  · have er : r = ⟨256 + (⟨r.val - 256, by omega⟩ : Fin 256).val, by show 256 + (r.val - 256) < 512; omega⟩ := Fin.ext (by show r.val = 256 + (r.val - 256); omega)
    have key := (hgT_AB m c t h ⟨r.val - 256, by omega⟩ e).2
    rw [← er] at key
    rw [key]
    unfold hgB
    have := uHG_val hA t 1 h (Hand.hB (XT m c t) (GT m c t) (inS m c t).ct (inS m c t).n (inS m c t).mm h) ⟨r.val - 256, by omega⟩ e (fun x => by
      rw [hB_val hK hg.ct hg.n hg.mm]
      unfold In.h
      rw [show pT t + (256 * (1 : Fin 2).val + (⟨r.val - 256, by omega⟩ : Fin 256).val) = pT t + 256 + (r.val - 256) by show pT t + (256 * 1 + (r.val - 256)) = _; omega]
      rfl)
    rw [this, show pT t + (256 * (1 : Fin 2).val + (⟨r.val - 256, by omega⟩ : Fin 256).val) = pT t + r.val by show pT t + (256 * 1 + (r.val - 256)) = _; omega]

/-! The convolution. -/

theorem uV_val (r : Fin 512) (j : Fin 1024) : uV (xnT m c t) (iblk m c 3 t) (ix2 r j) = I.u (bT t) (pT t + r.val) j := by
  unfold uV
  rw [pay157_read, rest1024 hA, rest1024 hA]
  unfold In.u
  rw [show 2056 + (1024 * (3 : Fin 8).val + j.val) = 5128 + j.val by show 2056 + (1024 * 3 + j.val) = _; omega,
    show 2056 + (1024 * (4 : Fin 8).val + j.val) = 6152 + j.val by show 2056 + (1024 * 4 + j.val) = _; omega]

omit hA in
theorem tail_read (xn : FVec Ideal S512x1024 .bf16) (x3 : Vec Ideal S1024x8192 .bf16) (a : Fin 8) (j : Fin 1024) :
    ubTail xn x3 (ix2 a j) = uV xn x3 (ix2 ⟨504 + a.val, by omega⟩ j) := by
  unfold ubTail k0_pay289
  generalize uV xn x3 = u
  pointwise
omit hA in
theorem convOut_read (xn : FVec Ideal S512x1024 .bf16) (x3 : Vec Ideal S1024x8192 .bf16) (a : Fin 2) (j : Fin 1024) :
    convOut xn x3 (ix4 0 0 a j) = ubTail xn x3 (ix2 ⟨6 + a.val, by omega⟩ j) := by
  unfold convOut k0_pay290
  generalize ubTail xn x3 = u
  pointwise
theorem cvT_val (ht : t.val % 4 = 3) (a : Fin 2) (j : Fin 1024) : cvT m c t (ix4 0 0 a j) = I.u (bT t) (2046 + a.val) j := by
  unfold cvT
  rw [convOut_read, tail_read, uV_val hA]
  rw [show pT t + (504 + (6 + a.val)) = 2046 + a.val by unfold pT; omega]

/-- The rows above a block's own, counted back from its first. -/
theorem tailT_val (s : ℕ) (hs : s ≤ 8) (r : ℕ) (hr : r < s) (j : Fin 1024) :
    tailT m c t (ix2 ⟨8 - s + r, by omega⟩ j) = I.ub (bT t) (pT t + r) s j := by
  unfold tailT In.ub
  have hN : cfg0.N = 32 := N_0
  have htN := t.isLt
  by_cases h : t.val % 4 = 0
  · rw [if_pos h, if_neg (by unfold pT; omega)]
    unfold k0_pay5
    pointwise
  · rw [if_neg h, if_pos (by unfold pT; omega), tail_read, uV_val hA]
    have e1 : bT ⟨t.val - 1, Nat.lt_of_le_of_lt (Nat.sub_le _ _) t.isLt⟩ = bT t := Fin.ext (by show (t.val - 1) / 4 = t.val / 4; omega)
    have e2 : pT ⟨t.val - 1, Nat.lt_of_le_of_lt (Nat.sub_le _ _) t.isLt⟩ + (504 + (8 - s + r)) = pT t + r - s := by
      unfold pT; show 512 * ((t.val - 1) % 4) + (504 + (8 - s + r)) = _; omega
    rw [e1, e2]

theorem ub_val (s : ℕ) (hs : s ≤ 8) (inb : ∀ a, (![8 - s, 0] : Fin 2 → ℕ) a + S512x1024.size a ≤ S528x1024.size a) (r : Fin 512) (j : Fin 1024) :
    View.ld (Val := Elt Ideal) (ubW (xnT m c t) (iblk m c 3 t) (ubOf (tailT m c t))) (Rect.unit ![8 - s, 0] S512x1024.size inb) (ix2 r j) = I.ub (bT t) (pT t + r.val) s j := by
  have e : View.ld (Val := Elt Ideal) (ubW (xnT m c t) (iblk m c 3 t) (ubOf (tailT m c t))) (Rect.unit ![8 - s, 0] S512x1024.size inb) (ix2 r j)
      = ubW (xnT m c t) (iblk m c 3 t) (ubOf (tailT m c t)) (ix2 ⟨8 - s + r.val, by omega⟩ j) := by
    refine congrArg (ubW (xnT m c t) (iblk m c 3 t) (ubOf (tailT m c t))) (funext fun b => Fin.ext ?_)
    match b with
    | ⟨0, _⟩ => show 8 - s + 1 * r.val = 8 - s + r.val; omega
    | ⟨1, _⟩ => show 0 + 1 * j.val = j.val; omega
  rw [e]
  unfold ubW VecWindow.put
  by_cases h : s ≤ r.val
  · rw [dif_pos (show ∀ a, (![8, 0] : Fin 2 → ℕ) a ≤ ((ix2 (⟨8 - s + r.val, by omega⟩ : Fin 528) j : S528x1024.Idx) a).val ∧ ((ix2 (⟨8 - s + r.val, by omega⟩ : Fin 528) j : S528x1024.Idx) a).val < (![8, 0] : Fin 2 → ℕ) a + S512x1024.size a by
      intro a
      match a with
      | ⟨0, _⟩ => refine ⟨?_, ?_⟩; (show 8 ≤ 8 - s + r.val; omega); (show 8 - s + r.val < 8 + 512; omega)
      | ⟨1, _⟩ => refine ⟨Nat.zero_le _, ?_⟩; show j.val < 0 + 1024; omega)]
    refine Eq.trans ?_ ((uV_val hA t ⟨r.val - s, by omega⟩ j).trans ?_)
    · refine congrArg (uV (xnT m c t) (iblk m c 3 t)) (funext fun b => Fin.ext ?_)
      match b with
      | ⟨0, _⟩ => show 8 - s + r.val - 8 = r.val - s; omega
      | ⟨1, _⟩ => show j.val - 0 = j.val; omega
    · unfold In.ub
      rw [if_pos (by omega), show pT t + (⟨r.val - s, by omega⟩ : Fin 512).val = pT t + r.val - s by show pT t + (r.val - s) = _; omega]
  · rw [dif_neg (show ¬ ∀ a, (![8, 0] : Fin 2 → ℕ) a ≤ ((ix2 (⟨8 - s + r.val, by omega⟩ : Fin 528) j : S528x1024.Idx) a).val ∧ ((ix2 (⟨8 - s + r.val, by omega⟩ : Fin 528) j : S528x1024.Idx) a).val < (![8, 0] : Fin 2 → ℕ) a + S512x1024.size a by
      intro hall
      have := (hall 0).1
      change 8 ≤ 8 - s + r.val at this
      omega)]
    unfold ubOf VecWindow.put
    rw [dif_pos (show ∀ a, (![0, 0] : Fin 2 → ℕ) a ≤ ((ix2 (⟨8 - s + r.val, by omega⟩ : Fin 528) j : S528x1024.Idx) a).val ∧ ((ix2 (⟨8 - s + r.val, by omega⟩ : Fin 528) j : S528x1024.Idx) a).val < (![0, 0] : Fin 2 → ℕ) a + S8x1024.size a by
      intro a
      match a with
      | ⟨0, _⟩ => refine ⟨Nat.zero_le _, ?_⟩; show 8 - s + r.val < 0 + 8; omega
      | ⟨1, _⟩ => refine ⟨Nat.zero_le _, ?_⟩; show j.val < 0 + 1024; omega)]
    refine Eq.trans (congrArg (tailT m c t) (funext fun b => Fin.ext ?_)) (tailT_val hA t s hs r.val (by omega) j)
    match b with
    | ⟨0, _⟩ => show 8 - s + r.val - 0 = 8 - s + r.val; omega
    | ⟨1, _⟩ => show j.val - 0 = j.val; omega

theorem conv_val (r : Fin 512) (j : Fin 1024) :
    convV (xnT m c t) (iblk m c 3 t) (iblk m c 10 t) (ubOf (tailT m c t)) (ix2 r j) = I.cv (wtM m c) (bT t) (pT t + r.val) j := by
  unfold convV
  rw [pay158_read, rest1024 hA, rest1024 hA]
  simp only [cwI_read, blk10, V19]
  unfold In.cv
  have h2 : View.ld (Val := Elt Ideal) (ubW (xnT m c t) (iblk m c 3 t) (ubOf (tailT m c t))) (Rect.unit ![6, 0] S512x1024.size inb_S528x1024_S512x1024_6_0) (ix2 r j) = I.ub (bT t) (pT t + r.val) 2 j := ub_val hA t 2 (by omega) inb_S528x1024_S512x1024_6_0 r j
  have h1 : View.ld (Val := Elt Ideal) (ubW (xnT m c t) (iblk m c 3 t) (ubOf (tailT m c t))) (Rect.unit ![7, 0] S512x1024.size inb_S528x1024_S512x1024_7_0) (ix2 r j) = I.ub (bT t) (pT t + r.val) 1 j := ub_val hA t 1 (by omega) inb_S528x1024_S512x1024_7_0 r j
  rw [h2, h1]
  unfold In.u
  rw [show 2056 + (1024 * (3 : Fin 8).val + j.val) = 5128 + j.val by show 2056 + (1024 * 3 + j.val) = _; omega,
    show 2056 + (1024 * (4 : Fin 8).val + j.val) = 6152 + j.val by show 2056 + (1024 * 4 + j.val) = _; omega]
  refine congr (congrArg HAdd.hAdd (congr (congrArg HAdd.hAdd (congrArg (· * _) (V19 m c 0 j))) (congrArg (· * _) (V19 m c 1 j)))) (congrArg (· * _) (V19 m c 2 j))

/-! The layer's output. -/

theorem yT_val (r : Fin 512) (j : Fin 1024) : yT m c t (ix3 0 r j) = I.y (wtM m c) (bT t) (pT t + r.val) j := by
  unfold yT yV
  rw [pay295_read, blk11, V20]
  have hyc : ∀ k : Fin 1024, k0_pay193 (xnT m c t) (convV (xnT m c t) (iblk m c 3 t) (iblk m c 10 t) (ubOf (tailT m c t))) (k0_pay191 (xnT m c t) (w1024 (iblk m c 3 t) 5)) (k0_pay192 (xnT m c t) (w1024 (iblk m c 3 t) 5)) (FloatOps.ofBits FTy.f32 1056964608#32) (w1024 (iblk m c 3 t) 2) (ix2 r k)
      = I.yc (wtM m c) (bT t) (pT t + r.val) k := fun k => by
    rw [pay193_read, pay192_read, pay191_read, rest1024 hA, rest1024 hA, conv_val hA]
    have := kS2_pe (I := I) (bT t) (pT t + r.val) (2056 + (1024 * (5 : Fin 8).val + k.val))
    unfold kS2 at this
    rw [this]
    unfold In.yc
    rw [show 2056 + (1024 * (5 : Fin 8).val + k.val) = 7176 + k.val by show 2056 + (1024 * 5 + k.val) = _; omega,
      show 2056 + (1024 * (2 : Fin 8).val + k.val) = 4104 + k.val by show 2056 + (1024 * 2 + k.val) = _; omega]
  have ho : ∀ j : Fin 1024, oR (k0_pay225 (xnT m c t) (k0_pay193 (xnT m c t) (convV (xnT m c t) (iblk m c 3 t) (iblk m c 10 t) (ubOf (tailT m c t))) (k0_pay191 (xnT m c t) (w1024 (iblk m c 3 t) 5)) (k0_pay192 (xnT m c t) (w1024 (iblk m c 3 t) 5)) (FloatOps.ofBits FTy.f32 1056964608#32) (w1024 (iblk m c 3 t) 2)) (w1024 (iblk m c 3 t) 7) (iblk m c 5 t))
      (k0_pay255 (xnT m c t) (w1024 (iblk m c 3 t) 6)) (hgT m c t) (iblk m c 4 t) (iblk m c 0 t) (iblk m c 6 t) r j = I.o (wtM m c) (bT t) (pT t + r.val) j := fun j => by
    unfold oR In.o
    rw [x_read, hA.x]
    refine congr (congrArg HAdd.hAdd rfl) (Finset.sum_congr rfl fun k _ => ?_)
    rw [blk6, V12c, pay255_read, pay225_read, rest1024 hA, rest1024 hA, kS2_pe, kS2_pe]
    have e4 : ∀ x : Fin 1024, iblk m c 4 t (ix2 x k) = (wtM m c).wpm x k := fun x => (blk4 m c t x k).trans (V12a m c x k)
    have e5 : ∀ x : Fin 1024, iblk m c 5 t (ix2 x k) = (wtM m c).wpc x k := fun x => (blk5 m c t x k).trans (V12b m c x k)
    simp only [hyc, hgT_val hA, e4, e5]
    unfold In.mix
    rw [show 2056 + (1024 * (6 : Fin 8).val + k.val) = 8200 + k.val by show 2056 + (1024 * 6 + k.val) = _; omega,
      show 2056 + (1024 * (7 : Fin 8).val + k.val) = 9224 + k.val by show 2056 + (1024 * 7 + k.val) = _; omega]
  simp only [ho]
  rfl

end

end Cert.KernelIdeal.Hand

end
-- ==== Proof.OutsY.lean ====
/- The arrays of the layer's output and of the convolution's last rows after the kernel's run. -/
module

public import proofs.«01_k».proof.Proof.Outs
public import proofs.«01_k».proof.Proof.LayerK

@[expose] public section

set_option maxRecDepth 16384

noncomputable section

namespace Cert.KernelIdeal.Hand

open Cert.KernelIdeal.Gen
open Idealize.ShloMosaic Idealize.ShloMosaic.TcCoe Idealize.ShloMosaic.Tactic
open Cert.Rec

variable (m : (ℓ : Loc nD τ sig) → Buf (Elt Ideal) ℓ) (c : Dev nD) {I : In} (hA : Args m c I)

/-- The layer's output and the convolution's last two rows, by the layer's formula. -/
def outY (I : In) (U : Wt) : Vec Ideal S8x2048x1024 .f32 := fun i => I.y U (i 0) (i 1).val (i 2)
def outCv (I : In) : Vec Ideal S1x8x2x1024 .f32 := fun i => I.u (i 1) (2046 + (i 2).val) (i 3)

theorem ob12 (t : Fin cfg0.N) : win0_12.index t 0 = t.val / 4 ∧ win0_12.index t 1 = t.val % 4 ∧ win0_12.index t 2 = 0 := by
  revert t; decide +kernel
theorem ob16 (t : Fin cfg0.N) : win0_16.index t 0 = 0 ∧ win0_16.index t 1 = t.val / 4 ∧ win0_16.index t 2 = 0 ∧ win0_16.index t 3 = 0 := by
  revert t; decide +kernel

theorem pT_lt (t : Fin cfg0.N) (r : Fin 512) : pT t + r.val < 2048 := by unfold pT; omega

theorem emb12 (t : Fin cfg0.N) (r : Fin 512) (j : Fin 1024) :
    (((cfg0.win 12).blk t).view.emb (ix3 (0 : Fin 1) r j) : S8x2048x1024.Idx) = ix3 (bT t) ⟨pT t + r.val, pT_lt t r⟩ j := by
  have hi := ob12 t
  funext a
  apply Fin.ext
  match a with
  | ⟨0, _⟩ => show win0_12.index t 0 * 1 + 1 * 0 = t.val / 4; rw [hi.1]; omega
  | ⟨1, _⟩ => show win0_12.index t 1 * 512 + 1 * r.val = 512 * (t.val % 4) + r.val; rw [hi.2.1]; omega
  | ⟨2, _⟩ => show win0_12.index t 2 * 1024 + 1 * j.val = j.val; rw [hi.2.2]; omega
theorem emb16 (t : Fin cfg0.N) (k : Fin 2) (j : Fin 1024) :
    (((cfg0.win 16).blk t).view.emb (ix4 (0 : Fin 1) (0 : Fin 1) k j) : S1x8x2x1024.Idx) = ix4 0 (bT t) k j := by
  have hi := ob16 t
  funext a
  apply Fin.ext
  match a with
  | ⟨0, _⟩ => show win0_16.index t 0 * 1 + 1 * 0 = 0; rw [hi.1]
  | ⟨1, _⟩ => show win0_16.index t 1 * 1 + 1 * 0 = t.val / 4; rw [hi.2.1]; omega
  | ⟨2, _⟩ => show win0_16.index t 2 * 2 + 1 * k.val = k.val; rw [hi.2.2.1]; omega
  | ⟨3, _⟩ => show win0_16.index t 3 * 1024 + 1 * j.val = j.val; rw [hi.2.2.2]; omega
theorem idx12 (y : S1x512x1024.Idx) : ∃ (r : Fin 512) (j : Fin 1024), y = ix3 0 r j := by
  refine ⟨y 1, y 2, ?_⟩
  funext a
  match a with
  | ⟨0, _⟩ => exact Subsingleton.elim (α := Fin 1) _ _
  | ⟨1, _⟩ => rfl
  | ⟨2, _⟩ => rfl
theorem idx16 (y : S1x1x2x1024.Idx) : ∃ (k : Fin 2) (j : Fin 1024), y = ix4 0 0 k j := by
  refine ⟨y 2, y 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl
include hA in
theorem out12 (t : Fin cfg0.N) (y : S1x512x1024.Idx) : yT m c t y = outY I (wtM m c) (((cfg0.win 12).blk t).view.emb y) := by
  obtain ⟨r, j, rfl⟩ := idx12 y
  rw [yT_val hA t, emb12]; rfl
include hA in
theorem out16 (t : Fin cfg0.N) (ht : t.val % 4 = 3) (y : S1x1x2x1024.Idx) : cvT m c t y = outCv I (((cfg0.win 16).blk t).view.emb y) := by
  obtain ⟨k, j, rfl⟩ := idx16 y
  rw [cvT_val hA t ht, emb16]; rfl
include hA in
theorem arr12 : (dats m 0 c).arrAt 12 cfg0.N = outY I (wtM m c) := by
  refine (dats m 0 c).arrAt_eq_of_covers 12 (outY I (wtM m c)) (by decide +kernel) fun t hf y => ?_
  exact (congrFun (after0_12 m c t) y).trans (out12 m c hA t y)
include hA in
theorem arr16 : (dats m 0 c).arrAt 16 cfg0.N = outCv I := by
  refine (dats m 0 c).arrAt_eq_of_covers 16 (outCv I) (by decide +kernel) fun t hf y => ?_
  exact (congrFun (after0_16 m c t) y).trans (out16 m c hA t ((flush0_16 t).mp hf) y)

/-- Every run ends with the five arrays at these values. -/
theorem values5 (ρ : Dev nD → PrngReg) (J : Dev nD → In) (hJ : ∀ c, Args m c (J c)) : θ_run defs (onTc (τ := τ) (main (F := Ideal))) ⟨m, fun _ => 0, ρ⟩ (fun r => (∀ c : Dev nD,
      r.2.mem ((c.tc : Thread nD τ).loc main_v21_0) = outY (J c) (wtM m c)
      ∧ r.2.mem ((c.tc : Thread nD τ).loc main_v21_1) = outC (J c)
      ∧ r.2.mem ((c.tc : Thread nD τ).loc main_v21_2) = outN (J c)
      ∧ r.2.mem ((c.tc : Thread nD τ).loc main_v21_3) = outM (J c)
      ∧ r.2.mem ((c.tc : Thread nD τ).loc main_v21_4) = outCv (J c))) :=
  (θ_run defs _ _).mono (fun r h c => ⟨((h c).1 12).trans (arr12 m c (hJ c)), ((h c).1 13).trans (arr13 m c (hJ c)), ((h c).1 14).trans (arr14 m c (hJ c)),
    ((h c).1 15).trans (arr15 m c (hJ c)), ((h c).1 16).trans (arr16 m c (hJ c))⟩) (run_main m ρ)

end Cert.KernelIdeal.Hand

end
-- ==== Proof.Ref.lean ====
/- The reference's results, read off its stages as the recurrence's values. -/
module

public import proofs.«01_k».proof.Proof.Gen.ReferenceIdeal.Read
public import proofs.«01_k».proof.Proof.Proj
public import proofs.«01_k».proof.Proof.Chunk
public import Idealize.ShloMosaic.Lib.Pointwise
public import Idealize.ShloMosaic.Lib.KernelVsHost

@[expose] public section

set_option maxRecDepth 16384

noncomputable section

namespace Cert.Rec

/-- The gates after position `s`, summed. -/
theorem tail_sum (f : ℕ → ℝ) (n s : ℕ) (hs : s < n) : (∑ k : Fin n, if s < k.val then f k.val else 0) = B f n - B f (s + 1) := by
  rw [Fin.sum_univ_eq_sum_range (fun k => if s < k then f k else 0) n]
  obtain ⟨d, rfl⟩ : ∃ d, n = s + 1 + d := ⟨n - (s + 1), by omega⟩
  clear hs
  induction d with
  | zero =>
    rw [Nat.add_zero, sub_self]
    exact Finset.sum_eq_zero fun k hk => if_neg (by have := Finset.mem_range.mp hk; omega)
  | succ d ih =>
    rw [← Nat.add_assoc, Finset.sum_range_succ, ih, if_pos (by omega), B_succ f (s + 1 + d)]; ring

end Cert.Rec

namespace Cert.ReferenceIdeal.Read

open Cert.ReferenceIdeal.Gen
open Idealize.ShloMosaic Idealize.ShloMosaic.TcCoe Idealize.ShloMosaic.Tactic
open Cert.Rec

variable {x0 : (⟨S8x2048x1024, .f32⟩ : BufTy).Contents (Elt Ideal)} {x1 : (⟨S1x1024, .f32⟩ : BufTy).Contents (Elt Ideal)}
  {x2 : (⟨S1x1024x10248, .f32⟩ : BufTy).Contents (Elt Ideal)} {x3 x4 : (⟨S1x4, .f32⟩ : BufTy).Contents (Elt Ideal)}

/-- The arguments are these reals. -/
structure RArgs (I : In) (x0 : (⟨S8x2048x1024, .f32⟩ : BufTy).Contents (Elt Ideal)) (x1 : (⟨S1x1024, .f32⟩ : BufTy).Contents (Elt Ideal))
    (x2 : (⟨S1x1024x10248, .f32⟩ : BufTy).Contents (Elt Ideal)) (x3 x4 : (⟨S1x4, .f32⟩ : BufTy).Contents (Elt Ideal)) : Prop where
  x : ∀ (b : Fin 8) (i : Fin 2048) (k : Fin 1024), x0 (ix3 b i k) = ((I.x b i.val k : ℝ) : EReal)
  nw : ∀ k : Fin 1024, x1 (ix2 0 k) = ((I.nw k : ℝ) : EReal)
  w : ∀ (k : Fin 1024) (j : Fin 10248), x2 (ix3 0 k j) = ((I.w k j.val : ℝ) : EReal)
  bi : ∀ h : Fin 4, x3 (ix2 0 h) = ((I.bi h : ℝ) : EReal)
  bf : ∀ h : Fin 4, x4 (ix2 0 h) = ((I.bf h : ℝ) : EReal)

theorem idx_ext {s : Shape} (f g : s.Idx) (h : ∀ a, (f a).val = (g a).val) : f = g := funext fun a => Fin.ext (h a)

theorem zero_val : (Ideal.ofBits .f32 0#32 : EReal) = 0 := by pointwise

variable {I : In} (hR : RArgs I x0 x1 x2 x3 x4)

theorem r12 (b : Fin 8) (i : Fin 2048) (k : Fin 1024) : val_main_v12 (F := Ideal) x1 (ix3 b i k) = x1 (ix2 0 k) := by
  rw [val_main_v12_apply, val_main_v11_apply, val_main_v0_apply]
  congr 1
  apply idx_ext; intro a
  match a with
  | ⟨0, _⟩ => rfl
  | ⟨1, _⟩ => show k.val % 1024 = k.val; omega
theorem r2 (b : Fin 8) (i : Fin 2048) : val_main_v2 (F := Ideal) x0 (ix2 b i) = ∑ k : Fin 1024, x0 (ix3 b i k) * x0 (ix3 b i k) := by
  rw [val_main_v2_apply]
  refine (congrArg (· + _) zero_val).trans ((zero_add _).trans ?_)
  refine Finset.sum_congr rfl fun k _ => ?_
  have : idx_main_v2 (ix2 b i) k = ix3 b i k := by
    apply idx_ext; intro a
    match a with
    | ⟨0, _⟩ => rfl
    | ⟨1, _⟩ => rfl
    | ⟨2, _⟩ => rfl
  rw [this]; rfl
include hR in
theorem r13 (b : Fin 8) (i : Fin 2048) (k : Fin 1024) : val_main_v13 (F := Ideal) x0 x1 (ix3 b i k) = ((I.xn b i.val k : ℝ) : EReal) := by
  have e : val_main_v13 (F := Ideal) x0 x1 (ix3 b i k)
      = x0 (ix3 b i k) * Ideal.rsqrt (Ideal.div (val_main_v2 (F := Ideal) x0 (ix2 b i)) (Ideal.ofBits .f32 1149239296#32) + Ideal.ofBits .f32 897988541#32) * x1 (ix2 0 k) := by
    rw [val_main_v13_apply, r12, val_main_v10_apply, val_main_v9_apply, val_main_v8_apply, val_main_v7_apply, val_main_v5_apply, val_main_v3_apply, val_main_v4_apply, val_main_v6_apply]
    have : idx_main_v3 (idx_main_v9 (ix3 b i k)) = ix2 b i := by
      apply idx_ext; intro a
      match a with
      | ⟨0, _⟩ => rfl
      | ⟨1, _⟩ => rfl
    rw [this]; rfl
  rw [e, r2]
  simp only [hR.x, hR.nw]
  exact norm_val (fun j => I.x b i.val j) _ _
include hR in
theorem r15 (b : Fin 8) (i : Fin 2048) (j : Fin 10248) : val_main_v15 (F := Ideal) x0 x1 x2 (ix3 b i j) = ((I.p b i.val j.val : ℝ) : EReal) := by
  rw [val_main_v15_apply]
  unfold In.p
  rw [coe_sum]
  refine Finset.sum_congr rfl fun k _ => ?_
  have e1 : lidx_main_v15 (ix3 b i j) k = ix3 b i k := by
    apply idx_ext; intro a
    match a with
    | ⟨0, _⟩ => rfl
    | ⟨1, _⟩ => rfl
    | ⟨2, _⟩ => rfl
  have e2 : idx_main_v14 (ridx_main_v15 (ix3 b i j) k) = ix3 0 k j := by
    apply idx_ext; intro a
    match a with
    | ⟨0, _⟩ => rfl
    | ⟨1, _⟩ => show (k.val * 10248 + j.val) / 10248 % 1024 = k.val; omega
    | ⟨2, _⟩ => show (k.val * 10248 + j.val) % 10248 = j.val; omega
  rw [e1, val_main_v14_apply, e2, r13 hR, hR.w, EReal.coe_mul]
include hR in
theorem r42 (b : Fin 8) (h : Fin 4) (s : Fin 2048) (d : Fin 128) : val_main_v42 (F := Ideal) x0 x1 x2 (ix4 b h s d) = ((I.k b h d s.val : ℝ) : EReal) := by
  rw [val_main_v42_apply, val_main_v31_apply, val_main_v29_apply, val_main_v17_apply, val_main_v30_apply]
  have : idx_main_v17 (idx_main_v29 (idx_main_v42 (ix4 b h s d))) = ix3 b s ⟨512 + 128 * h.val + d.val, by omega⟩ := by
    apply idx_ext; intro a
    match a with
    | ⟨0, _⟩ => show (((b.val * 2048 + s.val) * 4 + h.val) * 128 + d.val) / 1048576 = b.val; omega
    | ⟨1, _⟩ => show (((b.val * 2048 + s.val) * 4 + h.val) * 128 + d.val) / 512 % 2048 = s.val; omega
    | ⟨2, _⟩ => show 512 + (((b.val * 2048 + s.val) * 4 + h.val) * 128 + d.val) % 512 = 512 + 128 * h.val + d.val; omega
  rw [this, r15 hR]
  refine (congrArg (_ * ·) ksc_val).trans ?_
  unfold In.k
  rw [EReal.coe_mul]
include hR in
theorem r43 (b : Fin 8) (h : Fin 4) (s : Fin 2048) (e : Fin 256) : val_main_v43 (F := Ideal) x0 x1 x2 (ix4 b h s e) = ((I.v b h e s.val : ℝ) : EReal) := by
  rw [val_main_v43_apply, val_main_v32_apply, val_main_v18_apply]
  have : idx_main_v18 (idx_main_v32 (idx_main_v43 (ix4 b h s e))) = ix3 b s ⟨1024 + 256 * h.val + e.val, by omega⟩ := by
    apply idx_ext; intro a
    match a with
    | ⟨0, _⟩ => show (((b.val * 2048 + s.val) * 4 + h.val) * 256 + e.val) / 2097152 = b.val; omega
    | ⟨1, _⟩ => show (((b.val * 2048 + s.val) * 4 + h.val) * 256 + e.val) / 1024 % 2048 = s.val; omega
    | ⟨2, _⟩ => show 1024 + (((b.val * 2048 + s.val) * 4 + h.val) * 256 + e.val) % 1024 = 1024 + 256 * h.val + e.val; omega
  rw [this, r15 hR]; rfl
include hR in
theorem r44 (b : Fin 8) (h : Fin 4) (s : Fin 2048) : val_main_v44 (F := Ideal) x0 x1 x2 x3 (ix3 b h s) = ((I.ig b h s.val : ℝ) : EReal) := by
  rw [val_main_v44_apply, val_main_v36_apply, val_main_v19_apply, val_main_v35_apply, val_main_v34_apply, val_main_v33_apply]
  have e1 : idx_main_v19 (idx_main_v44 (ix3 b h s)) = ix3 b s ⟨2048 + h.val, by omega⟩ := by
    apply idx_ext; intro a
    match a with
    | ⟨0, _⟩ => rfl
    | ⟨1, _⟩ => rfl
    | ⟨2, _⟩ => rfl
  have e2 : idx_main_v33 (idx_main_v34 (idx_main_v35 (idx_main_v44 (ix3 b h s)))) = ix2 0 h := by
    apply idx_ext; intro a
    match a with
    | ⟨0, _⟩ => rfl
    | ⟨1, _⟩ => show h.val % 4 = h.val; omega
  rw [e1, e2, r15 hR, hR.bi]
  exact (EReal.coe_add _ _).symm
include hR in
theorem r40 (b : Fin 8) (h : Fin 4) (s : Fin 2048) : val_main_v40 (F := Ideal) x0 x1 x2 x4 (ix3 b s h) = ((I.p b s.val (2052 + h.val) + I.bf h : ℝ) : EReal) := by
  rw [val_main_v40_apply, val_main_v20_apply, val_main_v39_apply, val_main_v38_apply, val_main_v37_apply]
  have e1 : idx_main_v20 (ix3 b s h) = ix3 b s ⟨2052 + h.val, by omega⟩ := by
    apply idx_ext; intro a
    match a with
    | ⟨0, _⟩ => rfl
    | ⟨1, _⟩ => rfl
    | ⟨2, _⟩ => rfl
  have e2 : idx_main_v37 (idx_main_v38 (idx_main_v39 (ix3 b s h))) = ix2 0 h := by
    apply idx_ext; intro a
    match a with
    | ⟨0, _⟩ => rfl
    | ⟨1, _⟩ => show h.val % 4 = h.val; omega
  rw [e1, e2, r15 hR, hR.bf]
  exact (EReal.coe_add _ _).symm
theorem sel_une (x : EReal) (a b : EReal) : Scalar.select (FloatOps.cmpf (F := Ideal) (φ := .f32) .une x x) a b = b := by
  show Scalar.select (BitVec.ofBool (decide (x ≠ x))) a b = b
  rw [show decide (x ≠ x) = false by simp]; rfl
include hR in
theorem r41 (b : Fin 8) (h : Fin 4) (s : Fin 2048) : val_main_v41 (F := Ideal) x0 x1 x2 x4 (ix3 b s h) = ((I.lf b h s.val : ℝ) : EReal) := by
  rw [val_main_v41_apply, val_main_call0_v1_apply, val_main_call0_call0_v4_apply, sel_une, val_main_call0_call0_v11_apply, val_main_call0_call0_v10_apply, val_main_call0_call0_v9_apply,
    val_main_call0_call0_v8_apply, val_main_call0_call0_v7_apply, val_main_call0_call0_v3_apply, val_main_call0_call0_v2_apply, val_main_call0_call0_v1_apply, val_main_call0_call0_v0_apply,
    val_main_call0_v0_apply, r40 hR]
  have z : val_main_call0_call0_cst (F := Ideal) = fun _ => (0 : EReal) := funext fun _ => zero_val
  rw [z]
  exact lsig_val' _
include hR in
theorem r45 (b : Fin 8) (h : Fin 4) (s : Fin 2048) : val_main_v45 (F := Ideal) x0 x1 x2 x4 (ix3 b h s) = ((I.lf b h s.val : ℝ) : EReal) := by
  rw [val_main_v45_apply, ← r41 hR]
  congr 1
  apply idx_ext; intro a
  match a with
  | ⟨0, _⟩ => rfl
  | ⟨1, _⟩ => rfl
  | ⟨2, _⟩ => rfl
include hR in
theorem r54 (b : Fin 8) (h : Fin 4) (s t : Fin 2048) :
    val_main_v54 (F := Ideal) x0 x1 x2 x4 (ix4 b h s t) = ((if s.val < t.val then I.lf b h t.val else 0 : ℝ) : EReal) := by
  rw [val_main_v54_apply, val_main_call1_v1_apply, val_main_v52_apply, val_main_v50_apply, val_main_v51_apply, val_main_v47_apply, val_main_v49_apply, val_main_v46_apply, val_main_v48_apply]
  refine (Cert.KernelIdeal.Hand.sel_slt s.val t.val s.isLt t.isLt _ _).trans ?_
  rw [val_main_call1_v2_apply, val_main_v53_apply]
  have e1 : idx_main_v53 (idx_main_call1_v2 (ix4 b h s t)) = ix3 b h t := by
    apply idx_ext; intro a
    match a with
    | ⟨0, _⟩ => rfl
    | ⟨1, _⟩ => rfl
    | ⟨2, _⟩ => rfl
  rw [e1, r45 hR]
  split_ifs
  · rfl
  · exact zero_val
include hR in
theorem r56 (b : Fin 8) (h : Fin 4) (s : Fin 2048) :
    val_main_v56 (F := Ideal) x0 x1 x2 x3 x4 (ix3 b h s) = ((B (I.lf b h) 2048 - B (I.lf b h) (s.val + 1) + I.ig b h s.val : ℝ) : EReal) := by
  rw [val_main_v56_apply, r44 hR, val_main_v55_apply, ← tail_sum _ _ _ s.isLt]
  have : (∑ k : Fin 2048, val_main_v54 (F := Ideal) x0 x1 x2 x4 (idx_main_v55 (ix3 b h s) k)) = ((∑ k : Fin 2048, if s.val < k.val then I.lf b h k.val else 0 : ℝ) : EReal) := by
    rw [coe_sum]
    refine Finset.sum_congr rfl fun k _ => ?_
    rw [← r54 hR]
    congr 1
    apply idx_ext; intro a
    match a with
    | ⟨0, _⟩ => rfl
    | ⟨1, _⟩ => rfl
    | ⟨2, _⟩ => rfl
    | ⟨3, _⟩ => rfl
  rw [this, EReal.coe_add]
  exact congrArg (· + _) ((congrArg (· + _) zero_val).trans (zero_add _))
include hR in
theorem r57 (b : Fin 8) (h : Fin 4) : val_main_v57 (F := Ideal) x0 x1 x2 x4 (ix2 b h) = ((B (I.lf b h) 2048 : ℝ) : EReal) := by
  rw [val_main_v57_apply]
  refine (congrArg (· + _) zero_val).trans ((zero_add _).trans ?_)
  unfold B
  rw [← Fin.sum_univ_eq_sum_range, coe_sum]
  refine Finset.sum_congr rfl fun k _ => ?_
  rw [← r45 hR]
  congr 1
  apply idx_ext; intro a
  match a with
  | ⟨0, _⟩ => rfl
  | ⟨1, _⟩ => rfl
  | ⟨2, _⟩ => rfl
theorem red_S8x4x2048 : S8x4x2048.Reduces [2] S8x4 := by decide
theorem r58 (b : Fin 8) (h : Fin 4) :
    val_main_v58 (F := Ideal) x0 x1 x2 x3 x4 (ix2 b h) = Finset.univ.fold max ⊥ (fun s : Fin 2048 => val_main_v56 (F := Ideal) x0 x1 x2 x3 x4 (ix3 b h s)) := by
  unfold val_main_v58 val_main_cst_6
  generalize val_main_v56 (F := Ideal) x0 x1 x2 x3 x4 = y
  refine (congrFun (hostReduce_maximumf_eq_multiReduction (F := Ideal) (s := S8x4x2048) (t := S8x4) (u := S_) (φ := .f32) y 0xFF800000#32 reducesTo_S8x4x2048_S8x4_d2 h_S_ red_S8x4x2048 (Or.inl rfl) rfl) _).trans ?_
  pointwise
  rw [show (Ideal.ofBits .f32 4286578688#32 : EReal) = ⊥ by simp [Ideal.ofBits, Ideal.ieee]]
include hR in
theorem r59 (b : Fin 8) (h : Fin 4) : val_main_v59 (F := Ideal) x0 x1 x2 x3 x4 (ix2 b h) = ((M (I.lf b h) (I.ig b h) 2048 : ℝ) : EReal) := by
  rw [val_main_v59_apply, r57 hR, r58]
  have := max_end (I.lf b h) (I.ig b h) 0 2048 (by decide) (B (I.lf b h) 2048) (by simp [B]) (fun s : Fin 2048 => val_main_v56 (F := Ideal) x0 x1 x2 x3 x4 (ix3 b h s))
    (fun s => by rw [r56 hR]; simp [B])
  rw [show M (I.lf b h) (I.ig b h) 0 = 0 from rfl, add_zero, Nat.zero_add] at this
  exact this
include hR in
theorem r63 (b : Fin 8) (h : Fin 4) (s : Fin 2048) : val_main_v63 (F := Ideal) x0 x1 x2 x3 x4 (ix3 b h s) = ((W (I.lf b h) (I.ig b h) 2048 s.val : ℝ) : EReal) := by
  rw [val_main_v63_apply, val_main_v62_apply, r56 hR, val_main_v61_apply, val_main_v60_apply]
  have e1 : idx_main_v60 (idx_main_v61 (ix3 b h s)) = ix2 b h := by
    apply idx_ext; intro a
    match a with
    | ⟨0, _⟩ => rfl
    | ⟨1, _⟩ => rfl
  rw [e1, r59 hR]
  exact (congrArg Ideal.exp (EReal.coe_sub _ _).symm).trans (exp_coe _)
include hR in
/-- The memory at the end of a sequence. -/
theorem r69 (b : Fin 8) (h : Fin 4) (e : Fin 256) (d : Fin 128) : val_main_v69 (F := Ideal) x0 x1 x2 x3 x4 (ix5 0 b h e d)
    = ((S (I.lf b h) (I.ig b h) (fun i => I.k b h d i * I.v b h e i) 2048 : ℝ) : EReal) := by
  rw [val_main_v69_apply, val_main_v67_apply]
  unfold S
  rw [← Fin.sum_univ_eq_sum_range (fun s => W (I.lf b h) (I.ig b h) 2048 s * (I.k b h d s * I.v b h e s)), coe_sum]
  refine Finset.sum_congr rfl fun s _ => ?_
  have e1 : lidx_main_v67 (idx_main_v69 (ix5 0 b h e d)) s = ix4 b h s e := by
    apply idx_ext; intro a
    match a with
    | ⟨0, _⟩ => rfl
    | ⟨1, _⟩ => rfl
    | ⟨2, _⟩ => rfl
    | ⟨3, _⟩ => rfl
  have e2 : ridx_main_v67 (idx_main_v69 (ix5 0 b h e d)) s = ix4 b h s d := by
    apply idx_ext; intro a
    match a with
    | ⟨0, _⟩ => rfl
    | ⟨1, _⟩ => rfl
    | ⟨2, _⟩ => rfl
    | ⟨3, _⟩ => rfl
  have e3 : idx_main_v64 (idx_main_v65 (ix4 b h s e)) = ix3 b h s := by
    apply idx_ext; intro a
    match a with
    | ⟨0, _⟩ => rfl
    | ⟨1, _⟩ => rfl
    | ⟨2, _⟩ => rfl
  rw [e1, e2, r42 hR, val_main_v66_apply, r43 hR, val_main_v65_apply, val_main_v64_apply, e3, r63 hR]
  refine (congrArg (· * _) (EReal.coe_mul _ _).symm).trans ?_
  rw [← EReal.coe_mul]
  congr 1; ring
include hR in
/-- The normalizer at the end of a sequence. -/
theorem r70 (b : Fin 8) (h : Fin 4) (d : Fin 128) : val_main_v70 (F := Ideal) x0 x1 x2 x3 x4 (ix4 0 b h d)
    = ((S (I.lf b h) (I.ig b h) (I.k b h d) 2048 : ℝ) : EReal) := by
  rw [val_main_v70_apply, val_main_v68_apply]
  unfold S
  rw [← Fin.sum_univ_eq_sum_range (fun s => W (I.lf b h) (I.ig b h) 2048 s * I.k b h d s), coe_sum]
  refine Finset.sum_congr rfl fun s _ => ?_
  have e1 : lidx_main_v68 (idx_main_v70 (ix4 0 b h d)) s = ix3 b h s := by
    apply idx_ext; intro a
    match a with
    | ⟨0, _⟩ => rfl
    | ⟨1, _⟩ => rfl
    | ⟨2, _⟩ => rfl
  have e2 : ridx_main_v68 (idx_main_v70 (ix4 0 b h d)) s = ix4 b h s d := by
    apply idx_ext; intro a
    match a with
    | ⟨0, _⟩ => rfl
    | ⟨1, _⟩ => rfl
    | ⟨2, _⟩ => rfl
    | ⟨3, _⟩ => rfl
  rw [e1, e2, r42 hR, r63 hR, EReal.coe_mul]
include hR in
/-- The stabilizer at the end of a sequence. -/
theorem r72 (b : Fin 8) (h : Fin 4) : val_main_v72 (F := Ideal) x0 x1 x2 x3 x4 (ix3 0 h b)
    = ((M (I.lf b h) (I.ig b h) 2048 : ℝ) : EReal) := by
  rw [val_main_v72_apply, val_main_v71_apply, ← r59 hR]
  congr 1
  apply idx_ext; intro a
  match a with
  | ⟨0, _⟩ => rfl
  | ⟨1, _⟩ => rfl

end Cert.ReferenceIdeal.Read

end
-- ==== Proof.RefY.lean ====
/- The reference's layer output and convolution rows, read off its stages as the layer's formula. -/
module

public import proofs.«01_k».proof.Proof.Ref
public import proofs.«01_k».proof.Proof.Mix

@[expose] public section

set_option maxRecDepth 16384

noncomputable section

namespace Cert.Rec

open Idealize.ShloMosaic

/-- The gates up to position `t`, summed. -/
theorem head_sum (f : ℕ → ℝ) (n t : ℕ) (ht : t < n) : (∑ k : Fin n, if k.val ≤ t then f k.val else 0) = B f (t + 1) := by
  rw [Fin.sum_univ_eq_sum_range (fun k => if k ≤ t then f k else 0) n]
  obtain ⟨d, rfl⟩ : ∃ d, n = t + 1 + d := ⟨n - (t + 1), by omega⟩
  clear ht
  induction d with
  | zero => exact Finset.sum_congr rfl fun k hk => if_pos (by have := Finset.mem_range.mp hk; omega)
  | succ d ih => rw [← Nat.add_assoc, Finset.sum_range_succ, ih, if_neg (by omega), add_zero]

theorem one_val : Ideal.ofBits .f32 1065353216#32 = ((1 : ℝ) : EReal) := by
  have : ((8388608 : ℝ) : EReal) * (((2 ^ 23)⁻¹ : ℝ) : EReal) = ((1 : ℝ) : EReal) := by rw [← EReal.coe_mul]; norm_num
  simp only [Ideal.ofBits, Ideal.ieee]
  simp
  simpa using this

/-- The sigmoid as the reference computes it. -/
theorem sg_div (x : ℝ) : Ideal.div (Ideal.ofBits .f32 1065353216#32) (Ideal.ofBits .f32 1065353216#32 + Ideal.exp (-(x : EReal))) = (sg x : EReal) := by
  have hp := Real.exp_pos (-x)
  rw [one_val, ← EReal.coe_neg, exp_coe, ← EReal.coe_add, Ideal.div_coe (by positivity), ← EReal.coe_mul]
  congr 1
  unfold sg
  rw [one_mul, one_div]

theorem sel_sle {α : Type} (r x : ℕ) (hr : r < 2048) (hx : x < 2048) (a b : α) :
    Scalar.select (IntOp.cmpi CmpIPredicate.sle (BitVec.ofNat 32 r) (BitVec.ofNat 32 x)) a b = if r ≤ x then a else b := by
  have h1 : (BitVec.ofNat 32 r).toInt = r := by
    have e : (BitVec.ofNat 32 r).toNat = r := by rw [BitVec.toNat_ofNat]; exact Nat.mod_eq_of_lt (by omega)
    rw [BitVec.toInt_eq_toNat_of_lt (by rw [e]; omega), e]
  have h2 : (BitVec.ofNat 32 x).toInt = x := by
    have e : (BitVec.ofNat 32 x).toNat = x := by rw [BitVec.toNat_ofNat]; exact Nat.mod_eq_of_lt (by omega)
    rw [BitVec.toInt_eq_toNat_of_lt (by rw [e]; omega), e]
  unfold Scalar.select
  rw [show IntOp.cmpi CmpIPredicate.sle (BitVec.ofNat 32 r) (BitVec.ofNat 32 x) = BitVec.ofBool (decide ((BitVec.ofNat 32 r).toInt ≤ (BitVec.ofNat 32 x).toInt)) from rfl, h1, h2]
  by_cases h : r ≤ x
  · rw [if_pos h, if_pos]; simp [h]
  · rw [if_neg h, decide_eq_false (by exact_mod_cast h)]; rfl

end Cert.Rec

namespace Cert.ReferenceIdeal.Read

open Cert.ReferenceIdeal.Gen
open Idealize.ShloMosaic Idealize.ShloMosaic.TcCoe Idealize.ShloMosaic.Tactic
open Cert.Rec

variable {x0 : (⟨S8x2048x1024, .f32⟩ : BufTy).Contents (Elt Ideal)} {x1 : (⟨S1x1024, .f32⟩ : BufTy).Contents (Elt Ideal)}
  {x2 : (⟨S1x1024x10248, .f32⟩ : BufTy).Contents (Elt Ideal)} {x3 x4 : (⟨S1x4, .f32⟩ : BufTy).Contents (Elt Ideal)}
  {x5 : (⟨S1x1024, .f32⟩ : BufTy).Contents (Elt Ideal)} {x6 : (⟨S1x3x1024, .f32⟩ : BufTy).Contents (Elt Ideal)}
  {x7 x8 x9 : (⟨S1x1024x1024, .f32⟩ : BufTy).Contents (Elt Ideal)} {x10 : (⟨S1024, .f32⟩ : BufTy).Contents (Elt Ideal)}

/-- The weights that need not be finite. -/
def wtR (x5 : (⟨S1x1024, .f32⟩ : BufTy).Contents (Elt Ideal)) (x6 : (⟨S1x3x1024, .f32⟩ : BufTy).Contents (Elt Ideal))
    (x7 x8 x9 : (⟨S1x1024x1024, .f32⟩ : BufTy).Contents (Elt Ideal)) (x10 : (⟨S1024, .f32⟩ : BufTy).Contents (Elt Ideal)) : Wt where
  hnw k := x5 (ix2 0 k)
  cw k j := x6 (ix3 0 k j)
  wpm k j := x7 (ix3 0 k j)
  wpc k j := x8 (ix3 0 k j)
  wo k j := x9 (ix3 0 k j)
  fnw k := x10 (ix1 k)

variable {I : In} (hR : RArgs I x0 x1 x2 x3 x4)
include hR

theorem r21 (b : Fin 8) (i : Fin 2048) (j : Fin 1024) : val_main_v21 (F := Ideal) x0 x1 x2 (ix3 b i j) = I.pe b i.val (2056 + j.val) := by
  rw [val_main_v21_apply]
  have this : idx_main_v21 (ix3 b i j) = ix3 b i ⟨2056 + j.val, by omega⟩ := by
    apply idx_ext; intro a
    match a with
    | ⟨0, _⟩ => rfl
    | ⟨1, _⟩ => rfl
    | ⟨2, _⟩ => rfl
  rw [this, r15 hR]; rfl
theorem r22 (b : Fin 8) (i : Fin 2048) (j : Fin 1024) : val_main_v22 (F := Ideal) x0 x1 x2 (ix3 b i j) = I.pe b i.val (3080 + j.val) := by
  rw [val_main_v22_apply]
  have this : idx_main_v22 (ix3 b i j) = ix3 b i ⟨3080 + j.val, by omega⟩ := by
    apply idx_ext; intro a
    match a with
    | ⟨0, _⟩ => rfl
    | ⟨1, _⟩ => rfl
    | ⟨2, _⟩ => rfl
  rw [this, r15 hR]; rfl
theorem r23 (b : Fin 8) (i : Fin 2048) (j : Fin 1024) : val_main_v23 (F := Ideal) x0 x1 x2 (ix3 b i j) = I.pe b i.val (4104 + j.val) := by
  rw [val_main_v23_apply]
  have this : idx_main_v23 (ix3 b i j) = ix3 b i ⟨4104 + j.val, by omega⟩ := by
    apply idx_ext; intro a
    match a with
    | ⟨0, _⟩ => rfl
    | ⟨1, _⟩ => rfl
    | ⟨2, _⟩ => rfl
  rw [this, r15 hR]; rfl
theorem r24 (b : Fin 8) (i : Fin 2048) (j : Fin 1024) : val_main_v24 (F := Ideal) x0 x1 x2 (ix3 b i j) = I.pe b i.val (5128 + j.val) := by
  rw [val_main_v24_apply]
  have this : idx_main_v24 (ix3 b i j) = ix3 b i ⟨5128 + j.val, by omega⟩ := by
    apply idx_ext; intro a
    match a with
    | ⟨0, _⟩ => rfl
    | ⟨1, _⟩ => rfl
    | ⟨2, _⟩ => rfl
  rw [this, r15 hR]; rfl
theorem r25 (b : Fin 8) (i : Fin 2048) (j : Fin 1024) : val_main_v25 (F := Ideal) x0 x1 x2 (ix3 b i j) = I.pe b i.val (6152 + j.val) := by
  rw [val_main_v25_apply]
  have this : idx_main_v25 (ix3 b i j) = ix3 b i ⟨6152 + j.val, by omega⟩ := by
    apply idx_ext; intro a
    match a with
    | ⟨0, _⟩ => rfl
    | ⟨1, _⟩ => rfl
    | ⟨2, _⟩ => rfl
  rw [this, r15 hR]; rfl
theorem r26 (b : Fin 8) (i : Fin 2048) (j : Fin 1024) : val_main_v26 (F := Ideal) x0 x1 x2 (ix3 b i j) = I.pe b i.val (7176 + j.val) := by
  rw [val_main_v26_apply]
  have this : idx_main_v26 (ix3 b i j) = ix3 b i ⟨7176 + j.val, by omega⟩ := by
    apply idx_ext; intro a
    match a with
    | ⟨0, _⟩ => rfl
    | ⟨1, _⟩ => rfl
    | ⟨2, _⟩ => rfl
  rw [this, r15 hR]; rfl
theorem r27 (b : Fin 8) (i : Fin 2048) (j : Fin 1024) : val_main_v27 (F := Ideal) x0 x1 x2 (ix3 b i j) = I.pe b i.val (8200 + j.val) := by
  rw [val_main_v27_apply]
  have this : idx_main_v27 (ix3 b i j) = ix3 b i ⟨8200 + j.val, by omega⟩ := by
    apply idx_ext; intro a
    match a with
    | ⟨0, _⟩ => rfl
    | ⟨1, _⟩ => rfl
    | ⟨2, _⟩ => rfl
  rw [this, r15 hR]; rfl
theorem r28 (b : Fin 8) (i : Fin 2048) (j : Fin 1024) : val_main_v28 (F := Ideal) x0 x1 x2 (ix3 b i j) = I.pe b i.val (9224 + j.val) := by
  rw [val_main_v28_apply]
  have this : idx_main_v28 (ix3 b i j) = ix3 b i ⟨9224 + j.val, by omega⟩ := by
    apply idx_ext; intro a
    match a with
    | ⟨0, _⟩ => rfl
    | ⟨1, _⟩ => rfl
    | ⟨2, _⟩ => rfl
  rw [this, r15 hR]; rfl
theorem r74 (b : Fin 8) (h : Fin 4) (i : Fin 2048) (d : Fin 128) : val_main_v74 (F := Ideal) x0 x1 x2 (ix4 b h i d) = ((I.q b h i.val d : ℝ) : EReal) := by
  rw [val_main_v74_apply, val_main_v73_apply, val_main_v16_apply]
  have this : idx_main_v16 (idx_main_v73 (idx_main_v74 (ix4 b h i d))) = ix3 b i ⟨128 * h.val + d.val, by omega⟩ := by
    apply idx_ext; intro a
    match a with
    | ⟨0, _⟩ => show (((b.val * 2048 + i.val) * 4 + h.val) * 128 + d.val) / 1048576 = b.val; omega
    | ⟨1, _⟩ => show (((b.val * 2048 + i.val) * 4 + h.val) * 128 + d.val) / 512 % 2048 = i.val; omega
    | ⟨2, _⟩ => show (((b.val * 2048 + i.val) * 4 + h.val) * 128 + d.val) % 512 = 128 * h.val + d.val; omega
  rw [this, r15 hR]; rfl
theorem r75 (b : Fin 8) (h : Fin 4) (s : Fin 2048) (d : Fin 128) : val_main_v75 (F := Ideal) x0 x1 x2 (ix4 b h s d) = ((I.k b h d s.val : ℝ) : EReal) := by
  rw [val_main_v75_apply, ← r42 hR, val_main_v42_apply]
theorem r76 (b : Fin 8) (h : Fin 4) (s : Fin 2048) (e : Fin 256) : val_main_v76 (F := Ideal) x0 x1 x2 (ix4 b h s e) = ((I.v b h e s.val : ℝ) : EReal) := by
  rw [val_main_v76_apply, ← r43 hR, val_main_v43_apply]
theorem r77 (b : Fin 8) (h : Fin 4) (s : Fin 2048) : val_main_v77 (F := Ideal) x0 x1 x2 x3 (ix3 b h s) = ((I.ig b h s.val : ℝ) : EReal) := by
  rw [val_main_v77_apply, ← r44 hR, val_main_v44_apply]
theorem r78 (b : Fin 8) (h : Fin 4) (s : Fin 2048) : val_main_v78 (F := Ideal) x0 x1 x2 x4 (ix3 b h s) = ((I.lf b h s.val : ℝ) : EReal) := by
  rw [val_main_v78_apply, ← r45 hR, val_main_v45_apply]
theorem r87 (b : Fin 8) (h : Fin 4) (t s : Fin 2048) :
    val_main_v87 (F := Ideal) x0 x1 x2 x4 (ix4 b h t s) = ((if s.val ≤ t.val then I.lf b h s.val else 0 : ℝ) : EReal) := by
  rw [val_main_v87_apply, val_main_call2_v1_apply, val_main_v85_apply, val_main_v83_apply, val_main_v84_apply, val_main_v80_apply, val_main_v82_apply, val_main_v79_apply, val_main_v81_apply]
  refine (sel_sle s.val t.val s.isLt t.isLt _ _).trans ?_
  rw [val_main_call2_v2_apply, val_main_v86_apply]
  have this : idx_main_v86 (idx_main_call2_v2 (ix4 b h t s)) = ix3 b h s := by
    apply idx_ext; intro a
    match a with
    | ⟨0, _⟩ => rfl
    | ⟨1, _⟩ => rfl
    | ⟨2, _⟩ => rfl
  rw [this, r78 hR]
  split_ifs
  · rfl
  · exact zero_val
theorem r88 (b : Fin 8) (h : Fin 4) (t : Fin 2048) : val_main_v88 (F := Ideal) x0 x1 x2 x4 (ix3 b h t) = ((B (I.lf b h) (t.val + 1) : ℝ) : EReal) := by
  rw [val_main_v88_apply]
  refine (congrArg (· + _) zero_val).trans ((zero_add _).trans ?_)
  rw [← head_sum _ 2048 t.val t.isLt, coe_sum]
  refine Finset.sum_congr rfl fun k _ => ?_
  rw [← r87 hR]
  congr 1
  apply idx_ext; intro a
  match a with
  | ⟨0, _⟩ => rfl
  | ⟨1, _⟩ => rfl
  | ⟨2, _⟩ => rfl
  | ⟨3, _⟩ => rfl
theorem r96 (b : Fin 8) (h : Fin 4) (t s : Fin 2048) :
    val_main_v96 (F := Ideal) x0 x1 x2 x3 x4 (ix4 b h t s) = ((B (I.lf b h) (t.val + 1) - B (I.lf b h) (s.val + 1) + I.ig b h s.val : ℝ) : EReal) := by
  rw [val_main_v96_apply, val_main_v93_apply, val_main_v91_apply, val_main_v89_apply, val_main_v92_apply, val_main_v90_apply, val_main_v95_apply, val_main_v94_apply]
  have e1 : idx_main_v89 (idx_main_v91 (ix4 b h t s)) = ix3 b h t := by
    apply idx_ext; intro a
    match a with
    | ⟨0, _⟩ => rfl
    | ⟨1, _⟩ => rfl
    | ⟨2, _⟩ => rfl
  have e2 : idx_main_v90 (idx_main_v92 (ix4 b h t s)) = ix3 b h s := by
    apply idx_ext; intro a
    match a with
    | ⟨0, _⟩ => rfl
    | ⟨1, _⟩ => rfl
    | ⟨2, _⟩ => rfl
  have e3 : idx_main_v94 (idx_main_v95 (ix4 b h t s)) = ix3 b h s := by
    apply idx_ext; intro a
    match a with
    | ⟨0, _⟩ => rfl
    | ⟨1, _⟩ => rfl
    | ⟨2, _⟩ => rfl
  rw [e1, e2, e3, r88 hR, r88 hR, r77 hR, EReal.coe_add, EReal.coe_sub]; rfl
theorem r97 (b : Fin 8) (h : Fin 4) (t s : Fin 2048) :
    val_main_v97 (F := Ideal) x0 x1 x2 x3 x4 (ix4 b h t s) = if s.val ≤ t.val then ((B (I.lf b h) (t.val + 1) - B (I.lf b h) (s.val + 1) + I.ig b h s.val : ℝ) : EReal) else ⊥ := by
  rw [val_main_v97_apply, val_main_call3_v1_apply, val_main_v85_apply, val_main_v83_apply, val_main_v84_apply, val_main_v80_apply, val_main_v82_apply, val_main_v79_apply, val_main_v81_apply]
  refine (sel_sle s.val t.val s.isLt t.isLt _ _).trans ?_
  rw [r96 hR]
  split_ifs
  · rfl
  · exact Cert.KernelIdeal.Hand.ofBits_bot
omit hR in
theorem red_S8x4x2048x2048 : S8x4x2048x2048.Reduces [3] S8x4x2048 := by decide
omit hR in
theorem r98 (b : Fin 8) (h : Fin 4) (t : Fin 2048) :
    val_main_v98 (F := Ideal) x0 x1 x2 x3 x4 (ix3 b h t) = Finset.univ.fold max ⊥ (fun s : Fin 2048 => val_main_v97 (F := Ideal) x0 x1 x2 x3 x4 (ix4 b h t s)) := by
  unfold val_main_v98 val_main_cst_10
  generalize val_main_v97 (F := Ideal) x0 x1 x2 x3 x4 = y
  refine (congrFun (hostReduce_maximumf_eq_multiReduction (F := Ideal) (s := S8x4x2048x2048) (t := S8x4x2048) (u := S_) (φ := .f32) y 0xFF800000#32 reducesTo_S8x4x2048x2048_S8x4x2048_d3 h_S_ red_S8x4x2048x2048 (Or.inl rfl) rfl) _).trans ?_
  pointwise
  rw [show (Ideal.ofBits .f32 4286578688#32 : EReal) = ⊥ by simp [Ideal.ofBits, Ideal.ieee]]
theorem hp97 (b : Fin 8) (h : Fin 4) (t s : Fin 2048) :
    val_main_v97 (F := Ideal) x0 x1 x2 x3 x4 (ix4 b h t s) = if s.val ≤ t.val then ((B (I.lf b h) (t.val + 1) - (B (I.lf b h) (0 + s.val + 1) - B (I.lf b h) 0) + I.ig b h (0 + s.val) : ℝ) : EReal) else ⊥ := by
  rw [r97 hR, show B (I.lf b h) 0 = 0 by simp [B], sub_zero, Nat.zero_add]
omit hR in
theorem hb0 (f : ℕ → ℝ) (t : ℕ) : B f (t + 1) = B f (0 + t + 1) - B f 0 := by
  rw [show B f 0 = 0 by simp [B], sub_zero, Nat.zero_add]
theorem r99 (b : Fin 8) (h : Fin 4) (t : Fin 2048) : val_main_v99 (F := Ideal) x0 x1 x2 x3 x4 (ix3 b h t) = ((M (I.lf b h) (I.ig b h) (t.val + 1) : ℝ) : EReal) := by
  rw [val_main_v99_apply, r88 hR, r98]
  have := max_row (I.lf b h) (I.ig b h) 0 2048 t.val t.isLt (B (I.lf b h) (t.val + 1)) (hb0 _ _) (fun s : Fin 2048 => val_main_v97 (F := Ideal) x0 x1 x2 x3 x4 (ix4 b h t s))
    (fun s => hp97 hR b h t s)
  rw [show M (I.lf b h) (I.ig b h) 0 = 0 from rfl, add_zero, Nat.zero_add] at this
  exact this
theorem r100 (b : Fin 8) (h : Fin 4) (t s : Fin 2048) : val_main_v100 (F := Ideal) x0 x1 x2 (ix4 b h t s) = ((∑ d, I.q b h t.val d * I.k b h d s.val : ℝ) : EReal) := by
  rw [val_main_v100_apply, coe_sum]
  refine Finset.sum_congr rfl fun d _ => ?_
  have e1 : lidx_main_v100 (ix4 b h t s) d = ix4 b h t d := by
    apply idx_ext; intro a
    match a with
    | ⟨0, _⟩ => rfl
    | ⟨1, _⟩ => rfl
    | ⟨2, _⟩ => rfl
    | ⟨3, _⟩ => rfl
  have e2 : ridx_main_v100 (ix4 b h t s) d = ix4 b h s d := by
    apply idx_ext; intro a
    match a with
    | ⟨0, _⟩ => rfl
    | ⟨1, _⟩ => rfl
    | ⟨2, _⟩ => rfl
    | ⟨3, _⟩ => rfl
  rw [e1, e2, r74 hR, r75 hR, EReal.coe_mul]
theorem r105 (b : Fin 8) (h : Fin 4) (t s : Fin 2048) : val_main_v105 (F := Ideal) x0 x1 x2 x3 x4 (ix4 b h t s)
    = ((∑ d, I.q b h t.val d * I.k b h d s.val : ℝ) : EReal) * Ideal.exp (val_main_v97 (F := Ideal) x0 x1 x2 x3 x4 (ix4 b h t s) - ((M (I.lf b h) (I.ig b h) (t.val + 1) : ℝ) : EReal)) := by
  rw [val_main_v105_apply, r100 hR, val_main_v104_apply, val_main_v103_apply, val_main_v102_apply, val_main_v101_apply]
  have this : idx_main_v101 (idx_main_v102 (ix4 b h t s)) = ix3 b h t := by
    apply idx_ext; intro a
    match a with
    | ⟨0, _⟩ => rfl
    | ⟨1, _⟩ => rfl
    | ⟨2, _⟩ => rfl
  rw [this, r99 hR]; rfl
theorem e105 (b : Fin 8) (h : Fin 4) (t : Fin 2048) (u : ℕ → ℝ) :
    ∑ s : Fin 2048, val_main_v105 (F := Ideal) x0 x1 x2 x3 x4 (ix4 b h t s) * ((u s.val : ℝ) : EReal)
      = ((S (I.lf b h) (I.ig b h) (fun s => (∑ d, I.q b h t.val d * I.k b h d s) * u s) (t.val + 1) : ℝ) : EReal) := by
  have := row_sum (I.lf b h) (I.ig b h) 0 2048 t.val t.isLt (fun s : Fin 2048 => val_main_v97 (F := Ideal) x0 x1 x2 x3 x4 (ix4 b h t s)) (fun s => (∑ d, I.q b h t.val d * I.k b h d s) * u s) _ (hb0 _ _)
    (fun s => hp97 hR b h t s)
  simp only [Nat.zero_add] at this
  unfold S
  refine Eq.trans (Finset.sum_congr rfl fun s _ => ?_) this
  rw [r105 hR, EReal.coe_mul, mul_right_comm, mul_comm]
theorem r106 (b : Fin 8) (h : Fin 4) (t : Fin 2048) (e : Fin 256) : val_main_v106 (F := Ideal) x0 x1 x2 x3 x4 (ix4 b h t e)
    = ((S (I.lf b h) (I.ig b h) (fun s => (∑ d, I.q b h t.val d * I.k b h d s) * I.v b h e s) (t.val + 1) : ℝ) : EReal) := by
  rw [val_main_v106_apply, ← e105 hR]
  refine Finset.sum_congr rfl fun s _ => ?_
  have e1 : lidx_main_v106 (ix4 b h t e) s = ix4 b h t s := by
    apply idx_ext; intro a
    match a with
    | ⟨0, _⟩ => rfl
    | ⟨1, _⟩ => rfl
    | ⟨2, _⟩ => rfl
    | ⟨3, _⟩ => rfl
  have e2 : ridx_main_v106 (ix4 b h t e) s = ix4 b h s e := by
    apply idx_ext; intro a
    match a with
    | ⟨0, _⟩ => rfl
    | ⟨1, _⟩ => rfl
    | ⟨2, _⟩ => rfl
    | ⟨3, _⟩ => rfl
  rw [e1, e2, r76 hR]
theorem r107 (b : Fin 8) (h : Fin 4) (t : Fin 2048) : val_main_v107 (F := Ideal) x0 x1 x2 x3 x4 (ix3 b h t)
    = ((S (I.lf b h) (I.ig b h) (fun s => ∑ d, I.q b h t.val d * I.k b h d s) (t.val + 1) : ℝ) : EReal) := by
  rw [val_main_v107_apply]
  refine (congrArg (· + _) zero_val).trans ((zero_add _).trans ?_)
  have := e105 hR b h t (fun _ => 1)
  simp only [EReal.coe_one, mul_one] at this
  rw [← this]
  refine Finset.sum_congr rfl fun s _ => ?_
  have this : idx_main_v107 (ix3 b h t) s = ix4 b h t s := by
    apply idx_ext; intro a
    match a with
    | ⟨0, _⟩ => rfl
    | ⟨1, _⟩ => rfl
    | ⟨2, _⟩ => rfl
    | ⟨3, _⟩ => rfl
  rw [this]
theorem r114 (b : Fin 8) (h : Fin 4) (t : Fin 2048) (e : Fin 256) : val_main_v114 (F := Ideal) x0 x1 x2 x3 x4 (ix4 b h t e) = I.h b t.val h e := by
  rw [val_main_v114_apply, r106 hR, val_main_v113_apply, val_main_v112_apply, val_main_v111_apply, val_main_v108_apply, val_main_v110_apply, val_main_v109_apply]
  have this : idx_main_v112 (idx_main_v113 (ix4 b h t e)) = ix3 b h t := by
    apply idx_ext; intro a
    match a with
    | ⟨0, _⟩ => rfl
    | ⟨1, _⟩ => rfl
    | ⟨2, _⟩ => rfl
  rw [this, r107 hR, r99 hR]
  unfold In.h Cert.KernelIdeal.Hand.hR
  rw [zero_sub]
  rfl
theorem r115 (b : Fin 8) (t : Fin 2048) (h : Fin 4) (e : Fin 256) : val_main_v115 (F := Ideal) x0 x1 x2 x3 x4 (ix4 b t h e) = I.h b t.val h e := by
  rw [val_main_v115_apply]
  have this : idx_main_v115 (ix4 b t h e) = ix4 b h t e := by
    apply idx_ext; intro a
    match a with
    | ⟨0, _⟩ => rfl
    | ⟨1, _⟩ => rfl
    | ⟨2, _⟩ => rfl
    | ⟨3, _⟩ => rfl
  rw [this, r114 hR]
theorem r117 (b : Fin 8) (t : Fin 2048) (h : Fin 4) : val_main_v117 (F := Ideal) x0 x1 x2 x3 x4 (ix3 b t h) = ∑ x, I.h b t.val h x * I.h b t.val h x := by
  rw [val_main_v117_apply]
  refine (congrArg (· + _) zero_val).trans ((zero_add _).trans ?_)
  refine Finset.sum_congr rfl fun x _ => ?_
  have this : idx_main_v117 (ix3 b t h) x = ix4 b t h x := by
    apply idx_ext; intro a
    match a with
    | ⟨0, _⟩ => rfl
    | ⟨1, _⟩ => rfl
    | ⟨2, _⟩ => rfl
    | ⟨3, _⟩ => rfl
  rw [this, val_main_v116_apply, r115 hR]; rfl
theorem r125 (b : Fin 8) (t : Fin 2048) (h : Fin 4) (e : Fin 256) : val_main_v125 (F := Ideal) x0 x1 x2 x3 x4 (ix4 b t h e) = I.hn b t.val h e := by
  rw [val_main_v125_apply, r115 hR, val_main_v124_apply, val_main_v123_apply, val_main_v122_apply, val_main_v120_apply, val_main_v118_apply, val_main_v119_apply, val_main_v121_apply]
  have this : idx_main_v118 (idx_main_v124 (ix4 b t h e)) = ix3 b t h := by
    apply idx_ext; intro a
    match a with
    | ⟨0, _⟩ => rfl
    | ⟨1, _⟩ => rfl
    | ⟨2, _⟩ => rfl
  rw [this, r117 hR]; rfl
omit hR in
theorem r129 (b : Fin 8) (t : Fin 2048) (j : Fin 1024) : val_main_v129 (F := Ideal) x5 (ix3 b t j) = x5 (ix2 0 j) := by
  rw [val_main_v129_apply, val_main_v128_apply, val_main_v127_apply]
  congr 1
  apply idx_ext; intro a
  match a with
  | ⟨0, _⟩ => rfl
  | ⟨1, _⟩ => show j.val % 1024 = j.val; omega
theorem r136 (b : Fin 8) (t : Fin 2048) (j : Fin 1024) : val_main_v136 (F := Ideal) x0 x1 x2 (ix3 b t j) = I.sgp b t.val (2056 + j.val) := by
  rw [val_main_v136_apply, val_main_v135_apply, val_main_v134_apply, val_main_v133_apply, val_main_v132_apply, val_main_v131_apply, r21 hR]
  exact sg_div _
theorem rc4 (b : Fin 8) (t : Fin 2048) (j : Fin 1024) : val_main_call4_v5 (F := Ideal) x0 x1 x2 (ix3 b t j) = I.sgp b t.val (3080 + j.val) := by
  rw [val_main_call4_v5_apply, val_main_call4_v4_apply, val_main_call4_v3_apply, val_main_call4_v2_apply, val_main_call4_v1_apply, val_main_call4_v0_apply, r22 hR]
  exact sg_div _
theorem rc5 (b : Fin 8) (t : Fin 2048) (j : Fin 1024) : val_main_call5_v5 (F := Ideal) x0 x1 x2 (ix3 b t j) = I.sgp b t.val (7176 + j.val) := by
  rw [val_main_call5_v5_apply, val_main_call5_v4_apply, val_main_call5_v3_apply, val_main_call5_v2_apply, val_main_call5_v1_apply, val_main_call5_v0_apply, r26 hR]
  exact sg_div _
theorem r177 (b : Fin 8) (t : Fin 2048) (j : Fin 1024) : val_main_v177 (F := Ideal) x0 x1 x2 (ix3 b t j) = I.sgp b t.val (8200 + j.val) := by
  rw [val_main_v177_apply, val_main_v176_apply, val_main_v175_apply, val_main_v174_apply, val_main_v173_apply, val_main_v172_apply, r27 hR]
  exact sg_div _
theorem r184 (b : Fin 8) (t : Fin 2048) (j : Fin 1024) : val_main_v184 (F := Ideal) x0 x1 x2 (ix3 b t j) = I.sgp b t.val (9224 + j.val) := by
  rw [val_main_v184_apply, val_main_v183_apply, val_main_v182_apply, val_main_v181_apply, val_main_v180_apply, val_main_v179_apply, r28 hR]
  exact sg_div _
theorem r139 (b : Fin 8) (t : Fin 2048) (j : Fin 1024) : val_main_v139 (F := Ideal) x0 x1 x2 x3 x4 x5 (ix3 b t j) = I.hgc (wtR x5 x6 x7 x8 x9 x10) b t.val j := by
  obtain ⟨h, e, rfl⟩ : ∃ (h : Fin 4) (e : Fin 256), j = ⟨256 * h.val + e.val, by omega⟩ :=
    ⟨⟨j.val / 256, by omega⟩, ⟨j.val % 256, by omega⟩, Fin.ext (by show j.val = 256 * (j.val / 256) + j.val % 256; omega)⟩
  have hj : I.hgc (wtR x5 x6 x7 x8 x9 x10) b t.val ⟨256 * h.val + e.val, by omega⟩ = I.hg (wtR x5 x6 x7 x8 x9 x10) b t.val h e := by
    unfold In.hgc
    congr 1
    · apply Fin.ext; show (256 * h.val + e.val) / 256 = h.val; omega
    · apply Fin.ext; show (256 * h.val + e.val) % 256 = e.val; omega
  rw [hj, val_main_v139_apply, val_main_v137_apply, val_main_v130_apply, val_main_v126_apply, val_main_v138_apply, r129, r136 hR, rc4 hR, r22 hR]
  have this : idx_main_v126 (ix3 b t ⟨256 * h.val + e.val, by omega⟩) = ix4 b t h e := by
    apply idx_ext; intro a
    match a with
    | ⟨0, _⟩ => show ((b.val * 2048 + t.val) * 1024 + (256 * h.val + e.val)) / 2097152 = b.val; omega
    | ⟨1, _⟩ => show ((b.val * 2048 + t.val) * 1024 + (256 * h.val + e.val)) / 1024 % 2048 = t.val; omega
    | ⟨2, _⟩ => show ((b.val * 2048 + t.val) * 1024 + (256 * h.val + e.val)) / 256 % 4 = h.val; omega
    | ⟨3, _⟩ => show ((b.val * 2048 + t.val) * 1024 + (256 * h.val + e.val)) % 256 = e.val; omega
  rw [this, r125 hR]; rfl
omit hR in
theorem r140 (k j : Fin 1024) : val_main_v140 (F := Ideal) x7 (ix2 k j) = x7 (ix3 0 k j) := by
  rw [val_main_v140_apply]
  congr 1
  apply idx_ext; intro a
  match a with
  | ⟨0, _⟩ => rfl
  | ⟨1, _⟩ => show (k.val * 1024 + j.val) / 1024 % 1024 = k.val; omega
  | ⟨2, _⟩ => show (k.val * 1024 + j.val) % 1024 = j.val; omega
omit hR in
theorem r170 (k j : Fin 1024) : val_main_v170 (F := Ideal) x8 (ix2 k j) = x8 (ix3 0 k j) := by
  rw [val_main_v170_apply]
  congr 1
  apply idx_ext; intro a
  match a with
  | ⟨0, _⟩ => rfl
  | ⟨1, _⟩ => show (k.val * 1024 + j.val) / 1024 % 1024 = k.val; omega
  | ⟨2, _⟩ => show (k.val * 1024 + j.val) % 1024 = j.val; omega
omit hR in
theorem r187 (k j : Fin 1024) : val_main_v187 (F := Ideal) x9 (ix2 k j) = x9 (ix3 0 k j) := by
  rw [val_main_v187_apply]
  congr 1
  apply idx_ext; intro a
  match a with
  | ⟨0, _⟩ => rfl
  | ⟨1, _⟩ => show (k.val * 1024 + j.val) / 1024 % 1024 = k.val; omega
  | ⟨2, _⟩ => show (k.val * 1024 + j.val) % 1024 = j.val; omega
theorem r141 (b : Fin 8) (t : Fin 2048) (j : Fin 1024) : val_main_v141 (F := Ideal) x0 x1 x2 x3 x4 x5 x7 (ix3 b t j) = ∑ k, I.hgc (wtR x5 x6 x7 x8 x9 x10) b t.val k * (wtR x5 x6 x7 x8 x9 x10).wpm k j := by
  rw [val_main_v141_apply]
  refine Finset.sum_congr rfl fun k _ => ?_
  have e1 : lidx_main_v141 (ix3 b t j) k = ix3 b t k := by
    apply idx_ext; intro a
    match a with
    | ⟨0, _⟩ => rfl
    | ⟨1, _⟩ => rfl
    | ⟨2, _⟩ => rfl
  have e2 : ridx_main_v141 (ix3 b t j) k = ix2 k j := by
    apply idx_ext; intro a
    match a with
    | ⟨0, _⟩ => rfl
    | ⟨1, _⟩ => rfl
  rw [e1, e2, r140, r139 (x6 := x6) (x7 := x7) (x8 := x8) (x9 := x9) (x10 := x10) hR]; rfl
theorem r142 (b : Fin 8) (t : Fin 2048) (j : Fin 1024) : val_main_v142 (F := Ideal) x0 x1 x2 (ix3 b t j) = I.u b t.val j := by
  rw [val_main_v142_apply, r24 hR, r25 hR]; rfl
/-- The padded rows: two zero rows, then the convolution's input. -/
theorem r145 (b : Fin 8) (p : Fin 2050) (j : Fin 1024) : val_main_v145 (F := Ideal) x0 x1 x2 (ix3 b p j) = if 2 ≤ p.val then I.u b (p.val - 2) j else 0 := by
  have e : val_main_v145 (F := Ideal) x0 x1 x2 (ix3 b p j) = if h : p.val < 2 then val_main_v144 (F := Ideal)  (ix3 b ⟨p.val, h⟩ j) else val_main_v142 (F := Ideal) x0 x1 x2 (ix3 b ⟨p.val - 2, by omega⟩ j) := by
    unfold val_main_v145
    generalize val_main_v144 (F := Ideal)  = y
    generalize val_main_v142 (F := Ideal) x0 x1 x2 = z
    pointwise
  rw [e]
  by_cases h : p.val < 2
  · rw [dif_pos h, if_neg (by omega), val_main_v144_apply]; exact zero_val
  · rw [dif_neg h, if_pos (by omega), r142 hR]
omit hR in
theorem r150 (b : Fin 8) (t : Fin 2048) (j : Fin 1024) : val_main_v150 (F := Ideal) x6 (ix3 b t j) = x6 (ix3 0 0 j) := by
  rw [val_main_v150_apply, val_main_v149_apply, val_main_v147_apply, val_main_v146_apply, val_main_v143_apply]
  congr 1
  apply idx_ext; intro a
  match a with
  | ⟨0, _⟩ => rfl
  | ⟨1, _⟩ => show (0 * 1024 + j.val % 1024) / 1024 % 3 = 0; omega
  | ⟨2, _⟩ => show (0 * 1024 + j.val % 1024) % 1024 = j.val; omega
omit hR in
theorem r156 (b : Fin 8) (t : Fin 2048) (j : Fin 1024) : val_main_v156 (F := Ideal) x6 (ix3 b t j) = x6 (ix3 0 1 j) := by
  rw [val_main_v156_apply, val_main_v155_apply, val_main_v153_apply, val_main_v152_apply, val_main_v143_apply]
  congr 1
  apply idx_ext; intro a
  match a with
  | ⟨0, _⟩ => rfl
  | ⟨1, _⟩ => show ((1 + 0) * 1024 + j.val % 1024) / 1024 % 3 = 1; omega
  | ⟨2, _⟩ => show ((1 + 0) * 1024 + j.val % 1024) % 1024 = j.val; omega
omit hR in
theorem r163 (b : Fin 8) (t : Fin 2048) (j : Fin 1024) : val_main_v163 (F := Ideal) x6 (ix3 b t j) = x6 (ix3 0 2 j) := by
  rw [val_main_v163_apply, val_main_v162_apply, val_main_v160_apply, val_main_v159_apply, val_main_v143_apply]
  congr 1
  apply idx_ext; intro a
  match a with
  | ⟨0, _⟩ => rfl
  | ⟨1, _⟩ => show ((2 + 0) * 1024 + j.val % 1024) / 1024 % 3 = 2; omega
  | ⟨2, _⟩ => show ((2 + 0) * 1024 + j.val % 1024) % 1024 = j.val; omega
theorem r148 (b : Fin 8) (t : Fin 2048) (j : Fin 1024) : val_main_v148 (F := Ideal) x0 x1 x2 (ix3 b t j) = I.ub b t.val 2 j := by
  rw [val_main_v148_apply]
  have this : idx_main_v148 (ix3 b t j) = ix3 b (⟨t.val, by omega⟩ : Fin 2050) j := by
    apply idx_ext; intro a
    match a with
    | ⟨0, _⟩ => rfl
    | ⟨1, _⟩ => rfl
    | ⟨2, _⟩ => rfl
  rw [this, r145 hR]
  rfl
theorem r154 (b : Fin 8) (t : Fin 2048) (j : Fin 1024) : val_main_v154 (F := Ideal) x0 x1 x2 (ix3 b t j) = I.ub b t.val 1 j := by
  rw [val_main_v154_apply]
  have this : idx_main_v154 (ix3 b t j) = ix3 b (⟨1 + t.val, by omega⟩ : Fin 2050) j := by
    apply idx_ext; intro a
    match a with
    | ⟨0, _⟩ => rfl
    | ⟨1, _⟩ => rfl
    | ⟨2, _⟩ => rfl
  rw [this, r145 hR]
  unfold In.ub
  show (if 2 ≤ 1 + t.val then I.u b (1 + t.val - 2) j else 0) = _
  by_cases h : 1 ≤ t.val
  · rw [if_pos (by omega), if_pos h, show 1 + t.val - 2 = t.val - 1 by omega]
  · rw [if_neg (by omega), if_neg h]
theorem r161 (b : Fin 8) (t : Fin 2048) (j : Fin 1024) : val_main_v161 (F := Ideal) x0 x1 x2 (ix3 b t j) = I.u b t.val j := by
  rw [val_main_v161_apply]
  have this : idx_main_v161 (ix3 b t j) = ix3 b (⟨2 + t.val, by omega⟩ : Fin 2050) j := by
    apply idx_ext; intro a
    match a with
    | ⟨0, _⟩ => rfl
    | ⟨1, _⟩ => rfl
    | ⟨2, _⟩ => rfl
  rw [this, r145 hR]
  show (if 2 ≤ 2 + t.val then I.u b (2 + t.val - 2) j else 0) = _
  rw [if_pos (by omega), show 2 + t.val - 2 = t.val by omega]
theorem r165 (b : Fin 8) (t : Fin 2048) (j : Fin 1024) : val_main_v165 (F := Ideal) x0 x1 x2 x6 (ix3 b t j) = I.cv (wtR x5 x6 x7 x8 x9 x10) b t.val j := by
  rw [val_main_v165_apply, val_main_v158_apply, val_main_v151_apply, val_main_v157_apply, val_main_v164_apply, r150, r156, r163, r148 hR, r154 hR, r161 hR]; rfl
theorem r169 (b : Fin 8) (t : Fin 2048) (j : Fin 1024) : val_main_v169 (F := Ideal) x0 x1 x2 x6 (ix3 b t j) = I.yc (wtR x5 x6 x7 x8 x9 x10) b t.val j := by
  rw [val_main_v169_apply, val_main_v168_apply, val_main_v167_apply, rc5 hR, r26 hR, r23 hR, r165 (x5 := x5) (x7 := x7) (x8 := x8) (x9 := x9) (x10 := x10) hR]; rfl
theorem r171 (b : Fin 8) (t : Fin 2048) (j : Fin 1024) : val_main_v171 (F := Ideal) x0 x1 x2 x6 x8 (ix3 b t j) = ∑ k, I.yc (wtR x5 x6 x7 x8 x9 x10) b t.val k * (wtR x5 x6 x7 x8 x9 x10).wpc k j := by
  rw [val_main_v171_apply]
  refine Finset.sum_congr rfl fun k _ => ?_
  have e1 : lidx_main_v171 (ix3 b t j) k = ix3 b t k := by
    apply idx_ext; intro a
    match a with
    | ⟨0, _⟩ => rfl
    | ⟨1, _⟩ => rfl
    | ⟨2, _⟩ => rfl
  have e2 : ridx_main_v171 (ix3 b t j) k = ix2 k j := by
    apply idx_ext; intro a
    match a with
    | ⟨0, _⟩ => rfl
    | ⟨1, _⟩ => rfl
  rw [e1, e2, r170, r169 (x5 := x5) (x7 := x7) (x8 := x8) (x9 := x9) (x10 := x10) hR]; rfl
theorem r186 (b : Fin 8) (t : Fin 2048) (j : Fin 1024) : val_main_v186 (F := Ideal) x0 x1 x2 x3 x4 x5 x6 x7 x8 (ix3 b t j) = I.mix (wtR x5 x6 x7 x8 x9 x10) b t.val j := by
  rw [val_main_v186_apply, val_main_v178_apply, val_main_v185_apply, r177 hR, r184 hR, r141 (x6 := x6) (x8 := x8) (x9 := x9) (x10 := x10) hR, r171 (x5 := x5) (x7 := x7) (x9 := x9) (x10 := x10) hR]; rfl
theorem r188 (b : Fin 8) (t : Fin 2048) (j : Fin 1024) : val_main_v188 (F := Ideal) x0 x1 x2 x3 x4 x5 x6 x7 x8 x9 (ix3 b t j) = ∑ k, I.mix (wtR x5 x6 x7 x8 x9 x10) b t.val k * (wtR x5 x6 x7 x8 x9 x10).wo k j := by
  rw [val_main_v188_apply]
  refine Finset.sum_congr rfl fun k _ => ?_
  have e1 : lidx_main_v188 (ix3 b t j) k = ix3 b t k := by
    apply idx_ext; intro a
    match a with
    | ⟨0, _⟩ => rfl
    | ⟨1, _⟩ => rfl
    | ⟨2, _⟩ => rfl
  have e2 : ridx_main_v188 (ix3 b t j) k = ix2 k j := by
    apply idx_ext; intro a
    match a with
    | ⟨0, _⟩ => rfl
    | ⟨1, _⟩ => rfl
  rw [e1, e2, r187, r186 (x9 := x9) (x10 := x10) hR]; rfl
theorem r189 (b : Fin 8) (t : Fin 2048) (j : Fin 1024) : val_main_v189 (F := Ideal) x0 x1 x2 x3 x4 x5 x6 x7 x8 x9 (ix3 b t j) = I.o (wtR x5 x6 x7 x8 x9 x10) b t.val j := by
  rw [val_main_v189_apply, hR.x, r188 (x10 := x10) hR]; rfl
theorem r191 (b : Fin 8) (t : Fin 2048) : val_main_v191 (F := Ideal) x0 x1 x2 x3 x4 x5 x6 x7 x8 x9 (ix2 b t) = ∑ x, I.o (wtR x5 x6 x7 x8 x9 x10) b t.val x * I.o (wtR x5 x6 x7 x8 x9 x10) b t.val x := by
  rw [val_main_v191_apply]
  refine (congrArg (· + _) zero_val).trans ((zero_add _).trans ?_)
  refine Finset.sum_congr rfl fun x _ => ?_
  have this : idx_main_v191 (ix2 b t) x = ix3 b t x := by
    apply idx_ext; intro a
    match a with
    | ⟨0, _⟩ => rfl
    | ⟨1, _⟩ => rfl
    | ⟨2, _⟩ => rfl
  rw [this, val_main_v190_apply, r189 (x10 := x10) hR]; rfl
omit hR in
theorem r201 (b : Fin 8) (t : Fin 2048) (j : Fin 1024) : val_main_v201 (F := Ideal) x10 (ix3 b t j) = x10 (ix1 j) := by
  rw [val_main_v201_apply, val_main_v200_apply]
  congr 1
  apply idx_ext; intro a
  match a with
  | ⟨0, _⟩ => rfl
/-- The layer's output. -/
theorem r202 (b : Fin 8) (t : Fin 2048) (j : Fin 1024) : val_main_v202 (F := Ideal) x0 x1 x2 x3 x4 x5 x6 x7 x8 x9 x10 (ix3 b t j) = I.y (wtR x5 x6 x7 x8 x9 x10) b t.val j := by
  rw [val_main_v202_apply, val_main_v199_apply, r189 (x10 := x10) hR, val_main_v198_apply, val_main_v197_apply, val_main_v196_apply, val_main_v194_apply, val_main_v192_apply, val_main_v193_apply, val_main_v195_apply, r201]
  have this : idx_main_v192 (idx_main_v198 (ix3 b t j)) = ix2 b t := by
    apply idx_ext; intro a
    match a with
    | ⟨0, _⟩ => rfl
    | ⟨1, _⟩ => rfl
  rw [this, r191 (x10 := x10) hR]; rfl
/-- The convolution's last two rows. -/
theorem r203 (b : Fin 8) (k : Fin 2) (j : Fin 1024) : val_main_v203 (F := Ideal) x0 x1 x2 (ix4 0 b k j) = I.u b (2046 + k.val) j := by
  rw [val_main_v203_apply, val_main_v166_apply]
  have this : idx_main_v166 (idx_main_v203 (ix4 0 b k j)) = ix3 b (⟨2048 + k.val, by omega⟩ : Fin 2050) j := by
    apply idx_ext; intro a
    match a with
    | ⟨0, _⟩ => rfl
    | ⟨1, _⟩ => rfl
    | ⟨2, _⟩ => rfl
  rw [this, r145 hR]
  show (if 2 ≤ 2048 + k.val then I.u b (2048 + k.val - 2) j else 0) = _
  rw [if_pos (by omega), show 2048 + k.val - 2 = 2046 + k.val by omega]

end Cert.ReferenceIdeal.Read

end
-- ==== Proof.Pre.lean ====
/- Finite arguments are reals, and the results of both programs are those of these reals. -/
module

public import proofs.«01_k».proof.Defs
public import proofs.«01_k».proof.Proof.Blocks
public import proofs.«01_k».proof.Proof.Ref

@[expose] public section

set_option maxRecDepth 16384

noncomputable section

namespace Cert.Real

open Idealize.ShloMosaic Idealize.ShloMosaic.TcCoe Idealize.ShloMosaic.Tactic
open Cert.Rec

theorem facts : Cert.Pre_finite.Facts := ⟨by decide, by decide, by decide, by decide⟩

theorem real_of_lt (x : EReal) (h : BitVec.ofBool (decide (max x (-x) < ⊤)) = 1#1) : x = ((x.toReal : ℝ) : EReal) := by
  have h' : max x (-x) < ⊤ := by
    by_contra hn
    rw [decide_eq_false hn] at h
    exact absurd h (by decide)
  have h1 : x ≠ ⊤ := fun e => by rw [e] at h'; simp at h'
  have h2 : x ≠ ⊥ := fun e => by rw [e] at h'; simp at h'
  exact (EReal.coe_toReal h1 h2).symm

theorem top_val : (Ideal.ofBits .f32 0x7F800000#32 : EReal) = ⊤ := by simp [Ideal.ofBits, Ideal.ieee]

/-- The reals of the arguments. -/
def inOf (a0 : Vec Ideal Cert.KernelIdeal.S8x2048x1024 .f32) (a1 : Vec Ideal Cert.KernelIdeal.S1x1024 .f32) (a2 : Vec Ideal Cert.KernelIdeal.S1x1024x10248 .f32)
    (a3 a4 : Vec Ideal Cert.KernelIdeal.S1x4 .f32) : In where
  x b i k := EReal.toReal (a0 (ix3 b ⟨i % 2048, Nat.mod_lt _ (by decide)⟩ k))
  nw k := EReal.toReal (a1 (ix2 0 k))
  w k j := EReal.toReal (a2 (ix3 0 k ⟨j % 10248, Nat.mod_lt _ (by decide)⟩))
  bi h := EReal.toReal (a3 (ix2 0 h))
  bf h := EReal.toReal (a4 (ix2 0 h))

section
variable (a0 : Vec Ideal Cert.KernelIdeal.S8x2048x1024 .f32) (a1 : Vec Ideal Cert.KernelIdeal.S1x1024 .f32) (a2 : Vec Ideal Cert.KernelIdeal.S1x1024x10248 .f32)
    (a3 a4 : Vec Ideal Cert.KernelIdeal.S1x4 .f32)

/-- Every element of the five arguments is a real. -/
structure Fin5 : Prop where
  h0 : ∀ i, a0 i = ((EReal.toReal (a0 i) : ℝ) : EReal)
  h1 : ∀ i, a1 i = ((EReal.toReal (a1 i) : ℝ) : EReal)
  h2 : ∀ i, a2 i = ((EReal.toReal (a2 i) : ℝ) : EReal)
  h3 : ∀ i, a3 i = ((EReal.toReal (a3 i) : ℝ) : EReal)
  h4 : ∀ i, a4 i = ((EReal.toReal (a4 i) : ℝ) : EReal)

variable {a0 a1 a2 a3 a4} (hF : Fin5 a0 a1 a2 a3 a4)
include hF

theorem vx (b : Fin 8) (i : Fin 2048) (k : Fin 1024) : a0 (ix3 b i k) = (((inOf a0 a1 a2 a3 a4).x b i.val k : ℝ) : EReal) := by
  have : (⟨i.val % 2048, Nat.mod_lt _ (by decide)⟩ : Fin 2048) = i := Fin.ext (Nat.mod_eq_of_lt i.isLt)
  show a0 (ix3 b i k) = ((EReal.toReal (a0 (ix3 b ⟨i.val % 2048, _⟩ k)) : ℝ) : EReal)
  rw [this]; exact hF.h0 _
theorem vw (k : Fin 1024) (j : Fin 10248) : a2 (ix3 0 k j) = (((inOf a0 a1 a2 a3 a4).w k j.val : ℝ) : EReal) := by
  have : (⟨j.val % 10248, Nat.mod_lt _ (by decide)⟩ : Fin 10248) = j := Fin.ext (Nat.mod_eq_of_lt j.isLt)
  show a2 (ix3 0 k j) = ((EReal.toReal (a2 (ix3 0 k ⟨j.val % 10248, _⟩)) : ℝ) : EReal)
  rw [this]; exact hF.h2 _
theorem rargs : Cert.ReferenceIdeal.Read.RArgs (inOf a0 a1 a2 a3 a4) a0 a1 a2 a3 a4 :=
  ⟨vx hF, fun k => hF.h1 _, vw hF, fun h => hF.h3 _, fun h => hF.h4 _⟩
end

open Cert.KernelIdeal in
/-- The reals of a memory's arguments. -/
def inM (m : (ℓ : Loc nD τ sig) → Buf (Elt Ideal) ℓ) (c : Dev nD) : In :=
  inOf (m ((c : Thread nD τ).loc main_arg0)) (m ((c : Thread nD τ).loc main_arg1)) (m ((c : Thread nD τ).loc main_arg2)) (m ((c : Thread nD τ).loc main_arg3)) (m ((c : Thread nD τ).loc main_arg4))

open Cert.KernelIdeal in
theorem fin5 (m : (ℓ : Loc nD τ sig) → Buf (Elt Ideal) ℓ) (hp : Cert.Pre_KernelIdeal_finite (hPre_finite := facts) m) (c : Dev nD) :
    Fin5 (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨p0, p1, p2, p3, p4⟩ := hp c
  refine ⟨fun i => real_of_lt _ ?_, fun i => real_of_lt _ ?_, fun i => real_of_lt _ ?_, fun i => real_of_lt _ ?_, fun i => real_of_lt _ ?_⟩
  · rw [← top_val]; exact congrFun p0 i
  · rw [← top_val]; exact congrFun p1 i
  · rw [← top_val]; exact congrFun p2 i
  · rw [← top_val]; exact congrFun p3 i
  · rw [← top_val]; exact congrFun p4 i

open Cert.KernelIdeal in
theorem args (m : (ℓ : Loc nD τ sig) → Buf (Elt Ideal) ℓ) (hp : Cert.Pre_KernelIdeal_finite (hPre_finite := facts) m) (c : Dev nD) : Cert.KernelIdeal.Hand.Args m c (inM m c) := by
  have hF := fin5 m hp c
  exact ⟨vx hF, fun k => hF.h1 _, vw hF, fun h => hF.h3 _, fun h => hF.h4 _⟩

end Cert.Real

end
-- ==== Proof.lean ====
/- The proof of the claim: the frames of the kernel, of its idealization and of the reference, the idealization, and the
   equality of the output, the recurrent state and the convolution rows of both programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Frame
public import proofs.«01_k».proof.Proof.Bits.Frame
public import proofs.«01_k».proof.Proof.OutsY
public import proofs.«01_k».proof.Proof.RefY
public import proofs.«01_k».proof.Proof.Pre
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem
open Cert.Real

/-- The reference runs, leaves its arguments as they were and has no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

section
open Cert.ReferenceIdeal Cert.ReferenceIdeal.Read

variable (m' : (ℓ : Loc nD τ sig) → Buf (Elt Ideal) ℓ) (c : Dev nD) {I : Cert.Rec.In}
  (hR : RArgs I (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)))
include hR
theorem ref_c : val_main_v69 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = Cert.KernelIdeal.Hand.outC I := by
  funext i
  obtain ⟨b, h, e, d, rfl⟩ : ∃ (b : Fin 8) (h : Fin 4) (e : Fin 256) (d : Fin 128), i = ix5 0 b h e d := by
    refine ⟨i 1, i 2, i 3, i 4, ?_⟩
    funext a
    match a with
    | ⟨0, _⟩ => exact Subsingleton.elim (α := Fin 1) _ _
    | ⟨1, _⟩ => rfl
    | ⟨2, _⟩ => rfl
    | ⟨3, _⟩ => rfl
    | ⟨4, _⟩ => rfl
  exact r69 hR b h e d
theorem ref_n : val_main_v70 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = Cert.KernelIdeal.Hand.outN I := by
  funext i
  obtain ⟨b, h, d, rfl⟩ : ∃ (b : Fin 8) (h : Fin 4) (d : Fin 128), i = ix4 0 b h d := by
    refine ⟨i 1, i 2, i 3, ?_⟩
    funext a
    match a with
    | ⟨0, _⟩ => exact Subsingleton.elim (α := Fin 1) _ _
    | ⟨1, _⟩ => rfl
    | ⟨2, _⟩ => rfl
    | ⟨3, _⟩ => rfl
  exact r70 hR b h d
theorem ref_m : val_main_v72 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = Cert.KernelIdeal.Hand.outM I := by
  funext i
  obtain ⟨h, b, rfl⟩ : ∃ (h : Fin 4) (b : Fin 8), i = ix3 0 h b := by
    refine ⟨i 1, i 2, ?_⟩
    funext a
    match a with
    | ⟨0, _⟩ => exact Subsingleton.elim (α := Fin 1) _ _
    | ⟨1, _⟩ => rfl
    | ⟨2, _⟩ => rfl
  exact r72 hR b h
theorem ref_y : val_main_v202 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) = Cert.KernelIdeal.Hand.outY I (wtR (m' ((c.tc : Thread nD τ).loc main_arg5)) (m' ((c.tc : Thread nD τ).loc main_arg6)) (m' ((c.tc : Thread nD τ).loc main_arg7))
    (m' ((c.tc : Thread nD τ).loc main_arg8)) (m' ((c.tc : Thread nD τ).loc main_arg9)) (m' ((c.tc : Thread nD τ).loc main_arg10))) := by
  funext i
  obtain ⟨b, t, j, rfl⟩ : ∃ (b : Fin 8) (t : Fin 2048) (j : Fin 1024), i = ix3 b t j := by
    refine ⟨i 0, i 1, i 2, ?_⟩
    funext a
    match a with
    | ⟨0, _⟩ => rfl
    | ⟨1, _⟩ => rfl
    | ⟨2, _⟩ => rfl
  exact r202 hR b t j
theorem ref_cv : val_main_v203 (F := Ideal) (m' ((c.tc : Thread nD τ).loc main_arg0)) (m' ((c.tc : Thread nD τ).loc main_arg1)) (m' ((c.tc : Thread nD τ).loc main_arg2)) = Cert.KernelIdeal.Hand.outCv I := by
  funext i
  obtain ⟨b, k, j, rfl⟩ : ∃ (b : Fin 8) (k : Fin 2) (j : Fin 1024), i = ix4 0 b k j := by
    refine ⟨i 1, i 2, i 3, ?_⟩
    funext a
    match a with
    | ⟨0, _⟩ => exact Subsingleton.elim (α := Fin 1) _ _
    | ⟨1, _⟩ => rfl
    | ⟨2, _⟩ => rfl
    | ⟨3, _⟩ => rfl
  exact r203 hR b k j
end

/-- Both programs end with the same output, memory, normalizer, stabilizer and convolution rows. -/
theorem equal : Cert.algebraic_KernelIdeal_ReferenceIdeal_pre_finite (hKernelIdeal := Cert.KernelIdeal.Gen.facts) (hReferenceIdeal := Cert.ReferenceIdeal.Gen.facts)
    (hPre_finite := facts) := by
  intro m g m' g' hp he
  refine ⟨fun c => Cert.KernelIdeal.Hand.outY (inM m c) (Cert.KernelIdeal.Hand.wtM m c), fun c => Cert.KernelIdeal.Hand.outC (inM m c), fun c => Cert.KernelIdeal.Hand.outN (inM m c), fun c => Cert.KernelIdeal.Hand.outM (inM m c),
    fun c => Cert.KernelIdeal.Hand.outCv (inM m c), ?_, ?_⟩
  · refine (θ_run Cert.KernelIdeal.defs _ _).mono (fun r h c => ?_)
      (θ_run_and (Cert.KernelIdeal.Hand.values5 m g (inM m) (args m hp)) (Cert.KernelIdeal.Hand.unchanged (F := Ideal) m g))
    obtain ⟨h0, h1, h2, h3, h4⟩ := h.1 c
    exact ⟨h0, h1, h2, h3, h4, h.2 c⟩
  · refine (θ_run Cert.ReferenceIdeal.defs _ _).mono (fun r h c => ?_) (Cert.ReferenceIdeal.Value.run (F := Ideal) m' g')
    obtain ⟨h0, h1, h2, h3, h4, h5⟩ := h c
    obtain ⟨e0, e1, e2, e3, e4, e5, e6, e7, e8, e9, e10⟩ := he c
    have hR := rargs (fin5 m hp c)
    rw [← e0, ← e1, ← e2, ← e3, ← e4] at hR
    have hI : inOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = inM m c := by
      rw [e0, e1, e2, e3, e4]; rfl
    rw [hI] at hR
    have hU : Cert.ReferenceIdeal.Read.wtR (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = Cert.KernelIdeal.Hand.wtM m c := by
      rw [e5, e6, e7, e8, e9, e10]; rfl
    have hy := ref_y m' c hR
    rw [hU] at hy
    exact ⟨(h0.trans (Cert.ReferenceIdeal.Read.val_main_v202_eq _)).trans hy, (h1.trans (Cert.ReferenceIdeal.Read.val_main_v69_eq _)).trans (ref_c m' c hR), (h2.trans (Cert.ReferenceIdeal.Read.val_main_v70_eq _)).trans (ref_n m' c hR),
      (h3.trans (Cert.ReferenceIdeal.Read.val_main_v72_eq _)).trans (ref_m m' c hR), (h4.trans (Cert.ReferenceIdeal.Read.val_main_v203_eq _)).trans (ref_cv m' c hR), h5⟩

theorem claim : Cert.Claim :=
  ⟨Cert.Kernel.Gen.facts, Cert.KernelIdeal.Gen.facts, Cert.ReferenceIdeal.Gen.facts, facts, fun m ρ _ => Cert.Kernel.Hand.frame m ρ,
    fun m ρ _ => Cert.KernelIdeal.Hand.frame m ρ, fun m ρ _ => Cert.KernelIdeal.Hand.frame m ρ, frame_r, fun m ρ _ => frame_r m ρ trivial,
    IdealRules.named_const.statement Cert.KernelIdeal.κ "mask" .f32 0xF149F2CA#32 ⊥ rfl, equal⟩

end Cert.Proof

end
